-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v67)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v67) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v0) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v33) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v30) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hOut : Cert.Out.Facts) (hOutIdeal : Cert.OutIdeal.Facts) (hOutRefIdeal : Cert.OutRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Out (hOut := hOut)
    ∧ quiescent_OutIdeal (hOutIdeal := hOutIdeal)
    ∧ quiescent_OutRefIdeal (hOutRefIdeal := hOutRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Out_OutIdeal
    ∧ algebraic_OutIdeal_OutRefIdeal (hOutIdeal := hOutIdeal) (hOutRefIdeal := hOutRefIdeal)
-- ==== Pre_finite.lean ====
abbrev S8x4096x512 : Shape := ⟨3, ![8, 4096, 512]⟩
abbrev S8x4096x8 : Shape := ⟨3, ![8, 4096, 8]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x4096x8 : S_.BroadcastsInDim S8x4096x8 (![] : Fin 0 → Fin S8x4096x8.rank)
  reducesTo_S8x4096x8_S_d0_1_2 : S8x4096x8.ReducesTo [0, 1, 2] S_

variable [Facts]

def fn {F : FTy → Type} [FloatOps F] (main_arg0 : FVec F S8x4096x512 .f32) (main_arg1 : FVec F S8x4096x512 .f32) (main_arg2 : FVec F S8x4096x512 .f32) (main_arg3 : FVec F S8x4096x8 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  let main_v9 : FVec F S8x4096x8 .f32 := Host.absf main_arg3
  let main_cst_2 : FVec F S_ .f32 := constant S_ .f32 0x7F800000#32
  let main_v10 : FVec F S8x4096x8 .f32 := broadcastInDim S8x4096x8 ![] bcast_S_S8x4096x8 main_cst_2
  let main_v11 : IVec S8x4096x8 1 := cmpf .olt main_v9 main_v10
  let main_c_3 : IVec S_ 1 := constantI S_ 1 1#1
  let main_v12 : IVec S_ 1 := (fun x v => Host.reduce IntOp.andi x v reducesTo_S8x4096x8_S_d0_1_2 h_S_) main_v11 main_c_3
  let main_v13 : IVec S_ 1 := andi main_v8 main_v12
  main_v13
-- ==== Attn.lean ====
abbrev S8x4096x512 : Shape := ⟨3, ![8, 4096, 512]⟩
abbrev S8x4096x8 : Shape := ⟨3, ![8, 4096, 8]⟩
abbrev S_ : Shape := ⟨0, ![]⟩
abbrev S8x512x4096 : Shape := ⟨3, ![8, 512, 4096]⟩
abbrev S8x4096x8x1 : Shape := ⟨4, ![8, 4096, 8, 1]⟩
abbrev S8x4096x8x16 : Shape := ⟨4, ![8, 4096, 8, 16]⟩
abbrev S8x4096x128 : Shape := ⟨3, ![8, 4096, 128]⟩
abbrev S1x512x128 : Shape := ⟨3, ![1, 512, 128]⟩
abbrev S1x4096x128 : Shape := ⟨3, ![1, 4096, 128]⟩
abbrev S1x128x4096 : Shape := ⟨3, ![1, 128, 4096]⟩
abbrev S2x1x512 : Shape := ⟨3, ![2, 1, 512]⟩
abbrev S2x128x512 : Shape := ⟨3, ![2, 128, 512]⟩
abbrev S512x128 : Shape := ⟨2, ![512, 128]⟩
abbrev S512x256 : Shape := ⟨2, ![512, 256]⟩
abbrev S256x512 : Shape := ⟨2, ![256, 512]⟩
abbrev S1x512 : Shape := ⟨2, ![1, 512]⟩
abbrev S1x1x512 : Shape := ⟨3, ![1, 1, 512]⟩
abbrev S128x512 : Shape := ⟨2, ![128, 512]⟩
abbrev S1x128x512 : Shape := ⟨3, ![1, 128, 512]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S1x128x256 : Shape := ⟨3, ![1, 128, 256]⟩
abbrev S128x256 : Shape := ⟨2, ![128, 256]⟩
abbrev S1x256x128 : Shape := ⟨3, ![1, 256, 128]⟩
abbrev S256x128 : Shape := ⟨2, ![256, 128]⟩

abbrev nBuf : Space → Nat
  | .hbm => 79
  | .vmem => 14
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x4096x8, .f32⟩
  | .hbm, ⟨4, _⟩ => ⟨S_, .f32⟩
  | .hbm, ⟨5, _⟩ => ⟨S8x4096x512, .f32⟩
  | .hbm, ⟨6, _⟩ => ⟨S8x4096x512, .f32⟩
  | .hbm, ⟨7, _⟩ => ⟨S_, .f32⟩
  | .hbm, ⟨8, _⟩ => ⟨S8x4096x512, .f32⟩
  | .hbm, ⟨9, _⟩ => ⟨S8x4096x512, .f32⟩
  | .hbm, ⟨10, _⟩ => ⟨S_, .f32⟩
  | .hbm, ⟨11, _⟩ => ⟨S8x4096x512, .f32⟩
  | .hbm, ⟨12, _⟩ => ⟨S8x4096x512, .f32⟩
  | .hbm, ⟨13, _⟩ => ⟨S8x4096x512, .f32⟩
  | .hbm, ⟨14, _⟩ => ⟨S8x4096x512, .bf16⟩
  | .hbm, ⟨15, _⟩ => ⟨S8x4096x512, .bf16⟩
  | .hbm, ⟨16, _⟩ => ⟨S8x512x4096, .f32⟩
  | .hbm, ⟨17, _⟩ => ⟨S8x512x4096, .bf16⟩
  | .hbm, ⟨18, _⟩ => ⟨S_, .f32⟩
  | .hbm, ⟨19, _⟩ => ⟨S8x4096x8, .f32⟩
  | .hbm, ⟨20, _⟩ => ⟨S8x4096x8, .f32⟩
  | .hbm, ⟨21, _⟩ => ⟨S_, .f32⟩
  | .hbm, ⟨22, _⟩ => ⟨S8x4096x8, .f32⟩
  | .hbm, ⟨23, _⟩ => ⟨S8x4096x8, .f32⟩
  | .hbm, ⟨24, _⟩ => ⟨S8x4096x8, .f32⟩
  | .hbm, ⟨25, _⟩ => ⟨S8x4096x8, .bf16⟩
  | .hbm, ⟨26, _⟩ => ⟨S8x4096x8, .f32⟩
  | .hbm, ⟨27, _⟩ => ⟨S8x4096x8, .f32⟩
  | .hbm, ⟨28, _⟩ => ⟨S8x4096x8, .bf16⟩
  | .hbm, ⟨29, _⟩ => ⟨S8x4096x8, .f32⟩
  | .hbm, ⟨30, _⟩ => ⟨S8x4096x8, .f32⟩
  | .hbm, ⟨31, _⟩ => ⟨S8x4096x8, .bf16⟩
  | .hbm, ⟨32, _⟩ => ⟨S8x4096x8, .f32⟩
  | .hbm, ⟨33, _⟩ => ⟨S_, .f32⟩
  | .hbm, ⟨34, _⟩ => ⟨S8x4096x8, .f32⟩
  | .hbm, ⟨35, _⟩ => ⟨S_, .f32⟩
  | .hbm, ⟨36, _⟩ => ⟨S8x4096x8, .f32⟩
  | .hbm, ⟨37, _⟩ => ⟨S8x4096x8x1, .f32⟩
  | .hbm, ⟨38, _⟩ => ⟨S8x4096x8x1, .f32⟩
  | .hbm, ⟨39, _⟩ => ⟨S8x4096x8x1, .f32⟩
  | .hbm, ⟨40, _⟩ => ⟨S8x4096x8x1, .f32⟩
  | .hbm, ⟨41, _⟩ => ⟨S8x4096x8x1, .f32⟩
  | .hbm, ⟨42, _⟩ => ⟨S8x4096x8x1, .f32⟩
  | .hbm, ⟨43, _⟩ => ⟨S8x4096x8x1, .f32⟩
  | .hbm, ⟨44, _⟩ => ⟨S8x4096x8x1, .f32⟩
  | .hbm, ⟨45, _⟩ => ⟨S8x4096x8x1, .f32⟩
  | .hbm, ⟨46, _⟩ => ⟨S8x4096x8x1, .f32⟩
  | .hbm, ⟨47, _⟩ => ⟨S8x4096x8x1, .f32⟩
  | .hbm, ⟨48, _⟩ => ⟨S8x4096x8x1, .f32⟩
  | .hbm, ⟨49, _⟩ => ⟨S8x4096x8x1, .f32⟩
  | .hbm, ⟨50, _⟩ => ⟨S8x4096x8x1, .f32⟩
  | .hbm, ⟨51, _⟩ => ⟨S8x4096x8x1, .f32⟩
  | .hbm, ⟨52, _⟩ => ⟨S8x4096x8x1, .f32⟩
  | .hbm, ⟨53, _⟩ => ⟨S8x4096x8x16, .f32⟩
  | .hbm, ⟨54, _⟩ => ⟨S8x4096x128, .f32⟩
  | .hbm, ⟨55, _⟩ => ⟨S8x4096x128, .bf16⟩
  | .hbm, ⟨56, _⟩ => ⟨S8x4096x8, .f32⟩
  | .hbm, ⟨57, _⟩ => ⟨S8x4096x8, .f32⟩
  | .hbm, ⟨58, _⟩ => ⟨S8x4096x8, .f32⟩
  | .hbm, ⟨59, _⟩ => ⟨S8x4096x8x1, .f32⟩
  | .hbm, ⟨60, _⟩ => ⟨S8x4096x8x1, .f32⟩
  | .hbm, ⟨61, _⟩ => ⟨S8x4096x8x1, .f32⟩
  | .hbm, ⟨62, _⟩ => ⟨S8x4096x8x1, .f32⟩
  | .hbm, ⟨63, _⟩ => ⟨S8x4096x8x1, .f32⟩
  | .hbm, ⟨64, _⟩ => ⟨S8x4096x8x1, .f32⟩
  | .hbm, ⟨65, _⟩ => ⟨S8x4096x8x1, .f32⟩
  | .hbm, ⟨66, _⟩ => ⟨S8x4096x8x1, .f32⟩
  | .hbm, ⟨67, _⟩ => ⟨S8x4096x8x1, .f32⟩
  | .hbm, ⟨68, _⟩ => ⟨S8x4096x8x1, .f32⟩
  | .hbm, ⟨69, _⟩ => ⟨S8x4096x8x1, .f32⟩
  | .hbm, ⟨70, _⟩ => ⟨S8x4096x8x1, .f32⟩
  | .hbm, ⟨71, _⟩ => ⟨S8x4096x8x1, .f32⟩
  | .hbm, ⟨72, _⟩ => ⟨S8x4096x8x1, .f32⟩
  | .hbm, ⟨73, _⟩ => ⟨S8x4096x8x1, .f32⟩
  | .hbm, ⟨74, _⟩ => ⟨S8x4096x8x1, .f32⟩
  | .hbm, ⟨75, _⟩ => ⟨S8x4096x8x16, .f32⟩
  | .hbm, ⟨76, _⟩ => ⟨S8x4096x128, .f32⟩
  | .hbm, ⟨77, _⟩ => ⟨S8x4096x128, .bf16⟩
  | .hbm, ⟨78, _⟩ => ⟨S8x4096x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x128x4096, .bf16⟩
  | .local _ .vmem, ⟨9, _⟩ => ⟨S1x128x4096, .bf16⟩
  | .local _ .vmem, ⟨10, _⟩ => ⟨S1x512x128, .bf16⟩
  | .local _ .vmem, ⟨11, _⟩ => ⟨S1x512x128, .bf16⟩
  | .local _ .vmem, ⟨12, _⟩ => ⟨S2x1x512, .f32⟩
  | .local _ .vmem, ⟨13, _⟩ => ⟨S2x128x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

@[reducible] def k0_t1_loop (i : grid0.Coords) : Scf.Loop 32 :=
  let c0_i32_40 : BitVec 32 := 0#32
  let arg2 : BitVec 32 := BitVec.ofNat 32 (i 2).val
  let c0_i32_32 : BitVec 32 := 0#32
  let v64 : BitVec 1 := Scalar.cmpi .sgt arg2 c0_i32_32
  let v65 : BitVec 32 := Scalar.extui v64
  let c0_i32_33 : BitVec 32 := 0#32
  let v66 : BitVec 1 := Scalar.cmpi .slt arg2 c0_i32_33
  let v67 : BitVec 32 := Scalar.extui v66
  let v68 : BitVec 32 := Scalar.subi v65 v67
  let c2_i32_31 : BitVec 32 := 2#32
  let c0_i32_34 : BitVec 32 := 0#32
  let v69 : BitVec 1 := Scalar.cmpi .sgt c2_i32_31 c0_i32_34
  let v70 : BitVec 32 := Scalar.extui v69
  let c0_i32_35 : BitVec 32 := 0#32
  let v71 : BitVec 1 := Scalar.cmpi .slt c2_i32_31 c0_i32_35
  let v72 : BitVec 32 := Scalar.extui v71
  let v73 : BitVec 32 := Scalar.subi v70 v72
  let v74 : BitVec 1 := Scalar.cmpi .ne v68 v73
  let v75 : BitVec 32 := Scalar.remsi arg2 c2_i32_31
  let c0_i32_36 : BitVec 32 := 0#32
  let v76 : BitVec 1 := Scalar.cmpi .ne v75 c0_i32_36
  let v77 : BitVec 1 := Scalar.andi v74 v76
  let v63 : BitVec 32 := Scalar.divsi arg2 c2_i32_31
  let c1_i32_37 : BitVec 32 := 1#32
  let v78 : BitVec 32 := Scalar.subi v63 c1_i32_37
  let v79 : BitVec 32 := Scalar.select v77 v78 v63
  let v80 : BitVec 32 := Scalar.subi v79 c0_i32_40
  let c1_i32_41 : BitVec 32 := 1#32
  let v82 : BitVec 32 := Scalar.divsi v80 c1_i32_41
  let v83 : BitVec 32 := Scalar.muli v82 c1_i32_41
  let v84 : BitVec 32 := Scalar.addi c0_i32_40 v83
  let c1_i32_42 : BitVec 32 := 1#32
  ⟨c0_i32_40, v84, c1_i32_42⟩
def k0_mult1 (i : grid0.Coords) (k0_t1 : Fin (k0_t1_loop i).trips) : BitVec 32 :=
  let c2_i32_80 : BitVec 32 := 2#32
  let c0_i32_40 : BitVec 32 := 0#32
  let c1_i32_42 : BitVec 32 := 1#32
  let arg11 : BitVec 32 := Scf.iv c0_i32_40 c1_i32_42 k0_t1
  let v132 : BitVec 32 := Scalar.muli c2_i32_80 arg11
  let c512_i32 : BitVec 32 := 512#32
  let v135 : BitVec 32 := Scalar.muli v132 c512_i32
  v135
def k0_off1 (i : grid0.Coords) (k0_t1 : Fin (k0_t1_loop i).trips) : Fin 3 → Nat :=
  let c0_83 : Index := 0#32
  let c2_i32_80 : BitVec 32 := 2#32
  let c0_i32_40 : BitVec 32 := 0#32
  let c1_i32_42 : BitVec 32 := 1#32
  let arg11 : BitVec 32 := Scf.iv c0_i32_40 c1_i32_42 k0_t1
  let v132 : BitVec 32 := Scalar.muli c2_i32_80 arg11
  let c512_i32 : BitVec 32 := 512#32
  let v135 : BitVec 32 := Scalar.muli v132 c512_i32
  let v136 : BitVec 32 := v135
  let v137 : Index := Scalar.indexCast v136
  let c0_84 : Index := 0#32
  ![0, v137.toNat, 0]
def k0_off2 (i : grid0.Coords) (k0_t1 : Fin (k0_t1_loop i).trips) : Fin 3 → Nat :=
  let c0_87 : Index := 0#32
  let c0_88 : Index := 0#32
  let c2_i32_80 : BitVec 32 := 2#32
  let c0_i32_40 : BitVec 32 := 0#32
  let c1_i32_42 : BitVec 32 := 1#32
  let arg11 : BitVec 32 := Scf.iv c0_i32_40 c1_i32_42 k0_t1
  let v132 : BitVec 32 := Scalar.muli c2_i32_80 arg11
  let c512_i32 : BitVec 32 := 512#32
  let v135 : BitVec 32 := Scalar.muli v132 c512_i32
  let v136 : BitVec 32 := v135
  let v144 : Index := Scalar.indexCast v136
  ![0, 0, v144.toNat]
def k0_mult2 (i : grid0.Coords) (k0_t1 : Fin (k0_t1_loop i).trips) : BitVec 32 :=
  let c2_i32_81 : BitVec 32 := 2#32
  let c0_i32_40 : BitVec 32 := 0#32
  let c1_i32_42 : BitVec 32 := 1#32
  let arg11 : BitVec 32 := Scf.iv c0_i32_40 c1_i32_42 k0_t1
  let v133 : BitVec 32 := Scalar.muli c2_i32_81 arg11
  let c1_i32_82 : BitVec 32 := 1#32
  let v134 : BitVec 32 := Scalar.addi v133 c1_i32_82
  let c512_i32_93 : BitVec 32 := 512#32
  let v155 : BitVec 32 := Scalar.muli v134 c512_i32_93
  v155
def k0_off3 (i : grid0.Coords) (k0_t1 : Fin (k0_t1_loop i).trips) : Fin 3 → Nat :=
  let c0_94 : Index := 0#32
  let c2_i32_81 : BitVec 32 := 2#32
  let c0_i32_40 : BitVec 32 := 0#32
  let c1_i32_42 : BitVec 32 := 1#32
  let arg11 : BitVec 32 := Scf.iv c0_i32_40 c1_i32_42 k0_t1
  let v133 : BitVec 32 := Scalar.muli c2_i32_81 arg11
  let c1_i32_82 : BitVec 32 := 1#32
  let v134 : BitVec 32 := Scalar.addi v133 c1_i32_82
  let c512_i32_93 : BitVec 32 := 512#32
  let v155 : BitVec 32 := Scalar.muli v134 c512_i32_93
  let v156 : BitVec 32 := v155
  let v157 : Index := Scalar.indexCast v156
  let c0_95 : Index := 0#32
  ![0, v157.toNat, 0]
def k0_off4 (i : grid0.Coords) (k0_t1 : Fin (k0_t1_loop i).trips) : Fin 3 → Nat :=
  let c0_98 : Index := 0#32
  let c0_99 : Index := 0#32
  let c2_i32_81 : BitVec 32 := 2#32
  let c0_i32_40 : BitVec 32 := 0#32
  let c1_i32_42 : BitVec 32 := 1#32
  let arg11 : BitVec 32 := Scf.iv c0_i32_40 c1_i32_42 k0_t1
  let v133 : BitVec 32 := Scalar.muli c2_i32_81 arg11
  let c1_i32_82 : BitVec 32 := 1#32
  let v134 : BitVec 32 := Scalar.addi v133 c1_i32_82
  let c512_i32_93 : BitVec 32 := 512#32
  let v155 : BitVec 32 := Scalar.muli v134 c512_i32_93
  let v156 : BitVec 32 := v155
  let v164 : Index := Scalar.indexCast v156
  ![0, 0, v164.toNat]
@[reducible] def k0_t2_loop (i : grid0.Coords) : Scf.Loop 32 :=
  let c0_i32_40 : BitVec 32 := 0#32
  let arg2 : BitVec 32 := BitVec.ofNat 32 (i 2).val
  let c0_i32_32 : BitVec 32 := 0#32
  let v64 : BitVec 1 := Scalar.cmpi .sgt arg2 c0_i32_32
  let v65 : BitVec 32 := Scalar.extui v64
  let c0_i32_33 : BitVec 32 := 0#32
  let v66 : BitVec 1 := Scalar.cmpi .slt arg2 c0_i32_33
  let v67 : BitVec 32 := Scalar.extui v66
  let v68 : BitVec 32 := Scalar.subi v65 v67
  let c2_i32_31 : BitVec 32 := 2#32
  let c0_i32_34 : BitVec 32 := 0#32
  let v69 : BitVec 1 := Scalar.cmpi .sgt c2_i32_31 c0_i32_34
  let v70 : BitVec 32 := Scalar.extui v69
  let c0_i32_35 : BitVec 32 := 0#32
  let v71 : BitVec 1 := Scalar.cmpi .slt c2_i32_31 c0_i32_35
  let v72 : BitVec 32 := Scalar.extui v71
  let v73 : BitVec 32 := Scalar.subi v70 v72
  let v74 : BitVec 1 := Scalar.cmpi .ne v68 v73
  let v75 : BitVec 32 := Scalar.remsi arg2 c2_i32_31
  let c0_i32_36 : BitVec 32 := 0#32
  let v76 : BitVec 1 := Scalar.cmpi .ne v75 c0_i32_36
  let v77 : BitVec 1 := Scalar.andi v74 v76
  let v63 : BitVec 32 := Scalar.divsi arg2 c2_i32_31
  let c1_i32_37 : BitVec 32 := 1#32
  let v78 : BitVec 32 := Scalar.subi v63 c1_i32_37
  let v79 : BitVec 32 := Scalar.select v77 v78 v63
  let v80 : BitVec 32 := Scalar.subi v79 c0_i32_40
  let c1_i32_41 : BitVec 32 := 1#32
  let v82 : BitVec 32 := Scalar.divsi v80 c1_i32_41
  let v83 : BitVec 32 := Scalar.muli v82 c1_i32_41
  let v84 : BitVec 32 := Scalar.addi c0_i32_40 v83
  let v81 : BitVec 32 := Scalar.addi c0_i32_40 v80
  let c1_i32_43 : BitVec 32 := 1#32
  ⟨v84, v81, c1_i32_43⟩
def k0_mult3 (i : grid0.Coords) (k0_t2 : Fin (k0_t2_loop i).trips) : BitVec 32 :=
  let c2_i32_80 : BitVec 32 := 2#32
  let c0_i32_40 : BitVec 32 := 0#32
  let arg2 : BitVec 32 := BitVec.ofNat 32 (i 2).val
  let c0_i32_32 : BitVec 32 := 0#32
  let v64 : BitVec 1 := Scalar.cmpi .sgt arg2 c0_i32_32
  let v65 : BitVec 32 := Scalar.extui v64
  let c0_i32_33 : BitVec 32 := 0#32
  let v66 : BitVec 1 := Scalar.cmpi .slt arg2 c0_i32_33
  let v67 : BitVec 32 := Scalar.extui v66
  let v68 : BitVec 32 := Scalar.subi v65 v67
  let c2_i32_31 : BitVec 32 := 2#32
  let c0_i32_34 : BitVec 32 := 0#32
  let v69 : BitVec 1 := Scalar.cmpi .sgt c2_i32_31 c0_i32_34
  let v70 : BitVec 32 := Scalar.extui v69
  let c0_i32_35 : BitVec 32 := 0#32
  let v71 : BitVec 1 := Scalar.cmpi .slt c2_i32_31 c0_i32_35
  let v72 : BitVec 32 := Scalar.extui v71
  let v73 : BitVec 32 := Scalar.subi v70 v72
  let v74 : BitVec 1 := Scalar.cmpi .ne v68 v73
  let v75 : BitVec 32 := Scalar.remsi arg2 c2_i32_31
  let c0_i32_36 : BitVec 32 := 0#32
  let v76 : BitVec 1 := Scalar.cmpi .ne v75 c0_i32_36
  let v77 : BitVec 1 := Scalar.andi v74 v76
  let v63 : BitVec 32 := Scalar.divsi arg2 c2_i32_31
  let c1_i32_37 : BitVec 32 := 1#32
  let v78 : BitVec 32 := Scalar.subi v63 c1_i32_37
  let v79 : BitVec 32 := Scalar.select v77 v78 v63
  let v80 : BitVec 32 := Scalar.subi v79 c0_i32_40
  let c1_i32_41 : BitVec 32 := 1#32
  let v82 : BitVec 32 := Scalar.divsi v80 c1_i32_41
  let v83 : BitVec 32 := Scalar.muli v82 c1_i32_41
  let v84 : BitVec 32 := Scalar.addi c0_i32_40 v83
  let c1_i32_43 : BitVec 32 := 1#32
  let arg11 : BitVec 32 := Scf.iv v84 c1_i32_43 k0_t2
  let v132 : BitVec 32 := Scalar.muli c2_i32_80 arg11
  let c512_i32 : BitVec 32 := 512#32
  let v135 : BitVec 32 := Scalar.muli v132 c512_i32
  v135
def k0_off5 (i : grid0.Coords) (k0_t2 : Fin (k0_t2_loop i).trips) : Fin 3 → Nat :=
  let c0_83 : Index := 0#32
  let c2_i32_80 : BitVec 32 := 2#32
  let c0_i32_40 : BitVec 32 := 0#32
  let arg2 : BitVec 32 := BitVec.ofNat 32 (i 2).val
  let c0_i32_32 : BitVec 32 := 0#32
  let v64 : BitVec 1 := Scalar.cmpi .sgt arg2 c0_i32_32
  let v65 : BitVec 32 := Scalar.extui v64
  let c0_i32_33 : BitVec 32 := 0#32
  let v66 : BitVec 1 := Scalar.cmpi .slt arg2 c0_i32_33
  let v67 : BitVec 32 := Scalar.extui v66
  let v68 : BitVec 32 := Scalar.subi v65 v67
  let c2_i32_31 : BitVec 32 := 2#32
  let c0_i32_34 : BitVec 32 := 0#32
  let v69 : BitVec 1 := Scalar.cmpi .sgt c2_i32_31 c0_i32_34
  let v70 : BitVec 32 := Scalar.extui v69
  let c0_i32_35 : BitVec 32 := 0#32
  let v71 : BitVec 1 := Scalar.cmpi .slt c2_i32_31 c0_i32_35
  let v72 : BitVec 32 := Scalar.extui v71
  let v73 : BitVec 32 := Scalar.subi v70 v72
  let v74 : BitVec 1 := Scalar.cmpi .ne v68 v73
  let v75 : BitVec 32 := Scalar.remsi arg2 c2_i32_31
  let c0_i32_36 : BitVec 32 := 0#32
  let v76 : BitVec 1 := Scalar.cmpi .ne v75 c0_i32_36
  let v77 : BitVec 1 := Scalar.andi v74 v76
  let v63 : BitVec 32 := Scalar.divsi arg2 c2_i32_31
  let c1_i32_37 : BitVec 32 := 1#32
  let v78 : BitVec 32 := Scalar.subi v63 c1_i32_37
  let v79 : BitVec 32 := Scalar.select v77 v78 v63
  let v80 : BitVec 32 := Scalar.subi v79 c0_i32_40
  let c1_i32_41 : BitVec 32 := 1#32
  let v82 : BitVec 32 := Scalar.divsi v80 c1_i32_41
  let v83 : BitVec 32 := Scalar.muli v82 c1_i32_41
  let v84 : BitVec 32 := Scalar.addi c0_i32_40 v83
  let c1_i32_43 : BitVec 32 := 1#32
  let arg11 : BitVec 32 := Scf.iv v84 c1_i32_43 k0_t2
  let v132 : BitVec 32 := Scalar.muli c2_i32_80 arg11
  let c512_i32 : BitVec 32 := 512#32
  let v135 : BitVec 32 := Scalar.muli v132 c512_i32
  let v136 : BitVec 32 := v135
  let v137 : Index := Scalar.indexCast v136
  let c0_84 : Index := 0#32
  ![0, v137.toNat, 0]
def k0_off6 (i : grid0.Coords) (k0_t2 : Fin (k0_t2_loop i).trips) : Fin 3 → Nat :=
  let c0_87 : Index := 0#32
  let c0_88 : Index := 0#32
  let c2_i32_80 : BitVec 32 := 2#32
  let c0_i32_40 : BitVec 32 := 0#32
  let arg2 : BitVec 32 := BitVec.ofNat 32 (i 2).val
  let c0_i32_32 : BitVec 32 := 0#32
  let v64 : BitVec 1 := Scalar.cmpi .sgt arg2 c0_i32_32
  let v65 : BitVec 32 := Scalar.extui v64
  let c0_i32_33 : BitVec 32 := 0#32
  let v66 : BitVec 1 := Scalar.cmpi .slt arg2 c0_i32_33
  let v67 : BitVec 32 := Scalar.extui v66
  let v68 : BitVec 32 := Scalar.subi v65 v67
  let c2_i32_31 : BitVec 32 := 2#32
  let c0_i32_34 : BitVec 32 := 0#32
  let v69 : BitVec 1 := Scalar.cmpi .sgt c2_i32_31 c0_i32_34
  let v70 : BitVec 32 := Scalar.extui v69
  let c0_i32_35 : BitVec 32 := 0#32
  let v71 : BitVec 1 := Scalar.cmpi .slt c2_i32_31 c0_i32_35
  let v72 : BitVec 32 := Scalar.extui v71
  let v73 : BitVec 32 := Scalar.subi v70 v72
  let v74 : BitVec 1 := Scalar.cmpi .ne v68 v73
  let v75 : BitVec 32 := Scalar.remsi arg2 c2_i32_31
  let c0_i32_36 : BitVec 32 := 0#32
  let v76 : BitVec 1 := Scalar.cmpi .ne v75 c0_i32_36
  let v77 : BitVec 1 := Scalar.andi v74 v76
  let v63 : BitVec 32 := Scalar.divsi arg2 c2_i32_31
  let c1_i32_37 : BitVec 32 := 1#32
  let v78 : BitVec 32 := Scalar.subi v63 c1_i32_37
  let v79 : BitVec 32 := Scalar.select v77 v78 v63
  let v80 : BitVec 32 := Scalar.subi v79 c0_i32_40
  let c1_i32_41 : BitVec 32 := 1#32
  let v82 : BitVec 32 := Scalar.divsi v80 c1_i32_41
  let v83 : BitVec 32 := Scalar.muli v82 c1_i32_41
  let v84 : BitVec 32 := Scalar.addi c0_i32_40 v83
  let c1_i32_43 : BitVec 32 := 1#32
  let arg11 : BitVec 32 := Scf.iv v84 c1_i32_43 k0_t2
  let v132 : BitVec 32 := Scalar.muli c2_i32_80 arg11
  let c512_i32 : BitVec 32 := 512#32
  let v135 : BitVec 32 := Scalar.muli v132 c512_i32
  let v136 : BitVec 32 := v135
  let v144 : Index := Scalar.indexCast v136
  ![0, 0, v144.toNat]
def k0_mult4 (i : grid0.Coords) (k0_t2 : Fin (k0_t2_loop i).trips) : BitVec 32 :=
  let c2_i32_81 : BitVec 32 := 2#32
  let c0_i32_40 : BitVec 32 := 0#32
  let arg2 : BitVec 32 := BitVec.ofNat 32 (i 2).val
  let c0_i32_32 : BitVec 32 := 0#32
  let v64 : BitVec 1 := Scalar.cmpi .sgt arg2 c0_i32_32
  let v65 : BitVec 32 := Scalar.extui v64
  let c0_i32_33 : BitVec 32 := 0#32
  let v66 : BitVec 1 := Scalar.cmpi .slt arg2 c0_i32_33
  let v67 : BitVec 32 := Scalar.extui v66
  let v68 : BitVec 32 := Scalar.subi v65 v67
  let c2_i32_31 : BitVec 32 := 2#32
  let c0_i32_34 : BitVec 32 := 0#32
  let v69 : BitVec 1 := Scalar.cmpi .sgt c2_i32_31 c0_i32_34
  let v70 : BitVec 32 := Scalar.extui v69
  let c0_i32_35 : BitVec 32 := 0#32
  let v71 : BitVec 1 := Scalar.cmpi .slt c2_i32_31 c0_i32_35
  let v72 : BitVec 32 := Scalar.extui v71
  let v73 : BitVec 32 := Scalar.subi v70 v72
  let v74 : BitVec 1 := Scalar.cmpi .ne v68 v73
  let v75 : BitVec 32 := Scalar.remsi arg2 c2_i32_31
  let c0_i32_36 : BitVec 32 := 0#32
  let v76 : BitVec 1 := Scalar.cmpi .ne v75 c0_i32_36
  let v77 : BitVec 1 := Scalar.andi v74 v76
  let v63 : BitVec 32 := Scalar.divsi arg2 c2_i32_31
  let c1_i32_37 : BitVec 32 := 1#32
  let v78 : BitVec 32 := Scalar.subi v63 c1_i32_37
  let v79 : BitVec 32 := Scalar.select v77 v78 v63
  let v80 : BitVec 32 := Scalar.subi v79 c0_i32_40
  let c1_i32_41 : BitVec 32 := 1#32
  let v82 : BitVec 32 := Scalar.divsi v80 c1_i32_41
  let v83 : BitVec 32 := Scalar.muli v82 c1_i32_41
  let v84 : BitVec 32 := Scalar.addi c0_i32_40 v83
  let c1_i32_43 : BitVec 32 := 1#32
  let arg11 : BitVec 32 := Scf.iv v84 c1_i32_43 k0_t2
  let v133 : BitVec 32 := Scalar.muli c2_i32_81 arg11
  let c1_i32_82 : BitVec 32 := 1#32
  let v134 : BitVec 32 := Scalar.addi v133 c1_i32_82
  let c512_i32_93 : BitVec 32 := 512#32
  let v155 : BitVec 32 := Scalar.muli v134 c512_i32_93
  v155
def k0_off7 (i : grid0.Coords) (k0_t2 : Fin (k0_t2_loop i).trips) : Fin 3 → Nat :=
  let c0_94 : Index := 0#32
  let c2_i32_81 : BitVec 32 := 2#32
  let c0_i32_40 : BitVec 32 := 0#32
  let arg2 : BitVec 32 := BitVec.ofNat 32 (i 2).val
  let c0_i32_32 : BitVec 32 := 0#32
  let v64 : BitVec 1 := Scalar.cmpi .sgt arg2 c0_i32_32
  let v65 : BitVec 32 := Scalar.extui v64
  let c0_i32_33 : BitVec 32 := 0#32
  let v66 : BitVec 1 := Scalar.cmpi .slt arg2 c0_i32_33
  let v67 : BitVec 32 := Scalar.extui v66
  let v68 : BitVec 32 := Scalar.subi v65 v67
  let c2_i32_31 : BitVec 32 := 2#32
  let c0_i32_34 : BitVec 32 := 0#32
  let v69 : BitVec 1 := Scalar.cmpi .sgt c2_i32_31 c0_i32_34
  let v70 : BitVec 32 := Scalar.extui v69
  let c0_i32_35 : BitVec 32 := 0#32
  let v71 : BitVec 1 := Scalar.cmpi .slt c2_i32_31 c0_i32_35
  let v72 : BitVec 32 := Scalar.extui v71
  let v73 : BitVec 32 := Scalar.subi v70 v72
  let v74 : BitVec 1 := Scalar.cmpi .ne v68 v73
  let v75 : BitVec 32 := Scalar.remsi arg2 c2_i32_31
  let c0_i32_36 : BitVec 32 := 0#32
  let v76 : BitVec 1 := Scalar.cmpi .ne v75 c0_i32_36
  let v77 : BitVec 1 := Scalar.andi v74 v76
  let v63 : BitVec 32 := Scalar.divsi arg2 c2_i32_31
  let c1_i32_37 : BitVec 32 := 1#32
  let v78 : BitVec 32 := Scalar.subi v63 c1_i32_37
  let v79 : BitVec 32 := Scalar.select v77 v78 v63
  let v80 : BitVec 32 := Scalar.subi v79 c0_i32_40
  let c1_i32_41 : BitVec 32 := 1#32
  let v82 : BitVec 32 := Scalar.divsi v80 c1_i32_41
  let v83 : BitVec 32 := Scalar.muli v82 c1_i32_41
  let v84 : BitVec 32 := Scalar.addi c0_i32_40 v83
  let c1_i32_43 : BitVec 32 := 1#32
  let arg11 : BitVec 32 := Scf.iv v84 c1_i32_43 k0_t2
  let v133 : BitVec 32 := Scalar.muli c2_i32_81 arg11
  let c1_i32_82 : BitVec 32 := 1#32
  let v134 : BitVec 32 := Scalar.addi v133 c1_i32_82
  let c512_i32_93 : BitVec 32 := 512#32
  let v155 : BitVec 32 := Scalar.muli v134 c512_i32_93
  let v156 : BitVec 32 := v155
  let v157 : Index := Scalar.indexCast v156
  let c0_95 : Index := 0#32
  ![0, v157.toNat, 0]
def k0_off8 (i : grid0.Coords) (k0_t2 : Fin (k0_t2_loop i).trips) : Fin 3 → Nat :=
  let c0_98 : Index := 0#32
  let c0_99 : Index := 0#32
  let c2_i32_81 : BitVec 32 := 2#32
  let c0_i32_40 : BitVec 32 := 0#32
  let arg2 : BitVec 32 := BitVec.ofNat 32 (i 2).val
  let c0_i32_32 : BitVec 32 := 0#32
  let v64 : BitVec 1 := Scalar.cmpi .sgt arg2 c0_i32_32
  let v65 : BitVec 32 := Scalar.extui v64
  let c0_i32_33 : BitVec 32 := 0#32
  let v66 : BitVec 1 := Scalar.cmpi .slt arg2 c0_i32_33
  let v67 : BitVec 32 := Scalar.extui v66
  let v68 : BitVec 32 := Scalar.subi v65 v67
  let c2_i32_31 : BitVec 32 := 2#32
  let c0_i32_34 : BitVec 32 := 0#32
  let v69 : BitVec 1 := Scalar.cmpi .sgt c2_i32_31 c0_i32_34
  let v70 : BitVec 32 := Scalar.extui v69
  let c0_i32_35 : BitVec 32 := 0#32
  let v71 : BitVec 1 := Scalar.cmpi .slt c2_i32_31 c0_i32_35
  let v72 : BitVec 32 := Scalar.extui v71
  let v73 : BitVec 32 := Scalar.subi v70 v72
  let v74 : BitVec 1 := Scalar.cmpi .ne v68 v73
  let v75 : BitVec 32 := Scalar.remsi arg2 c2_i32_31
  let c0_i32_36 : BitVec 32 := 0#32
  let v76 : BitVec 1 := Scalar.cmpi .ne v75 c0_i32_36
  let v77 : BitVec 1 := Scalar.andi v74 v76
  let v63 : BitVec 32 := Scalar.divsi arg2 c2_i32_31
  let c1_i32_37 : BitVec 32 := 1#32
  let v78 : BitVec 32 := Scalar.subi v63 c1_i32_37
  let v79 : BitVec 32 := Scalar.select v77 v78 v63
  let v80 : BitVec 32 := Scalar.subi v79 c0_i32_40
  let c1_i32_41 : BitVec 32 := 1#32
  let v82 : BitVec 32 := Scalar.divsi v80 c1_i32_41
  let v83 : BitVec 32 := Scalar.muli v82 c1_i32_41
  let v84 : BitVec 32 := Scalar.addi c0_i32_40 v83
  let c1_i32_43 : BitVec 32 := 1#32
  let arg11 : BitVec 32 := Scf.iv v84 c1_i32_43 k0_t2
  let v133 : BitVec 32 := Scalar.muli c2_i32_81 arg11
  let c1_i32_82 : BitVec 32 := 1#32
  let v134 : BitVec 32 := Scalar.addi v133 c1_i32_82
  let c512_i32_93 : BitVec 32 := 512#32
  let v155 : BitVec 32 := Scalar.muli v134 c512_i32_93
  let v156 : BitVec 32 := v155
  let v164 : Index := Scalar.indexCast v156
  ![0, 0, v164.toNat]
def k0_cond1 (i : grid0.Coords) : BitVec 1 :=
  let arg2 : BitVec 32 := BitVec.ofNat 32 (i 2).val
  let c2_i32_44 : BitVec 32 := 2#32
  let c0_i32_45 : BitVec 32 := 0#32
  let v85 : BitVec 1 := Scalar.cmpi .eq c2_i32_44 c0_i32_45
  let c1_i32_46 : BitVec 32 := 1#32
  let v86 : BitVec 32 := Scalar.select v85 c1_i32_46 c2_i32_44
  let v87 : BitVec 32 := Scalar.remsi arg2 v86
  let c0_i32_48 : BitVec 32 := 0#32
  let v89 : BitVec 1 := Scalar.cmpi .slt v87 c0_i32_48
  let c0_i32_49 : BitVec 32 := 0#32
  let v90 : BitVec 1 := Scalar.cmpi .slt v86 c0_i32_49
  let v91 : BitVec 1 := Scalar.xori v89 v90
  let c0_i32_47 : BitVec 32 := 0#32
  let v88 : BitVec 1 := Scalar.cmpi .ne v87 c0_i32_47
  let v92 : BitVec 1 := Scalar.andi v91 v88
  let v93 : BitVec 32 := Scalar.addi v87 v86
  let v94 : BitVec 32 := Scalar.select v92 v93 v87
  let c1_i32_50 : BitVec 32 := 1#32
  let v95 : BitVec 1 := Scalar.cmpi .eq v94 c1_i32_50
  let v96 : BitVec 32 := Scalar.extui v95
  let c0_i32_52 : BitVec 32 := 0#32
  let v97 : BitVec 1 := Scalar.cmpi .ne v96 c0_i32_52
  v97

def k0_mult5 (i : grid0.Coords) : BitVec 32 :=
  let arg2 : BitVec 32 := BitVec.ofNat 32 (i 2).val
  let c1_i32_80 : BitVec 32 := 1#32
  let v132 : BitVec 32 := Scalar.subi arg2 c1_i32_80
  let c512_i32 : BitVec 32 := 512#32
  let v133 : BitVec 32 := Scalar.muli v132 c512_i32
  v133
def k0_off9 (i : grid0.Coords) : Fin 3 → Nat :=
  let c0_81 : Index := 0#32
  let arg2 : BitVec 32 := BitVec.ofNat 32 (i 2).val
  let c1_i32_80 : BitVec 32 := 1#32
  let v132 : BitVec 32 := Scalar.subi arg2 c1_i32_80
  let c512_i32 : BitVec 32 := 512#32
  let v133 : BitVec 32 := Scalar.muli v132 c512_i32
  let v134 : BitVec 32 := v133
  let v135 : Index := Scalar.indexCast v134
  let c0_82 : Index := 0#32
  ![0, v135.toNat, 0]
def k0_off10 (i : grid0.Coords) : Fin 3 → Nat :=
  let c0_85 : Index := 0#32
  let c0_86 : Index := 0#32
  let arg2 : BitVec 32 := BitVec.ofNat 32 (i 2).val
  let c1_i32_80 : BitVec 32 := 1#32
  let v132 : BitVec 32 := Scalar.subi arg2 c1_i32_80
  let c512_i32 : BitVec 32 := 512#32
  let v133 : BitVec 32 := Scalar.muli v132 c512_i32
  let v134 : BitVec 32 := v133
  let v142 : Index := Scalar.indexCast v134
  ![0, 0, v142.toNat]
def k0_mult6 (i : grid0.Coords) : BitVec 32 :=
  let arg2 : BitVec 32 := BitVec.ofNat 32 (i 2).val
  let c512_i32_91 : BitVec 32 := 512#32
  let v153 : BitVec 32 := Scalar.muli arg2 c512_i32_91
  v153
def k0_off11 (i : grid0.Coords) : Fin 3 → Nat :=
  let c0_92 : Index := 0#32
  let arg2 : BitVec 32 := BitVec.ofNat 32 (i 2).val
  let c512_i32_91 : BitVec 32 := 512#32
  let v153 : BitVec 32 := Scalar.muli arg2 c512_i32_91
  let v154 : BitVec 32 := v153
  let v155 : Index := Scalar.indexCast v154
  let c0_93 : Index := 0#32
  ![0, v155.toNat, 0]
def k0_off12 (i : grid0.Coords) : Fin 3 → Nat :=
  let c0_96 : Index := 0#32
  let c0_97 : Index := 0#32
  let arg2 : BitVec 32 := BitVec.ofNat 32 (i 2).val
  let c512_i32_91 : BitVec 32 := 512#32
  let v153 : BitVec 32 := Scalar.muli arg2 c512_i32_91
  let v154 : BitVec 32 := v153
  let v162 : Index := Scalar.indexCast v154
  ![0, 0, v162.toNat]
def k0_mult7 (i : grid0.Coords) : BitVec 32 :=
  let arg2 : BitVec 32 := BitVec.ofNat 32 (i 2).val
  let c512_i32_99 : BitVec 32 := 512#32
  let v167 : BitVec 32 := Scalar.muli arg2 c512_i32_99
  v167
def k0_off13 (i : grid0.Coords) : Fin 3 → Nat :=
  let c0_100 : Index := 0#32
  let arg2 : BitVec 32 := BitVec.ofNat 32 (i 2).val
  let c512_i32_99 : BitVec 32 := 512#32
  let v167 : BitVec 32 := Scalar.muli arg2 c512_i32_99
  let v168 : BitVec 32 := v167
  let v169 : Index := Scalar.indexCast v168
  let c0_101 : Index := 0#32
  ![0, v169.toNat, 0]
def k0_off14 (i : grid0.Coords) : Fin 3 → Nat :=
  let c0_104 : Index := 0#32
  let c0_105 : Index := 0#32
  let arg2 : BitVec 32 := BitVec.ofNat 32 (i 2).val
  let c512_i32_99 : BitVec 32 := 512#32
  let v167 : BitVec 32 := Scalar.muli arg2 c512_i32_99
  let v168 : BitVec 32 := v167
  let v176 : Index := Scalar.indexCast v168
  ![0, 0, v176.toNat]
def k0_cond2 (i : grid0.Coords) : BitVec 1 :=
  let arg2 : BitVec 32 := BitVec.ofNat 32 (i 2).val
  let c2_i32_53 : BitVec 32 := 2#32
  let c0_i32_54 : BitVec 32 := 0#32
  let v98 : BitVec 1 := Scalar.cmpi .eq c2_i32_53 c0_i32_54
  let c1_i32_55 : BitVec 32 := 1#32
  let v99 : BitVec 32 := Scalar.select v98 c1_i32_55 c2_i32_53
  let v100 : BitVec 32 := Scalar.remsi arg2 v99
  let c0_i32_57 : BitVec 32 := 0#32
  let v102 : BitVec 1 := Scalar.cmpi .slt v100 c0_i32_57
  let c0_i32_58 : BitVec 32 := 0#32
  let v103 : BitVec 1 := Scalar.cmpi .slt v99 c0_i32_58
  let v104 : BitVec 1 := Scalar.xori v102 v103
  let c0_i32_56 : BitVec 32 := 0#32
  let v101 : BitVec 1 := Scalar.cmpi .ne v100 c0_i32_56
  let v105 : BitVec 1 := Scalar.andi v104 v101
  let v106 : BitVec 32 := Scalar.addi v100 v99
  let v107 : BitVec 32 := Scalar.select v105 v106 v100
  let c0_i32_59 : BitVec 32 := 0#32
  let v108 : BitVec 1 := Scalar.cmpi .eq v107 c0_i32_59
  let v109 : BitVec 32 := Scalar.extui v108
  let c0_i32_61 : BitVec 32 := 0#32
  let v110 : BitVec 1 := Scalar.cmpi .ne v109 c0_i32_61
  v110

def k0_mult8 (i : grid0.Coords) : BitVec 32 :=
  let arg2 : BitVec 32 := BitVec.ofNat 32 (i 2).val
  let c512_i32 : BitVec 32 := 512#32
  let v132 : BitVec 32 := Scalar.muli arg2 c512_i32
  v132
def k0_off15 (i : grid0.Coords) : Fin 3 → Nat :=
  let c0_80 : Index := 0#32
  let arg2 : BitVec 32 := BitVec.ofNat 32 (i 2).val
  let c512_i32 : BitVec 32 := 512#32
  let v132 : BitVec 32 := Scalar.muli arg2 c512_i32
  let v133 : BitVec 32 := v132
  let v134 : Index := Scalar.indexCast v133
  let c0_81 : Index := 0#32
  ![0, v134.toNat, 0]
def k0_off16 (i : grid0.Coords) : Fin 3 → Nat :=
  let c0_84 : Index := 0#32
  let c0_85 : Index := 0#32
  let arg2 : BitVec 32 := BitVec.ofNat 32 (i 2).val
  let c512_i32 : BitVec 32 := 512#32
  let v132 : BitVec 32 := Scalar.muli arg2 c512_i32
  let v133 : BitVec 32 := v132
  let v141 : Index := Scalar.indexCast v133
  ![0, 0, v141.toNat]
def k0_mult9 (i : grid0.Coords) : BitVec 32 :=
  let arg2 : BitVec 32 := BitVec.ofNat 32 (i 2).val
  let c512_i32_87 : BitVec 32 := 512#32
  let v146 : BitVec 32 := Scalar.muli arg2 c512_i32_87
  v146
def k0_off17 (i : grid0.Coords) : Fin 3 → Nat :=
  let c0_88 : Index := 0#32
  let arg2 : BitVec 32 := BitVec.ofNat 32 (i 2).val
  let c512_i32_87 : BitVec 32 := 512#32
  let v146 : BitVec 32 := Scalar.muli arg2 c512_i32_87
  let v147 : BitVec 32 := v146
  let v148 : Index := Scalar.indexCast v147
  let c0_89 : Index := 0#32
  ![0, v148.toNat, 0]
def k0_off18 (i : grid0.Coords) : Fin 3 → Nat :=
  let c0_92 : Index := 0#32
  let c0_93 : Index := 0#32
  let arg2 : BitVec 32 := BitVec.ofNat 32 (i 2).val
  let c512_i32_87 : BitVec 32 := 512#32
  let v146 : BitVec 32 := Scalar.muli arg2 c512_i32_87
  let v147 : BitVec 32 := v146
  let v155 : Index := Scalar.indexCast v147
  ![0, 0, v155.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S8x4096x512 : Shape := ⟨3, ![8, 4096, 512]⟩
abbrev S8x4096x8 : Shape := ⟨3, ![8, 4096, 8]⟩
abbrev S8x4096x8x64 : Shape := ⟨4, ![8, 4096, 8, 64]⟩
abbrev S8x8x4096x64 : Shape := ⟨4, ![8, 8, 4096, 64]⟩
abbrev S64x4096x64 : Shape := ⟨3, ![64, 4096, 64]⟩
abbrev S8x8x4096 : Shape := ⟨3, ![8, 8, 4096]⟩
abbrev S64x4096 : Shape := ⟨2, ![64, 4096]⟩
abbrev S64x4096x4096 : Shape := ⟨3, ![64, 4096, 4096]⟩
abbrev S64x4096x1 : Shape := ⟨3, ![64, 4096, 1]⟩
abbrev S64x1x4096 : Shape := ⟨3, ![64, 1, 4096]⟩

abbrev nBuf : Space → Nat
  | .hbm => 5
  | .vmem => 5
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x4096x8, .f32⟩
  | .hbm, ⟨4, _⟩ => ⟨S8x4096x512, .bf16⟩
  | .local _ .vmem, ⟨0, _⟩ => ⟨S8x4096x512, .f32⟩
  | .local _ .vmem, ⟨1, _⟩ => ⟨S8x4096x512, .f32⟩
  | .local _ .vmem, ⟨2, _⟩ => ⟨S8x4096x512, .f32⟩
  | .local _ .vmem, ⟨3, _⟩ => ⟨S8x4096x8, .f32⟩
  | .local _ .vmem, ⟨4, _⟩ => ⟨S8x4096x512, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F] [Named F]

def κ : String → Option EReal := fun
  | "mask" => some ⊥
  | _ => none

abbrev grid0 : Pipeline.Grid := .none

abbrev stage0_0 : Fin 1 → Memref sig .tc .vmem S8x4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Ffn.lean ====
abbrev S32768x1024 : Shape := ⟨2, ![32768, 1024]⟩
abbrev S1024x4096 : Shape := ⟨2, ![1024, 4096]⟩
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 12
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024x4096, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024x4096, .bf16⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S1x1024, .f32⟩
  | .hbm, ⟨11, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x4096, .bf16⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S32768x1024 : Shape := ⟨2, ![32768, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S32768x4096 : Shape := ⟨2, ![32768, 4096]⟩
abbrev S32768 : Shape := ⟨1, ![32768]⟩
abbrev S32768x1 : Shape := ⟨2, ![32768, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x4096, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S32768x1024, .f32⟩
  | .hbm, ⟨8, _⟩ => ⟨S32768x1024, .f32⟩
  | .hbm, ⟨9, _⟩ => ⟨S32768x4096, .f32⟩
  | .hbm, ⟨10, _⟩ => ⟨S32768x4096, .f32⟩
  | .hbm, ⟨11, _⟩ => ⟨S32768x4096, .f32⟩
  | .hbm, ⟨12, _⟩ => ⟨S_, .f32⟩
  | .hbm, ⟨13, _⟩ => ⟨S32768x4096, .f32⟩
  | .hbm, ⟨14, _⟩ => ⟨S32768x4096, .f32⟩
  | .hbm, ⟨15, _⟩ => ⟨S_, .f32⟩
  | .hbm, ⟨16, _⟩ => ⟨S32768x4096, .f32⟩
  | .hbm, ⟨17, _⟩ => ⟨S32768x4096, .f32⟩
  | .hbm, ⟨18, _⟩ => ⟨S32768x4096, .f32⟩
  | .hbm, ⟨19, _⟩ => ⟨S32768x4096, .f32⟩
  | .hbm, ⟨20, _⟩ => ⟨S32768x4096, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Out.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩
abbrev S2048x1024 : Shape := ⟨2, ![2048, 1024]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S512x1024, .bf16⟩
  | .hbm, ⟨8, _⟩ => ⟨S512x1024, .bf16⟩
  | .hbm, ⟨9, _⟩ => ⟨S1x1024, .f32⟩
  | .hbm, ⟨10, _⟩ => ⟨S1x1024, .f32⟩
  | .hbm, ⟨11, _⟩ => ⟨S32768x1024, .f32⟩
  | .local _ .vmem, ⟨0, _⟩ => ⟨S2048x1024, .f32⟩
  | .local _ .vmem, ⟨1, _⟩ => ⟨S2048x1024, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S2048x1024, .f32⟩
  | .local _ .vmem, ⟨11, _⟩ => ⟨S2048x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutRefIdeal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S32768x1024, .f32⟩
  | .hbm, ⟨8, _⟩ => ⟨S32768x1024, .f32⟩
  | .hbm, ⟨9, _⟩ => ⟨S32768x512, .f32⟩
  | .hbm, ⟨10, _⟩ => ⟨S32768x512, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Proof.Norm.lean ====
/- The layer norm of one row, as both the kernels and the references compute it: the mean of the row, the mean
   square of what is left, and the scaled and shifted quotient. -/
module

public import Idealize.ShloMosaic.PureOps
public import Idealize.ShloMosaic.Lib.Pointwise

@[expose] public section

set_option maxRecDepth 16384

noncomputable section

namespace Cert.Norm

open Idealize.ShloMosaic

/-- The mean of a row of 1024 values; the divisor is the binary word of 1024. -/
def mean (y : Fin 1024 → EReal) : EReal := Ideal.div (∑ k, y k) (Ideal.ofBits .f32 0x44800000#32)

/-- The layer norm of the row `y` at lane `l`, with gain `g` and shift `b` there. -/
def ln (y : Fin 1024 → EReal) (g b : EReal) (l : Fin 1024) : EReal :=
  (y l - mean y) * Ideal.rsqrt (mean (fun k => (y k - mean y) * (y k - mean y)) + Ideal.ofBits .f32 0x3727C5AC#32) * g + b

end Cert.Norm

end
-- ==== Proof.FfnRef.lean ====
/- The feed-forward reference read at one element: a row of it is the layer norm of the row
   `α·x + ½·(silu(x·Wg) ⊙ (x·Wu))·Wd`. -/
module

public import proofs.«01_k».proof.Proof.Norm
public import proofs.«01_k».proof.Proof.Gen.FfnRefIdeal.Run
public import Idealize.ShloMosaic.Lib.Pointwise

@[expose] public section

set_option maxRecDepth 16384

noncomputable section

namespace Cert.FfnMath

open Idealize.ShloMosaic

/-- The hidden unit with gate pre-activation `a` and up-projection `u`. -/
def hid (a u : EReal) : EReal := a * Ideal.div 1 (1 + Ideal.exp (-a)) * u

/-- One element of `α·x + ½·(silu(x·Wg) ⊙ (x·Wu))·Wd`: `x` the row, `wg`, `wu` the two weights by input and
    hidden unit, `wd` the output column by hidden unit, `xl` the row's own element there. -/
def pre (x : Fin 1024 → EReal) (wg wu : Fin 1024 → Fin 4096 → EReal) (wd : Fin 4096 → EReal) (xl : EReal) : EReal :=
  Ideal.ofBits .f32 0x3F9837F0#32 * xl
    + Ideal.ofBits .f32 0x3F000000#32 * ∑ h : Fin 4096, hid (∑ k, x k * wg k h) (∑ k, x k * wu k h) * wd h

end Cert.FfnMath

namespace Cert.FfnRefIdeal.Row

open Cert.FfnRefIdeal Cert.FfnRefIdeal.Gen Idealize.ShloMosaic Idealize.ShloMosaic.TcCoe Idealize.SL.Sem Idealize.ShloMosaic.StableHlo

/-- The reference's sum before its layer norm, as its operations compose it. -/
def Y (X : FVec Ideal S32768x1024 .f32) (Wg Wu : FVec Ideal S1024x4096 .f32) (Wd : FVec Ideal S4096x1024 .f32) : FVec Ideal S32768x1024 .f32 :=
  addf (mulf (broadcastInDim S32768x1024 ![] bcast_S_S32768x1024 (constant S_ .f32 0x3F9837F0#32)) X) (mulf (broadcastInDim S32768x1024 ![] bcast_S_S32768x1024 (constant S_ .f32 0x3F000000#32)) (Host.dotGeneral dot_S32768x4096_S4096x1024_S32768x1024_1_0_0_1_n_n none (mulf (mulf (Host.dotGeneral dot_S32768x1024_S1024x4096_S32768x4096_1_0_0_1_n_n none X Wg) (Host.divf (broadcastInDim S32768x4096 ![] bcast_S_S32768x4096 (constant S_ .f32 0x3F800000#32)) (addf (broadcastInDim S32768x4096 ![] bcast_S_S32768x4096 (constant S_ .f32 0x3F800000#32)) (Host.exp (Host.negf (Host.dotGeneral dot_S32768x1024_S1024x4096_S32768x4096_1_0_0_1_n_n none X Wg)))))) (Host.dotGeneral dot_S32768x1024_S1024x4096_S32768x4096_1_0_0_1_n_n none X Wu)) Wd))

/-- The reference's mean of every row. -/
def M (y : FVec Ideal S32768x1024 .f32) : FVec Ideal S32768x1 .f32 :=
  Host.divf (broadcastInDim S32768x1 ![0] bcast_S32768_S32768x1_0 (Host.reduceAdd y (constant S_ .f32 0x00000000#32) reducesTo_S32768x1024_S32768_d1 h_S_)) (broadcastInDim S32768x1 ![] bcast_S_S32768x1 (constant S_ .f32 0x44800000#32))

/-- The reference's distance from the mean. -/
def D (y : FVec Ideal S32768x1024 .f32) : FVec Ideal S32768x1024 .f32 :=
  subf y (broadcastInDim S32768x1024 ![0, 1] bcast_S32768x1_S32768x1024_0_1 (M y))

/-- The reference's layer norm of every row. -/
def L (y : FVec Ideal S32768x1024 .f32) (g b : FVec Ideal S1024 .f32) : FVec Ideal S32768x1024 .f32 :=
  addf (mulf (mulf (D y) (broadcastInDim S32768x1024 ![0, 1] bcast_S32768x1_S32768x1024_0_1 (Host.rsqrt (addf (M (mulf (D y) (D y))) (broadcastInDim S32768x1 ![] bcast_S_S32768x1 (constant S_ .f32 0x3727C5AC#32)))))) (broadcastInDim S32768x1024 ![0, 1] bcast_S1x1024_S32768x1024_0_1 (broadcastInDim S1x1024 ![1] bcast_S1024_S1x1024_1 g))) (broadcastInDim S32768x1024 ![0, 1] bcast_S1x1024_S32768x1024_0_1 (broadcastInDim S1x1024 ![1] bcast_S1024_S1x1024_1 b))

theorem res_eq (m : (ℓ : Loc nD τ sig) → Buf (Elt Ideal) ℓ) (c : Dev nD) :
    Value.res_out0 m c = L (Y (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) := rfl

theorem M_at (y : FVec Ideal S32768x1024 .f32) (r : Fin 32768) (z : Fin 1) : M y (ix2 r z) = Norm.mean (fun k => y (ix2 r k)) := by
  pointwise [M, Norm.mean]

theorem D_at (y : FVec Ideal S32768x1024 .f32) (r : Fin 32768) (l : Fin 1024) : D y (ix2 r l) = y (ix2 r l) - Norm.mean (fun k => y (ix2 r k)) := by
  pointwise [D]
  rw [M_at]

theorem L_at (y : FVec Ideal S32768x1024 .f32) (g b : FVec Ideal S1024 .f32) (r : Fin 32768) (l : Fin 1024) :
    L y g b (ix2 r l) = Norm.ln (fun k => y (ix2 r k)) (g (ix1 l)) (b (ix1 l)) l := by
  pointwise [L, Norm.ln]
  simp only [M_at, D_at]
  pointwise [D_at]

theorem Y_at (X : FVec Ideal S32768x1024 .f32) (Wg Wu : FVec Ideal S1024x4096 .f32) (Wd : FVec Ideal S4096x1024 .f32) (r : Fin 32768) (l : Fin 1024) :
    Y X Wg Wu Wd (ix2 r l) = FfnMath.pre (fun k => X (ix2 r k)) (fun k h => Wg (ix2 k h)) (fun k h => Wu (ix2 k h)) (fun h => Wd (ix2 h l)) (X (ix2 r l)) := by
  pointwise [Y, FfnMath.pre, FfnMath.hid]

end Cert.FfnRefIdeal.Row

end
-- ==== Proof.FfnKer.lean ====
/- The feed-forward kernel: what a grid point leaves in the carried tile and in its output block, element by element. -/
module

public import proofs.«01_k».proof.Proof.FfnRef
public import proofs.«01_k».proof.Proof.Gen.FfnIdeal.Value
public import Idealize.ShloMosaic.Lib.Pipeline.ValueKit
public import Idealize.ShloMosaic.Lib.Pipeline.ReadBack

@[expose] public section

set_option maxRecDepth 16384

noncomputable section

namespace Cert.FfnIdeal.Ker

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- The layer norm the kernel applies to the tile it kept. -/
theorem ln_at (y : Vec Ideal S1024x1024 .f32) (g b : Vec Ideal S1x1024 .f32) (r : Fin 1024) (l : Fin 1024) :
    k0_pay3 (F := Ideal) y g b (ix2 r l) = Norm.ln (fun k => y (ix2 r k)) (g (ix2 0 l)) (b (ix2 0 l)) l := by
  pointwise [k0_pay3, Norm.ln, Norm.mean]

theorem ln_at' (y : Vec Ideal S1024x1024 .f32) (g b : Vec Ideal S1x1024 .f32) (r : Fin 1024) (l : Fin 1024) :
    k0_pay4 (F := Ideal) y g b (ix2 r l) = Norm.ln (fun k => y (ix2 r k)) (g (ix2 0 l)) (b (ix2 0 l)) l := ln_at y g b r l

/-- The windows' block indices: the input tile of point `t`, the weights whole, the output tile of the point before. -/
theorem idx : ∀ t : Fin cfg0.N, win0_0.index t = ![min t.val 31, 0] ∧ win0_1.index t = ![0, 0] ∧ win0_2.index t = ![0, 0]
    ∧ win0_3.index t = ![0, 0] ∧ win0_4.index t = ![0, 0] ∧ win0_5.index t = ![0, 0] ∧ win0_6.index t = ![t.val - 1, 0] :=
  (by decide +kernel : ∀ t : Fin grid0.N, _)

/-- What a point that has a tile of its own keeps: that tile's rows before their layer norm. -/
theorem kept (c : Dev nD) (t : Fin cfg0.N) (h1 : t.val < 32) (r l : Fin 1024)
    (R : Fin 32768) (hR : R.val = t.val * 1024 + r.val) :
    (outsAt0 m c t.val t.isLt).2 (ix2 r l) = FfnMath.pre (fun k => m ((c : Thread nD τ).loc main_arg0) (ix2 R k))
      (fun k h => m ((c : Thread nD τ).loc main_arg1) (ix2 k h)) (fun k h => m ((c : Thread nD τ).loc main_arg2) (ix2 k h))
      (fun h => m ((c : Thread nD τ).loc main_arg3) (ix2 h l)) (m ((c : Thread nD τ).loc main_arg0) (ix2 R l)) := by
  have h2 : ¬ t.val % 33 = 32 := by omega
  by_cases h0 : t.val % 33 = 0
  · rw [outsAt0_A m c t h0 h1 h2]
    frame_out
    pointwise [k0_pay2, k0_pay5, k0_pay6, k0_pay7, k0_pay8, k0_pay9, k0_pay10, k0_pay11, k0_pay12, k0_pay13, k0_pay14, k0_pay15, k0_pay16, FfnMath.pre, FfnMath.hid]
    rw [Fin.sum_univ_tiles 8 512 rfl, Fin.sum_univ_eight]
    simp only [zero_sub]
    blk_point [iblk, V, idx t]
  · rw [outsAt0_B m c t h0 h1 h2]
    frame_out
    pointwise [k0_pay2, k0_pay5, k0_pay6, k0_pay7, k0_pay8, k0_pay9, k0_pay10, k0_pay11, k0_pay12, k0_pay13, k0_pay14, k0_pay15, k0_pay16, FfnMath.pre, FfnMath.hid]
    rw [Fin.sum_univ_tiles 8 512 rfl, Fin.sum_univ_eight]
    simp only [zero_sub]
    blk_point [iblk, V, idx t]

/-- The gain and the shift, as the points find them. -/
theorem gain (c : Dev nD) (t : Fin cfg0.N) (l : Fin 1024) :
    (show FVec Ideal S1x1024 .f32 from iblk m c 4 t) (ix2 0 l) = m ((c : Thread nD τ).loc main_arg4) (ix1 l) := by
  blk_point [iblk, V, idx t]

theorem shift (c : Dev nD) (t : Fin cfg0.N) (l : Fin 1024) :
    (show FVec Ideal S1x1024 .f32 from iblk m c 5 t) (ix2 0 l) = m ((c : Thread nD τ).loc main_arg5) (ix1 l) := by
  blk_point [iblk, V, idx t]

/-- What a later point writes: the layer norm of the tile the point before kept. -/
theorem out (c : Dev nD) (t : Fin cfg0.N) (ht : 1 ≤ t.val) (r l : Fin 1024) :
    (outsAt0 m c t.val t.isLt).1 (ix2 r l)
      = Norm.ln (fun k => (outsAt0 m c (t.val - 1) (Nat.lt_of_le_of_lt (Nat.sub_le _ _) t.isLt)).2 (ix2 r k))
          (m ((c : Thread nD τ).loc main_arg4) (ix1 l)) (m ((c : Thread nD τ).loc main_arg5) (ix1 l)) l := by
  have hN : t.val < 33 := lt_of_lt_of_eq t.isLt (show cfg0.N = 33 from N_0)
  have h0 : ¬ t.val % 33 = 0 := by omega
  by_cases h1 : t.val < 32
  · rw [outsAt0_B m c t h0 h1 (by omega)]
    frame_out
    rw [ln_at']
    simp only [read_unread_whole]
    rw [← gain m c t l, ← shift m c t l]
  · rw [outsAt0_C m c t h0 h1 (by omega)]
    frame_out
    rw [ln_at]
    simp only [read_unread_whole]
    rw [← gain m c t l, ← shift m c t l]

/-- Only points after the first write back. -/
theorem late : ∀ t : Fin cfg0.N, (cfg0.win 6).flush t = true → 1 ≤ t.val :=
  (by decide +kernel : ∀ t : Fin grid0.N, _)

end Cert.FfnIdeal.Ker

end
-- ==== Proof.FfnFinal.lean ====
/- The feed-forward kernel: the result array is the reference's, row by row. -/
module

public import proofs.«01_k».proof.Proof.FfnKer
public import proofs.«01_k».proof.Proof.Gen.FfnIdeal.Value
public import Idealize.ShloMosaic.Lib.Pipeline.ValueKit
public import Idealize.ShloMosaic.Lib.Pipeline.ReadBack

@[expose] public section

set_option maxRecDepth 16384

noncomputable section

namespace Cert.FfnIdeal.Ker

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- The result array after the run is the reference's term over the argument arrays. -/
theorem final (c : Dev nD) : (dats m 0 c).arrAt 6 (cfgs 0).N
    = Cert.FfnRefIdeal.Row.L (Cert.FfnRefIdeal.Row.Y (m ((c : Thread nD τ).loc main_arg0)) (m ((c : Thread nD τ).loc main_arg1))
        (m ((c : Thread nD τ).loc main_arg2)) (m ((c : Thread nD τ).loc main_arg3)))
      (m ((c : Thread nD τ).loc main_arg4)) (m ((c : Thread nD τ).loc main_arg5)) := by
  refine (dats m 0 c).arrAt_eq_of_covers 6 _ (by decide +kernel) fun t hf y => ?_
  have ht := late t hf
  have hN : t.val < 33 := lt_of_lt_of_eq t.isLt (show cfg0.N = 33 from N_0)
  blk_simp
  rw [after0_6]
  idx_vars y
  have e : ((cfg0.win 6).blk t).view.emb (ix2 y0 y1) = ix2 (⟨(t.val - 1) * 1024 + (y0 : ℕ), by have := y0.isLt; omega⟩ : Fin 32768) (y1 : Fin 1024) := by
    blk_ext [idx t]
  refine (out m c t ht y0 y1).trans ?_
  refine Eq.trans ?_ (congrArg (Cert.FfnRefIdeal.Row.L _ _ _) e.symm)
  rw [Cert.FfnRefIdeal.Row.L_at]
  congr 1
  funext k
  rw [Cert.FfnRefIdeal.Row.Y_at]
  exact kept m c ⟨t.val - 1, by omega⟩ (show t.val - 1 < 32 by omega) y0 k _ rfl

end Cert.FfnIdeal.Ker

end
-- ==== Proof.OutKer.lean ====
/- The output-projection kernel: each of its four row chunks is the layer norm of the projected rows. -/
module

public import proofs.«01_k».proof.Proof.Norm
public import proofs.«01_k».proof.Proof.Gen.OutIdeal.Value
public import Idealize.ShloMosaic.Lib.Pipeline.ValueKit
public import Idealize.ShloMosaic.Lib.Pipeline.ReadBack

@[expose] public section

set_option maxRecDepth 16384

noncomputable section

namespace Cert.OutMath

open Idealize.ShloMosaic

/-- One element of `α·x + [fox ; lru]·W`: `fx`, `lr` the two halves of the mixer's row, `w` the weight's column,
    `xl` the residual's own element there. -/
def pre (fx lr : Fin 512 → EReal) (w : Fin 1024 → EReal) (xl : EReal) : EReal :=
  Ideal.ofBits .f32 0x3F9837F0#32 * xl
    + (∑ k : Fin 512, fx k * w ⟨k.val, by omega⟩ + ∑ k : Fin 512, lr k * w ⟨512 + k.val, by omega⟩)

end Cert.OutMath

namespace Cert.OutIdeal.Ker

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ)

/-- The projected rows of one chunk, from the chunk's loads. -/
def rows (fx : Vec Ideal S512x512 .bf16) (wf : Vec Ideal S512x1024 .bf16) (lr : Vec Ideal S512x512 .bf16)
    (wl : Vec Ideal S512x1024 .bf16) (x : Vec Ideal S512x1024 .f32) (r : Fin 512) (l : Fin 1024) : EReal :=
  Ideal.ofBits .f32 0x3F9837F0#32 * x (ix2 r l)
    + (∑ k : Fin 512, fx (ix2 r k) * wf (ix2 k l) + ∑ k : Fin 512, lr (ix2 r k) * wl (ix2 k l))

section chunks

variable (fx : Vec Ideal S512x512 .bf16) (wf : Vec Ideal S512x1024 .bf16) (lr : Vec Ideal S512x512 .bf16)
  (wl : Vec Ideal S512x1024 .bf16) (x : Vec Ideal S512x1024 .f32) (g b : Vec Ideal S1x1024 .f32) (r : Fin 512) (l : Fin 1024)

theorem first : k0_pay2 (F := Ideal) fx wf lr wl x g b (ix2 r l)
    = Norm.ln (rows fx wf lr wl x r) (g (ix2 0 l)) (b (ix2 0 l)) l := by
  pointwise [k0_pay2, rows, Norm.ln, Norm.mean]

theorem second : k0_pay6 (F := Ideal) (k0_pay3 b) (k0_pay4 fx wf lr wl x) (k0_pay5 g) (ix2 r l)
    = Norm.ln (rows fx wf lr wl x r) (g (ix2 0 l)) (b (ix2 0 l)) l := by
  pointwise [k0_pay3, k0_pay4, k0_pay5, k0_pay6, rows, Norm.ln, Norm.mean]

theorem third : k0_pay11 (F := Ideal) (k0_pay7 g) (k0_pay8 b) (k0_pay9 fx wf lr wl x) (k0_pay10 fx wf lr wl x) (ix2 r l)
    = Norm.ln (rows fx wf lr wl x r) (g (ix2 0 l)) (b (ix2 0 l)) l := by
  pointwise [k0_pay7, k0_pay8, k0_pay9, k0_pay10, k0_pay11, rows, Norm.ln, Norm.mean]

theorem fourth : k0_pay1 (F := Ideal) (k0_pay12 g) (k0_pay13 b) (k0_pay14 fx wf lr wl x) (k0_pay15 fx wf lr wl x)
      (Scalar.ofBits .f32 0x3727C5AC#32) (ix2 r l)
    = Norm.ln (rows fx wf lr wl x r) (g (ix2 0 l)) (b (ix2 0 l)) l := by
  pointwise [k0_pay12, k0_pay13, k0_pay14, k0_pay15, k0_pay1, rows, Norm.ln, Norm.mean]

end chunks

end Cert.OutIdeal.Ker

end
-- ==== Proof.OutRef.lean ====
/- The output projection's reference read at one element: the layer norm of the row `α·x + [fox ; lru]·W`. -/
module

public import proofs.«01_k».proof.Proof.OutKer
public import proofs.«01_k».proof.Proof.Gen.OutRefIdeal.Run
public import Idealize.ShloMosaic.Lib.Pointwise

@[expose] public section

set_option maxRecDepth 16384

noncomputable section

namespace Cert.OutRefIdeal.Row

open Cert.OutRefIdeal Cert.OutRefIdeal.Gen Idealize.ShloMosaic Idealize.ShloMosaic.TcCoe Idealize.SL.Sem Idealize.ShloMosaic.StableHlo

/-- The reference's sum before its layer norm, as its operations compose it. -/
def Y (X : FVec Ideal S32768x1024 .f32) (fx lr : FVec Ideal S32768x512 .bf16) (W : FVec Ideal S1024x1024 .f32) : FVec Ideal S32768x1024 .f32 :=
  addf (mulf (broadcastInDim S32768x1024 ![] bcast_S_S32768x1024 (constant S_ .f32 0x3F9837F0#32)) X) (Host.dotGeneral dot_S32768x1024_S1024x1024_S32768x1024_1_0_0_1_n_n none (concatenate S32768x1024 1 [⟨S32768x512, (extf .f32 fx bitsLt_bf16_f32)⟩, ⟨S32768x512, (extf .f32 lr bitsLt_bf16_f32)⟩] concatenates_S32768x512_S32768x512_S32768x1024_d1) W)

/-- The reference's mean of every row. -/
def M (y : FVec Ideal S32768x1024 .f32) : FVec Ideal S32768x1 .f32 :=
  Host.divf (broadcastInDim S32768x1 ![0] bcast_S32768_S32768x1_0 (Host.reduceAdd y (constant S_ .f32 0x00000000#32) reducesTo_S32768x1024_S32768_d1 h_S_)) (broadcastInDim S32768x1 ![] bcast_S_S32768x1 (constant S_ .f32 0x44800000#32))

/-- The reference's distance from the mean. -/
def D (y : FVec Ideal S32768x1024 .f32) : FVec Ideal S32768x1024 .f32 :=
  subf y (broadcastInDim S32768x1024 ![0, 1] bcast_S32768x1_S32768x1024_0_1 (M y))

/-- The reference's layer norm of every row. -/
def L (y : FVec Ideal S32768x1024 .f32) (g b : FVec Ideal S1024 .f32) : FVec Ideal S32768x1024 .f32 :=
  addf (mulf (mulf (D y) (broadcastInDim S32768x1024 ![0, 1] bcast_S32768x1_S32768x1024_0_1 (Host.rsqrt (addf (M (mulf (D y) (D y))) (broadcastInDim S32768x1 ![] bcast_S_S32768x1 (constant S_ .f32 0x3727C5AC#32)))))) (broadcastInDim S32768x1024 ![0, 1] bcast_S1x1024_S32768x1024_0_1 (broadcastInDim S1x1024 ![1] bcast_S1024_S1x1024_1 g))) (broadcastInDim S32768x1024 ![0, 1] bcast_S1x1024_S32768x1024_0_1 (broadcastInDim S1x1024 ![1] bcast_S1024_S1x1024_1 b))

theorem res_eq (m : (ℓ : Loc nD τ sig) → Buf (Elt Ideal) ℓ) (c : Dev nD) :
    Value.res_out0 m c = L (Y (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) := rfl

theorem M_at (y : FVec Ideal S32768x1024 .f32) (r : Fin 32768) (z : Fin 1) : M y (ix2 r z) = Norm.mean (fun k => y (ix2 r k)) := by
  pointwise [M, Norm.mean]

theorem D_at (y : FVec Ideal S32768x1024 .f32) (r : Fin 32768) (l : Fin 1024) : D y (ix2 r l) = y (ix2 r l) - Norm.mean (fun k => y (ix2 r k)) := by
  pointwise [D]
  rw [M_at]

theorem L_at (y : FVec Ideal S32768x1024 .f32) (g b : FVec Ideal S1024 .f32) (r : Fin 32768) (l : Fin 1024) :
    L y g b (ix2 r l) = Norm.ln (fun k => y (ix2 r k)) (g (ix1 l)) (b (ix1 l)) l := by
  pointwise [L, Norm.ln]
  simp only [M_at, D_at]
  pointwise [D_at]

theorem Y_at (X : FVec Ideal S32768x1024 .f32) (fx lr : FVec Ideal S32768x512 .bf16) (W : FVec Ideal S1024x1024 .f32) (r : Fin 32768) (l : Fin 1024) :
    Y X fx lr W (ix2 r l) = OutMath.pre (fun k => fx (ix2 r k)) (fun k => lr (ix2 r k)) (fun k => W (ix2 k l)) (X (ix2 r l)) := by
  pointwise [Y, OutMath.pre]

end Cert.OutRefIdeal.Row

end
-- ==== Proof.OutFinal.lean ====
/- The output-projection kernel: the result array is the reference's, row by row. -/
module

public import proofs.«01_k».proof.Proof.OutRef

@[expose] public section

set_option maxRecDepth 16384

noncomputable section

namespace Cert.OutIdeal.Ker

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ)

/-- The windows' blocks: the token arrays move with the point, the others stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

theorem ln_congr {y y' : Fin 1024 → EReal} {g g' b b' : EReal} {l : Fin 1024} (hy : ∀ k, y k = y' k) (hg : g = g') (hb : b = b') :
    Norm.ln y g b l = Norm.ln y' g' b' l := by
  rw [show y = y' from funext hy, hg, hb]

/-- The gain and the shift, as the points find them. -/
theorem gain (c : Dev nD) (t : Fin cfg0.N) (l : Fin 1024) :
    (show FVec Ideal S1x1024 .f32 from iblk m c 5 t) (ix2 0 l) = m ((c : Thread nD τ).loc main_arg4) (ix1 l) := by
  blk_point [iblk, V, idx t]

theorem shift (c : Dev nD) (t : Fin cfg0.N) (l : Fin 1024) :
    (show FVec Ideal S1x1024 .f32 from iblk m c 6 t) (ix2 0 l) = m ((c : Thread nD τ).loc main_arg5) (ix1 l) := by
  blk_point [iblk, V, idx t]

/-- What a point writes: the layer norm of its rows' projection. -/
theorem point (c : Dev nD) (t : Fin cfg0.N) (r : Fin 2048) (l : Fin 1024) (R : Fin 32768) (hR : R.val = t.val * 2048 + r.val) :
    out0_7 (iblk m c 0 t) (iblk m c 1 t) (iblk m c 2 t) (iblk m c 3 t) (iblk m c 4 t) (iblk m c 5 t) (iblk m c 6 t) (ix2 r l)
      = Norm.ln (fun k => OutMath.pre (fun j => m ((c : Thread nD τ).loc main_arg1) (ix2 R j)) (fun j => m ((c : Thread nD τ).loc main_arg2) (ix2 R j))
            (fun j => m ((c : Thread nD τ).loc main_arg3) (ix2 j k)) (m ((c : Thread nD τ).loc main_arg0) (ix2 R k)))
          (m ((c : Thread nD τ).loc main_arg4) (ix1 l)) (m ((c : Thread nD τ).loc main_arg5) (ix1 l)) l := by
  canon_tiles x h
  · idx_vars x
    obtain rfl : x1 = l := Fin.ext h1.symm
    rw [fourth]
    refine ln_congr (fun k => ?_) ?_ ?_
    · pointwise [rows, OutMath.pre]
      blk_point [iblk, V, idx t]
    · pointwise []
      exact gain m c t x1
    · pointwise []
      exact shift m c t x1
  · idx_vars x
    obtain rfl : x1 = l := Fin.ext h1.symm
    rw [third]
    refine ln_congr (fun k => ?_) ?_ ?_
    · pointwise [rows, OutMath.pre]
      blk_point [iblk, V, idx t]
    · pointwise []
      exact gain m c t x1
    · pointwise []
      exact shift m c t x1
  · idx_vars x
    obtain rfl : x1 = l := Fin.ext h1.symm
    rw [second]
    refine ln_congr (fun k => ?_) ?_ ?_
    · pointwise [rows, OutMath.pre]
      blk_point [iblk, V, idx t]
    · pointwise []
      exact gain m c t x1
    · pointwise []
      exact shift m c t x1
  · idx_vars x
    obtain rfl : x1 = l := Fin.ext h1.symm
    rw [first]
    refine ln_congr (fun k => ?_) ?_ ?_
    · pointwise [rows, OutMath.pre]
      blk_point [iblk, V, idx t]
    · pointwise []
      exact gain m c t x1
    · pointwise []
      exact shift m c t x1

/-- The result array after the run is the reference's term over the argument arrays. -/
theorem final (c : Dev nD) : (dats m 0 c).arrAt 7 (cfgs 0).N
    = Cert.OutRefIdeal.Row.L (Cert.OutRefIdeal.Row.Y (m ((c : Thread nD τ).loc main_arg0)) (m ((c : Thread nD τ).loc main_arg1))
        (m ((c : Thread nD τ).loc main_arg2)) (m ((c : Thread nD τ).loc main_arg3)))
      (m ((c : Thread nD τ).loc main_arg4)) (m ((c : Thread nD τ).loc main_arg5)) := by
  refine (dats m 0 c).arrAt_eq_of_covers 7 _ (by decide +kernel) fun t hf y => ?_
  have hN : t.val < 16 := lt_of_lt_of_eq t.isLt (show cfg0.N = 16 from N_0)
  blk_simp
  rw [after0_7]
  idx_vars y
  have e : ((cfg0.win 7).blk t).view.emb (ix2 y0 y1) = ix2 (⟨t.val * 2048 + (y0 : ℕ), by have := y0.isLt; omega⟩ : Fin 32768) (y1 : Fin 1024) := by
    blk_ext [idx t]
  refine (point m c t y0 y1 ⟨t.val * 2048 + (y0 : ℕ), by have := y0.isLt; omega⟩ rfl).trans ?_
  refine Eq.trans ?_ (congrArg (Cert.OutRefIdeal.Row.L _ _ _) e.symm)
  rw [Cert.OutRefIdeal.Row.L_at]
  congr 1
  funext k
  rw [Cert.OutRefIdeal.Row.Y_at]

end Cert.OutIdeal.Ker

end
-- ==== Proof.AttnMath.lean ====
/- The running softmax over the extended reals: one chain's invariant and its step, and the equality of the
   base-two running form with the plain softmax. -/
module

public import Idealize.ShloMosaic.Lib.Pointwise

@[expose] public section

noncomputable section

namespace Cert.AttnMath

open Idealize.ShloMosaic

/-- A score: a real number, or minus infinity where the key is masked. -/
def Sc (x : EReal) : Prop := x = ⊥ ∨ ∃ r : ℝ, x = r

theorem Sc.lt_top {x : EReal} (h : Sc x) : x < ⊤ := by
  rcases h with rfl | ⟨r, rfl⟩
  · exact bot_lt_top
  · exact EReal.coe_lt_top r

/-- After `K` keys: the running maximum is a real number (minus infinity before the first key), and the accumulator is
    the weighted sum of the powers of the scores relative to it. -/
def Inv (sc w : ℕ → EReal) (K : ℕ) (m a : EReal) : Prop :=
  ((K = 0 ∧ m = ⊥) ∨ ∃ x : ℝ, m = x) ∧ a = ∑ k ∈ Finset.range K, Ideal.exp2 (sc k - m) * w k

theorem inv_init (sc w : ℕ → EReal) : Inv sc w 0 ⊥ 0 := ⟨.inl ⟨rfl, rfl⟩, by simp⟩

theorem exp2_nonneg_real (x : ℝ) : (0 : EReal) ≤ Ideal.exp2 (x : EReal) := by
  rw [Ideal.exp2_coe]
  exact_mod_cast (Real.rpow_nonneg (by norm_num) x)

theorem exp2_shift {s : EReal} (hs : Sc s) (x y : ℝ) :
    Ideal.exp2 ((x : EReal) - y) * Ideal.exp2 (s - x) = Ideal.exp2 (s - y) := by
  rcases hs with rfl | ⟨r, rfl⟩
  · simp
  · rw [← EReal.coe_sub, ← EReal.coe_sub, ← EReal.coe_sub, Ideal.exp2_coe, Ideal.exp2_coe, Ideal.exp2_coe,
      ← EReal.coe_mul]
    congr 1
    show (2 : ℝ) ^ (x - y) * (2 : ℝ) ^ (r - x) = (2 : ℝ) ^ (r - y)
    rw [← Real.rpow_add (by norm_num)]
    congr 1
    ring

/-- A nonnegative real factor goes into a sum of any extended reals. -/
theorem mul_sum_real {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, EReal.coe_add, ih]

theorem max_real {n : ℕ} (hn : 0 < n) (S : Fin n → EReal) (hS : ∀ k, Sc (S k)) (m : EReal)
    (hm : (∃ x : ℝ, m = x) ∨ (m = ⊥ ∧ ∃ x : ℝ, S ⟨0, hn⟩ = x)) :
    ∃ y : ℝ, max m (Finset.univ.fold max ⊥ S) = y := by
  have hsup : Finset.univ.fold max ⊥ S = Finset.univ.sup S := rfl
  rw [hsup]
  have hlt : Finset.univ.sup S < ⊤ := by
    rw [Finset.sup_lt_iff bot_lt_top]
    exact fun k _ => (hS k).lt_top
  have hmt : m < ⊤ := by
    rcases hm with ⟨x, rfl⟩ | ⟨rfl, _⟩
    · exact EReal.coe_lt_top x
    · exact bot_lt_top
  have htop : max m (Finset.univ.sup S) ≠ ⊤ := (max_lt hmt hlt).ne
  have hbot : max m (Finset.univ.sup S) ≠ ⊥ := by
    rcases hm with ⟨x, rfl⟩ | ⟨_, x, hx⟩
    · exact ne_of_gt (lt_of_lt_of_le (EReal.bot_lt_coe x) (le_max_left _ _))
    · refine ne_of_gt (lt_of_lt_of_le ?_ ((Finset.le_sup (f := S) (Finset.mem_univ ⟨0, hn⟩)).trans (le_max_right _ _)))
      rw [hx]
      exact EReal.bot_lt_coe x
  exact ⟨(max m (Finset.univ.sup S)).toReal, (EReal.coe_toReal htop hbot).symm⟩

/-- One more tile of `n` keys. -/
theorem inv_step {sc w : ℕ → EReal} (hsc : ∀ k, Sc (sc k)) (h0 : ∃ x : ℝ, sc 0 = x) {K n : ℕ} (hn : 0 < n)
    (S V : Fin n → EReal) (hS : ∀ k : Fin n, S k = sc (K + k)) (hV : ∀ k : Fin n, V k = w (K + k)) {m a m' a' : EReal}
    (h : Inv sc w K m a) (hm' : m' = max m (Finset.univ.fold max ⊥ S))
    (ha' : a' = Ideal.exp2 (m - m') * a + ∑ k, V k * Ideal.exp2 (S k - m')) : Inv sc w (K + n) m' a' := by
  obtain ⟨hm, ha⟩ := h
  obtain ⟨y, hy⟩ : ∃ y : ℝ, m' = y := by
    rw [hm']
    refine max_real hn S (fun k => by rw [hS]; exact hsc _) m ?_
    rcases hm with ⟨rfl, hb⟩ | hx
    · refine .inr ⟨hb, ?_⟩
      rw [hS]
      exact h0
    · exact .inl hx
  clear hm'
  subst hy
  refine ⟨.inr ⟨y, rfl⟩, ?_⟩
  rw [ha', Finset.sum_range_add, ha]
  congr 1
  · rcases hm with ⟨rfl, rfl⟩ | ⟨x, rfl⟩
    · simp
    · rw [← EReal.coe_sub, Ideal.exp2_coe, mul_sum_real _ (Real.rpow 2 (x - y)) (Real.rpow_nonneg (by norm_num : (0 : ℝ) ≤ 2) _)]
      refine Finset.sum_congr rfl fun k _ => ?_
      rw [← mul_assoc, ← Ideal.exp2_coe, EReal.coe_sub, exp2_shift (hsc k)]
  · rw [Finset.sum_range]
    refine Finset.sum_congr rfl fun k _ => ?_
    rw [hS, hV, mul_comm]

/-- Masked keys add nothing. -/
theorem inv_extend {sc w : ℕ → EReal} {K N : ℕ} (hKN : K ≤ N) (hK : 0 < K) (hb : ∀ k, K ≤ k → sc k = ⊥) {m a : EReal}
    (h : Inv sc w K m a) : Inv sc w N m a := by
  obtain ⟨hm, ha⟩ := h
  refine ⟨.inr ?_, ?_⟩
  · rcases hm with ⟨h, _⟩ | h
    · omega
    · exact h
  · rw [ha]
    refine Finset.sum_subset (Finset.range_mono hKN) fun k _ hk => ?_
    rw [hb k (by simpa using hk), EReal.bot_sub]
    simp

theorem exp2_of_scaled (z m : ℝ) :
    Ideal.exp2 ((z : EReal) * ((1 / Real.log 2 : ℝ) : EReal) - (m : EReal)) = ((Real.exp (z - m * Real.log 2) : ℝ) : EReal) := by
  rw [← EReal.coe_mul, ← EReal.coe_sub, Ideal.exp2_coe]
  congr 1
  show (2 : ℝ) ^ (z * (1 / Real.log 2) - m) = _
  have h2 : Real.log 2 ≠ 0 := (Real.log_pos (by norm_num)).ne'
  rw [Real.rpow_def_of_pos (by norm_num)]
  congr 1
  field_simp

theorem scaled_bot : (⊥ : EReal) * ((1 / Real.log 2 : ℝ) : EReal) = ⊥ :=
  EReal.bot_mul_coe_of_pos (one_div_pos.2 (Real.log_pos (by norm_num)))

/-- The weights of the plain softmax are those of the base-two running form. -/
theorem softmax_eq {n : ℕ} (z : Fin n → EReal) (hz : ∀ k, Sc (z k)) (k0 : Fin n) (h0 : ∃ x : ℝ, z k0 = x)
    (m M : ℝ) (v : Fin n → EReal) :
    Ideal.div (∑ k, Ideal.exp2 (z k * ((1 / Real.log 2 : ℝ) : EReal) - m) * v k)
        (∑ k, Ideal.exp2 (z k * ((1 / Real.log 2 : ℝ) : EReal) - m) * 1)
      = ∑ k, Ideal.div (Ideal.exp (z k - M)) (∑ l, Ideal.exp (z l - M)) * v k := by
  classical
  choose f hf hpos using show ∀ k, ∃ f : ℝ, Ideal.exp (z k - M) = (f : EReal) ∧ 0 ≤ f ∧ (k = k0 → 0 < f) from by
    intro k
    rcases hz k with h | ⟨r, h⟩
    · refine ⟨0, ?_, le_refl _, ?_⟩
      · rw [h, EReal.bot_sub]
        simp
      · rintro rfl
        obtain ⟨x, hx⟩ := h0
        rw [hx] at h
        exact absurd h (EReal.coe_ne_bot x)
    · refine ⟨Real.exp (r - M), ?_, (Real.exp_pos _).le, fun _ => Real.exp_pos _⟩
      rw [h, ← EReal.coe_sub, Ideal.exp_coe]
  have he : ∀ k, Ideal.exp2 (z k * ((1 / Real.log 2 : ℝ) : EReal) - m)
      = ((Real.exp (M - m * Real.log 2) * f k : ℝ) : EReal) := by
    intro k
    have hk := hf k
    rcases hz k with h | ⟨r, h⟩
    · rw [h, EReal.bot_sub] at hk
      have : f k = 0 := by
        have h1 : (0 : EReal) = (f k : EReal) := by simpa using hk
        exact_mod_cast h1.symm
      rw [h, scaled_bot, EReal.bot_sub, this]
      simp
    · rw [h, ← EReal.coe_sub, Ideal.exp_coe] at hk
      have : f k = Real.exp (r - M) := by exact_mod_cast hk.symm
      rw [h, exp2_of_scaled, this, ← Real.exp_add]
      congr 2
      ring
  have hFpos : 0 < ∑ k, f k :=
    Finset.sum_pos' (fun k _ => (hpos k).1) ⟨k0, Finset.mem_univ _, (hpos k0).2 rfl⟩
  have hF : ∑ l, Ideal.exp (z l - M) = ((∑ l, f l : ℝ) : EReal) := by
    rw [Finset.sum_congr rfl fun l _ => hf l, sum_coe]
  set c := Real.exp (M - m * Real.log 2) with hc
  have hcpos : 0 < c := Real.exp_pos _
  have hE : (∑ k, Ideal.exp2 (z k * ((1 / Real.log 2 : ℝ) : EReal) - m) * 1) = ((c * ∑ l, f l : ℝ) : EReal) := by
    rw [Finset.mul_sum]
    rw [← sum_coe]
    exact Finset.sum_congr rfl fun k _ => by rw [he k, mul_one]
  rw [hE, hF, Ideal.div_coe (mul_pos hcpos hFpos).ne', mul_comm,
    mul_sum_real _ _ (one_div_nonneg.2 (mul_pos hcpos hFpos).le)]
  refine Finset.sum_congr rfl fun k _ => ?_
  rw [Ideal.div_coe hFpos.ne', hf, he, ← mul_assoc, ← EReal.coe_mul, ← EReal.coe_mul]
  congr 2
  field_simp

end Cert.AttnMath

end
-- ==== Proof.AttnChain.lean ====
/- One chain of the attention kernel: 256 queries of one head, whose running maxima and accumulators take one tile of keys. -/
module

public import proofs.«01_k».proof.Proof.AttnMath
public import proofs.«01_k».proof.Proof.Gen.AttnIdeal.Value
public import Idealize.ShloMosaic.Lib.Pipeline.ValueKit
public import Idealize.ShloMosaic.Lib.Pipeline.ReadBack
public import Idealize.ShloMosaic.Lib.WordCmp

@[expose] public section

set_option maxRecDepth 16384

noncomputable section

namespace Cert.AttnIdeal.Ker

open Cert.AttnIdeal Cert.AttnIdeal.Gen Idealize.ShloMosaic Idealize.ShloMosaic.TcCoe Idealize.SL.Sem
open Cert.AttnMath

/-- The bf16 word of 1.0, as the kernel spells it. -/
abbrev one : Ideal .bf16 := FloatOps.ofBits (F := Ideal) FTy.bf16 0x3F80#16

/-- The chain's state: its maxima `m` and accumulators `a` after `K` keys, for the 256 queries that begin at `c`. -/
def StV (sc : Fin 512 → ℕ → EReal) (w : Fin 128 → ℕ → EReal) (c K : ℕ) (m : Vec Ideal S1x1x256 .f32)
    (a : Vec Ideal S1x128x256 .f32) : Prop :=
  ∀ (q : Fin 256) (r : Fin 128) (Q : Fin 512), Q.val = c + q.val →
    Inv (sc Q) (w r) K (m (ix3 0 0 q)) (a (ix3 0 r q))

theorem neg_inf : Ideal.ofBits .f32 0xFF800000#32 = ⊥ := by simp [Ideal.ofBits, Ideal.ieee]

theorem mask_bot : Named.named (F := Ideal) (φ := .f32) κ "mask" 0xF149F2CA#32 = (⊥ : EReal) := rfl

/-- The lower half of the rows is a head's own in the first case, the upper half in the second. -/
theorem own_lo (r : Fin 128) (x : EReal) :
    Scalar.select (IntOp.andi (IntOp.cmpi CmpIPredicate.sge (BitVec.ofNat 32 r.val) 0#32)
      (IntOp.cmpi CmpIPredicate.slt (BitVec.ofNat 32 r.val) 64#32)) x 1 = if r.val < 64 then x else 1 := by
  have h : ∀ r : Fin 128, (IntOp.andi (IntOp.cmpi CmpIPredicate.sge (BitVec.ofNat 32 r.val) 0#32)
      (IntOp.cmpi CmpIPredicate.slt (BitVec.ofNat 32 r.val) 64#32)) = if r.val < 64 then 1#1 else 0#1 := by decide
  rw [h]
  by_cases hr : r.val < 64
  · rw [if_pos hr, if_pos hr]; rfl
  · rw [if_neg hr, if_neg hr]; rfl

theorem own_hi (r : Fin 128) (x : EReal) :
    Scalar.select (IntOp.andi (IntOp.cmpi CmpIPredicate.sge (BitVec.ofNat 32 r.val) 64#32)
      (IntOp.cmpi CmpIPredicate.slt (BitVec.ofNat 32 r.val) 128#32)) x 1 = if 64 ≤ r.val then x else 1 := by
  have h : ∀ r : Fin 128, (IntOp.andi (IntOp.cmpi CmpIPredicate.sge (BitVec.ofNat 32 r.val) 64#32)
      (IntOp.cmpi CmpIPredicate.slt (BitVec.ofNat 32 r.val) 128#32)) = if 64 ≤ r.val then 1#1 else 0#1 := by decide
  rw [h]
  by_cases hr : 64 ≤ r.val
  · rw [if_pos hr, if_pos hr]; rfl
  · rw [if_neg hr, if_neg hr]; rfl

/-- Head 0 of the pair, a tile of 512 keys: the new maxima, -/
def newM512_0 (S : FVec Ideal S512x256 .f32) (m : Vec Ideal S1x1x256 .f32) : Vec Ideal S1x1x256 .f32 :=
  k0_pay20 (F := Ideal) S m

/-- and the new accumulators. -/
def newA512_0 (V : FVec Ideal S128x512 .bf16) (S : FVec Ideal S512x256 .f32) (m : Vec Ideal S1x1x256 .f32)
    (a : Vec Ideal S1x128x256 .f32) : Vec Ideal S1x128x256 .f32 :=
  k0_pay19 (F := Ideal) one V S m a

theorem newM512_0_at (S : FVec Ideal S512x256 .f32) (m : Vec Ideal S1x1x256 .f32) (q : Fin 256) :
    newM512_0 S m (ix3 0 0 q) = max (m (ix3 0 0 q)) (Finset.univ.fold max ⊥ fun k : Fin 512 => S (ix2 k q)) := by
  unfold newM512_0
  pointwise [k0_pay19, k0_pay20, k0_pay18, k0_pay17, neg_inf]

theorem newA512_0_at (V : FVec Ideal S128x512 .bf16) (S : FVec Ideal S512x256 .f32) (m : Vec Ideal S1x1x256 .f32)
    (a : Vec Ideal S1x128x256 .f32) (r : Fin 128) (q : Fin 256) :
    newA512_0 V S m a (ix3 0 r q)
      = Ideal.exp2 (m (ix3 0 0 q) - newM512_0 S m (ix3 0 0 q)) * a (ix3 0 r q)
        + ∑ k : Fin 512, (if r.val < 64 then V (ix2 r k) else 1) * Ideal.exp2 (S (ix2 k q) - newM512_0 S m (ix3 0 0 q)) := by
  unfold newA512_0 newM512_0
  pointwise [k0_pay19, k0_pay20, k0_pay18, k0_pay17]
  simp only [own_lo]
  rfl

/-- One tile of 512 keys, head 0. -/
theorem step512_0 {sc : Fin 512 → ℕ → EReal} {w : Fin 128 → ℕ → EReal} (hsc : ∀ Q k, Sc (sc Q k))
    (h0 : ∀ Q, ∃ x : ℝ, sc Q 0 = x) {c K : ℕ} (V : FVec Ideal S128x512 .bf16) (S : FVec Ideal S512x256 .f32)
    (hS : ∀ (k : Fin 512) (q : Fin 256) (Q : Fin 512), Q.val = c + q.val → S (ix2 k q) = sc Q (K + k.val))
    (hV : ∀ (r : Fin 128) (k : Fin 512), (if r.val < 64 then V (ix2 r k) else 1) = w r (K + k.val))
    {m : Vec Ideal S1x1x256 .f32} {a : Vec Ideal S1x128x256 .f32} (h : StV sc w c K m a) :
    StV sc w c (K + 512) (newM512_0 S m) (newA512_0 V S m a) := fun q r Q hQ =>
  inv_step (hsc Q) (h0 Q) (by norm_num) (fun k => S (ix2 k q)) (fun k => if r.val < 64 then V (ix2 r k) else 1)
    (fun k => hS k q Q hQ) (fun k => hV r k) (h q r Q hQ) (newM512_0_at S m q) (newA512_0_at V S m a r q)

/-- Head 1 of the pair, a tile of 512 keys: the new maxima, -/
def newM512_1 (S : FVec Ideal S512x256 .f32) (m : Vec Ideal S1x1x256 .f32) : Vec Ideal S1x1x256 .f32 :=
  k0_pay49 (F := Ideal) S m

/-- and the new accumulators. -/
def newA512_1 (V : FVec Ideal S128x512 .bf16) (S : FVec Ideal S512x256 .f32) (m : Vec Ideal S1x1x256 .f32)
    (a : Vec Ideal S1x128x256 .f32) : Vec Ideal S1x128x256 .f32 :=
  k0_pay48 (F := Ideal) one V S m a

theorem newM512_1_at (S : FVec Ideal S512x256 .f32) (m : Vec Ideal S1x1x256 .f32) (q : Fin 256) :
    newM512_1 S m (ix3 0 0 q) = max (m (ix3 0 0 q)) (Finset.univ.fold max ⊥ fun k : Fin 512 => S (ix2 k q)) := by
  unfold newM512_1
  pointwise [k0_pay48, k0_pay49, k0_pay47, k0_pay46, neg_inf]

theorem newA512_1_at (V : FVec Ideal S128x512 .bf16) (S : FVec Ideal S512x256 .f32) (m : Vec Ideal S1x1x256 .f32)
    (a : Vec Ideal S1x128x256 .f32) (r : Fin 128) (q : Fin 256) :
    newA512_1 V S m a (ix3 0 r q)
      = Ideal.exp2 (m (ix3 0 0 q) - newM512_1 S m (ix3 0 0 q)) * a (ix3 0 r q)
        + ∑ k : Fin 512, (if 64 ≤ r.val then V (ix2 r k) else 1) * Ideal.exp2 (S (ix2 k q) - newM512_1 S m (ix3 0 0 q)) := by
  unfold newA512_1 newM512_1
  pointwise [k0_pay48, k0_pay49, k0_pay47, k0_pay46]
  simp only [own_hi]
  rfl

/-- One tile of 512 keys, head 1. -/
theorem step512_1 {sc : Fin 512 → ℕ → EReal} {w : Fin 128 → ℕ → EReal} (hsc : ∀ Q k, Sc (sc Q k))
    (h0 : ∀ Q, ∃ x : ℝ, sc Q 0 = x) {c K : ℕ} (V : FVec Ideal S128x512 .bf16) (S : FVec Ideal S512x256 .f32)
    (hS : ∀ (k : Fin 512) (q : Fin 256) (Q : Fin 512), Q.val = c + q.val → S (ix2 k q) = sc Q (K + k.val))
    (hV : ∀ (r : Fin 128) (k : Fin 512), (if 64 ≤ r.val then V (ix2 r k) else 1) = w r (K + k.val))
    {m : Vec Ideal S1x1x256 .f32} {a : Vec Ideal S1x128x256 .f32} (h : StV sc w c K m a) :
    StV sc w c (K + 512) (newM512_1 S m) (newA512_1 V S m a) := fun q r Q hQ =>
  inv_step (hsc Q) (h0 Q) (by norm_num) (fun k => S (ix2 k q)) (fun k => if 64 ≤ r.val then V (ix2 r k) else 1)
    (fun k => hS k q Q hQ) (fun k => hV r k) (h q r Q hQ) (newM512_1_at S m q) (newA512_1_at V S m a r q)

/-- Head 0 of the pair, a tile of 256 keys: the new maxima, -/
def newM256_0 (S : FVec Ideal S256x256 .f32) (m : Vec Ideal S1x1x256 .f32) : Vec Ideal S1x1x256 .f32 :=
  k0_pay166 (F := Ideal) S m

/-- and the new accumulators. -/
def newA256_0 (V : FVec Ideal S128x256 .bf16) (S : FVec Ideal S256x256 .f32) (m : Vec Ideal S1x1x256 .f32)
    (a : Vec Ideal S1x128x256 .f32) : Vec Ideal S1x128x256 .f32 :=
  k0_pay165 (F := Ideal) one V S m a

theorem newM256_0_at (S : FVec Ideal S256x256 .f32) (m : Vec Ideal S1x1x256 .f32) (q : Fin 256) :
    newM256_0 S m (ix3 0 0 q) = max (m (ix3 0 0 q)) (Finset.univ.fold max ⊥ fun k : Fin 256 => S (ix2 k q)) := by
  unfold newM256_0
  pointwise [k0_pay165, k0_pay166, k0_pay164, k0_pay163, neg_inf]

theorem newA256_0_at (V : FVec Ideal S128x256 .bf16) (S : FVec Ideal S256x256 .f32) (m : Vec Ideal S1x1x256 .f32)
    (a : Vec Ideal S1x128x256 .f32) (r : Fin 128) (q : Fin 256) :
    newA256_0 V S m a (ix3 0 r q)
      = Ideal.exp2 (m (ix3 0 0 q) - newM256_0 S m (ix3 0 0 q)) * a (ix3 0 r q)
        + ∑ k : Fin 256, (if r.val < 64 then V (ix2 r k) else 1) * Ideal.exp2 (S (ix2 k q) - newM256_0 S m (ix3 0 0 q)) := by
  unfold newA256_0 newM256_0
  pointwise [k0_pay165, k0_pay166, k0_pay164, k0_pay163]
  simp only [own_lo]
  rfl

/-- One tile of 256 keys, head 0. -/
theorem step256_0 {sc : Fin 512 → ℕ → EReal} {w : Fin 128 → ℕ → EReal} (hsc : ∀ Q k, Sc (sc Q k))
    (h0 : ∀ Q, ∃ x : ℝ, sc Q 0 = x) {c K : ℕ} (V : FVec Ideal S128x256 .bf16) (S : FVec Ideal S256x256 .f32)
    (hS : ∀ (k : Fin 256) (q : Fin 256) (Q : Fin 512), Q.val = c + q.val → S (ix2 k q) = sc Q (K + k.val))
    (hV : ∀ (r : Fin 128) (k : Fin 256), (if r.val < 64 then V (ix2 r k) else 1) = w r (K + k.val))
    {m : Vec Ideal S1x1x256 .f32} {a : Vec Ideal S1x128x256 .f32} (h : StV sc w c K m a) :
    StV sc w c (K + 256) (newM256_0 S m) (newA256_0 V S m a) := fun q r Q hQ =>
  inv_step (hsc Q) (h0 Q) (by norm_num) (fun k => S (ix2 k q)) (fun k => if r.val < 64 then V (ix2 r k) else 1)
    (fun k => hS k q Q hQ) (fun k => hV r k) (h q r Q hQ) (newM256_0_at S m q) (newA256_0_at V S m a r q)

/-- Head 1 of the pair, a tile of 256 keys: the new maxima, -/
def newM256_1 (S : FVec Ideal S256x256 .f32) (m : Vec Ideal S1x1x256 .f32) : Vec Ideal S1x1x256 .f32 :=
  k0_pay176 (F := Ideal) S (k0_pay173 m)

/-- and the new accumulators. -/
def newA256_1 (V : FVec Ideal S128x256 .bf16) (S : FVec Ideal S256x256 .f32) (m : Vec Ideal S1x1x256 .f32)
    (a : Vec Ideal S1x128x256 .f32) : Vec Ideal S1x128x256 .f32 :=
  k0_pay175 (F := Ideal) one V S (k0_pay173 m) a

theorem newM256_1_at (S : FVec Ideal S256x256 .f32) (m : Vec Ideal S1x1x256 .f32) (q : Fin 256) :
    newM256_1 S m (ix3 0 0 q) = max (m (ix3 0 0 q)) (Finset.univ.fold max ⊥ fun k : Fin 256 => S (ix2 k q)) := by
  unfold newM256_1
  pointwise [k0_pay175, k0_pay176, k0_pay174, k0_pay173, neg_inf]

theorem newA256_1_at (V : FVec Ideal S128x256 .bf16) (S : FVec Ideal S256x256 .f32) (m : Vec Ideal S1x1x256 .f32)
    (a : Vec Ideal S1x128x256 .f32) (r : Fin 128) (q : Fin 256) :
    newA256_1 V S m a (ix3 0 r q)
      = Ideal.exp2 (m (ix3 0 0 q) - newM256_1 S m (ix3 0 0 q)) * a (ix3 0 r q)
        + ∑ k : Fin 256, (if 64 ≤ r.val then V (ix2 r k) else 1) * Ideal.exp2 (S (ix2 k q) - newM256_1 S m (ix3 0 0 q)) := by
  unfold newA256_1 newM256_1
  pointwise [k0_pay175, k0_pay176, k0_pay174, k0_pay173]
  simp only [own_hi]
  rfl

/-- One tile of 256 keys, head 1. -/
theorem step256_1 {sc : Fin 512 → ℕ → EReal} {w : Fin 128 → ℕ → EReal} (hsc : ∀ Q k, Sc (sc Q k))
    (h0 : ∀ Q, ∃ x : ℝ, sc Q 0 = x) {c K : ℕ} (V : FVec Ideal S128x256 .bf16) (S : FVec Ideal S256x256 .f32)
    (hS : ∀ (k : Fin 256) (q : Fin 256) (Q : Fin 512), Q.val = c + q.val → S (ix2 k q) = sc Q (K + k.val))
    (hV : ∀ (r : Fin 128) (k : Fin 256), (if 64 ≤ r.val then V (ix2 r k) else 1) = w r (K + k.val))
    {m : Vec Ideal S1x1x256 .f32} {a : Vec Ideal S1x128x256 .f32} (h : StV sc w c K m a) :
    StV sc w c (K + 256) (newM256_1 S m) (newA256_1 V S m a) := fun q r Q hQ =>
  inv_step (hsc Q) (h0 Q) (by norm_num) (fun k => S (ix2 k q)) (fun k => if 64 ≤ r.val then V (ix2 r k) else 1)
    (fun k => hS k q Q hQ) (fun k => hV r k) (h q r Q hQ) (newM256_1_at S m q) (newA256_1_at V S m a r q)

/-! ### Scores -/

/-- The unmasked score of one query against one key: the head's lanes, then the forget-gate lanes. -/
def raw (x2 x3 : Vec Ideal S1x4096x128 .bf16) (qa : FVec Ideal S256x512 .bf16) (Q : Fin 512) (k : Fin 4096) : EReal :=
  (∑ l : Fin 128, x2 (ix3 0 k l) * qa (ix2 ⟨l.val, by omega⟩ Q)) + ∑ l : Fin 128, x3 (ix3 0 k l) * qa (ix2 ⟨128 + l.val, by omega⟩ Q)

/-- The causally masked score, by the key's number. -/
def sc (x2 x3 : Vec Ideal S1x4096x128 .bf16) (qa : FVec Ideal S256x512 .bf16) (qi : ℕ) (Q : Fin 512) (k : ℕ) : EReal :=
  if h : k < 4096 then (if k ≤ 512 * qi + Q.val then raw x2 x3 qa Q ⟨k, h⟩ else ⊥) else ⊥

/-- The weights: the head's own rows hold the values, the other rows hold ones. -/
def wt (own : Fin 128 → Prop) [DecidablePred own] (x4 : Vec Ideal S1x128x4096 .bf16) (r : Fin 128) (k : ℕ) : EReal :=
  if own r then (if h : k < 4096 then x4 (ix3 0 r ⟨k, h⟩) else 0) else 1

def lo (r : Fin 128) : Prop := r.val < 64
def hi (r : Fin 128) : Prop := 64 ≤ r.val
instance : DecidablePred lo := fun r => inferInstanceAs (Decidable (r.val < 64))
instance : DecidablePred hi := fun r => inferInstanceAs (Decidable (64 ≤ r.val))

/-- The scores of 512 keys against the first 256 queries, -/
def sF0 (qa : FVec Ideal S256x512 .bf16) (k ak : Vec Ideal S1x512x128 .bf16) : FVec Ideal S512x256 .f32 :=
  matmul dot_S512x256_S256x256_S512x256_1_0_0_1_n_n none (k0_pay157 k ak)
    (extractStridedSlice S256x256 ![0, 0] qa slices_S256x512_o0_0_S256x256) (constant S512x256 .f32 0x00000000#32)

/-- and against the last 256. -/
def sF1 (qa : FVec Ideal S256x512 .bf16) (k ak : Vec Ideal S1x512x128 .bf16) : FVec Ideal S512x256 .f32 := k0_pay159 qa k ak

/-- The masked scores of a diagonal tile: 256 keys against the first 256 queries, -/
def sM0 (qa : FVec Ideal S256x512 .bf16) (k ak : Vec Ideal S1x256x128 .bf16) : FVec Ideal S256x256 .f32 := k0_pay162 qa k ak

/-- and 512 keys against the last 256. -/
def sM1 (qa : FVec Ideal S256x512 .bf16) (k ak : Vec Ideal S1x512x128 .bf16) : FVec Ideal S512x256 .f32 := k0_pay167 (k0_pay159 qa k ak)

theorem mask_lo (q y : Fin 256) (x : EReal) :
    Scalar.select (IntOp.cmpi CmpIPredicate.sge (IntOp.addi (BitVec.ofNat 32 q.val) 0#32) (BitVec.ofNat 32 y.val)) x
      (Named.named (F := Ideal) (φ := .f32) κ "mask" 0xF149F2CA#32) = if y.val ≤ q.val then x else ⊥ := by
  have h : IntOp.cmpi CmpIPredicate.sge (IntOp.addi (BitVec.ofNat 32 q.val) 0#32) (BitVec.ofNat 32 y.val)
      = if y.val ≤ q.val then 1#1 else 0#1 := by
    have hq := q.isLt
    have hy := y.isLt
    unfold IntOp.addi
    rw [show BitVec.ofNat 32 q.val + 0#32 = BitVec.ofNat 32 q.val by simp]
    word_cmp
    by_cases hr : y.val ≤ q.val <;> simp [hr]
  rw [h, mask_bot]
  by_cases hr : y.val ≤ q.val
  · rw [if_pos hr, if_pos hr]; rfl
  · rw [if_neg hr, if_neg hr]; rfl

theorem mask_hi (q : Fin 256) (y : Fin 512) (x : EReal) :
    Scalar.select (IntOp.cmpi CmpIPredicate.sge (IntOp.addi (BitVec.ofNat 32 q.val) 256#32) (BitVec.ofNat 32 y.val)) x
      (Named.named (F := Ideal) (φ := .f32) κ "mask" 0xF149F2CA#32) = if y.val ≤ 256 + q.val then x else ⊥ := by
  have h : IntOp.cmpi CmpIPredicate.sge (IntOp.addi (BitVec.ofNat 32 q.val) 256#32) (BitVec.ofNat 32 y.val)
      = if y.val ≤ 256 + q.val then 1#1 else 0#1 := by
    have hq := q.isLt
    have hy := y.isLt
    unfold IntOp.addi
    rw [show BitVec.ofNat 32 q.val + 256#32 = BitVec.ofNat 32 (256 + q.val) by
      rw [Nat.add_comm, BitVec.ofNat_add]]
    word_cmp
    by_cases hr : y.val ≤ 256 + q.val <;> simp [hr]
  rw [h, mask_bot]
  by_cases hr : y.val ≤ 256 + q.val
  · rw [if_pos hr, if_pos hr]; rfl
  · rw [if_neg hr, if_neg hr]; rfl

theorem sF0_at (qa : FVec Ideal S256x512 .bf16) (k ak : Vec Ideal S1x512x128 .bf16) (y : Fin 512) (q : Fin 256) :
    sF0 qa k ak (ix2 y q) = (∑ l : Fin 128, k (ix3 0 y l) * qa (ix2 ⟨l.val, by omega⟩ ⟨q.val, by omega⟩))
      + ∑ l : Fin 128, ak (ix3 0 y l) * qa (ix2 ⟨128 + l.val, by omega⟩ ⟨q.val, by omega⟩) := by
  pointwise [sF0, k0_pay157]

theorem sF1_at (qa : FVec Ideal S256x512 .bf16) (k ak : Vec Ideal S1x512x128 .bf16) (y : Fin 512) (q : Fin 256) :
    sF1 qa k ak (ix2 y q) = (∑ l : Fin 128, k (ix3 0 y l) * qa (ix2 ⟨l.val, by omega⟩ ⟨256 + q.val, by omega⟩))
      + ∑ l : Fin 128, ak (ix3 0 y l) * qa (ix2 ⟨128 + l.val, by omega⟩ ⟨256 + q.val, by omega⟩) := by
  pointwise [sF1, k0_pay159, k0_pay157]

theorem sM0_at (qa : FVec Ideal S256x512 .bf16) (k ak : Vec Ideal S1x256x128 .bf16) (y : Fin 256) (q : Fin 256) :
    sM0 qa k ak (ix2 y q) = if y.val ≤ q.val then (∑ l : Fin 128, k (ix3 0 y l) * qa (ix2 ⟨l.val, by omega⟩ ⟨q.val, by omega⟩))
      + ∑ l : Fin 128, ak (ix3 0 y l) * qa (ix2 ⟨128 + l.val, by omega⟩ ⟨q.val, by omega⟩) else ⊥ := by
  pointwise [sM0, k0_pay162, k0_pay155]
  exact mask_lo q y _

theorem sM1_at (qa : FVec Ideal S256x512 .bf16) (k ak : Vec Ideal S1x512x128 .bf16) (y : Fin 512) (q : Fin 256) :
    sM1 qa k ak (ix2 y q) = if y.val ≤ 256 + q.val then sF1 qa k ak (ix2 y q) else ⊥ := by
  pointwise [sM1, k0_pay167, sF1]
  exact mask_hi q y _

/-! ### One tile, from the staged operands -/

section Tile

variable {x2 x3 : Vec Ideal S1x4096x128 .bf16} {x4 : Vec Ideal S1x128x4096 .bf16} {qa : FVec Ideal S256x512 .bf16} {qi : ℕ}

theorem sc_Sc (hr : ∀ Q k, ∃ r : ℝ, raw x2 x3 qa Q k = r) (Q : Fin 512) (k : ℕ) : Sc (sc x2 x3 qa qi Q k) := by
  unfold sc
  split_ifs
  · exact .inr (hr _ _)
  · exact .inl rfl
  · exact .inl rfl

theorem sc_zero (hr : ∀ Q k, ∃ r : ℝ, raw x2 x3 qa Q k = r) (Q : Fin 512) : ∃ r : ℝ, sc x2 x3 qa qi Q 0 = r := by
  unfold sc
  rw [dif_pos (by norm_num), if_pos (Nat.zero_le _)]
  exact hr _ _

theorem tileF_0_0 (hr : ∀ Q k, ∃ r : ℝ, raw x2 x3 qa Q k = r) {K : ℕ} (hK : K + 512 ≤ 512 * qi) (hqi : qi < 8)
    {kb akb : Vec Ideal S1x512x128 .bf16} {V : FVec Ideal S128x512 .bf16}
    (hk : ∀ (y : Fin 512) (l : Fin 128) (k : Fin 4096), k.val = K + y.val → kb (ix3 0 y l) = x2 (ix3 0 k l))
    (hak : ∀ (y : Fin 512) (l : Fin 128) (k : Fin 4096), k.val = K + y.val → akb (ix3 0 y l) = x3 (ix3 0 k l))
    (hv : ∀ (r : Fin 128) (y : Fin 512) (k : Fin 4096), k.val = K + y.val → V (ix2 r y) = x4 (ix3 0 r k))
    {m : Vec Ideal S1x1x256 .f32} {a : Vec Ideal S1x128x256 .f32} (h : StV (sc x2 x3 qa qi) (wt lo x4) 0 K m a) :
    StV (sc x2 x3 qa qi) (wt lo x4) 0 (K + 512) (newM512_0 (sF0 qa kb akb) m) (newA512_0 V (sF0 qa kb akb) m a) := by
  refine step512_0 (sc_Sc hr) (sc_zero hr) V _ ?_ ?_ h
  · intro k q Q hQ
    have hk4 : K + k.val < 4096 := by omega
    obtain rfl : Q = ⟨q.val, Nat.lt_trans q.isLt (by norm_num)⟩ := Fin.ext (by simpa using hQ)
    have e : ∀ l, kb (ix3 0 k l) = x2 (ix3 0 ⟨K + k.val, hk4⟩ l) := fun l => hk k l ⟨K + k.val, hk4⟩ rfl
    have e' : ∀ l, akb (ix3 0 k l) = x3 (ix3 0 ⟨K + k.val, hk4⟩ l) := fun l => hak k l ⟨K + k.val, hk4⟩ rfl
    rw [sF0_at]
    simp only [e, e']
    unfold sc raw
    rw [dif_pos hk4, if_pos (by simp only; omega)]
  · intro r k
    have hk4 : K + k.val < 4096 := by omega
    unfold wt
    by_cases ho : r.val < 64
    · rw [if_pos ho, if_pos (show lo r from ho), dif_pos hk4]
      exact hv r k ⟨K + k.val, hk4⟩ rfl
    · rw [if_neg ho, if_neg (show ¬ lo r from ho)]

theorem tileM_0_0 (hr : ∀ Q k, ∃ r : ℝ, raw x2 x3 qa Q k = r) {K : ℕ} (hK : K = 512 * qi) (hqi : qi < 8)
    {kb akb : Vec Ideal S1x256x128 .bf16} {V : FVec Ideal S128x256 .bf16}
    (hk : ∀ (y : Fin 256) (l : Fin 128) (k : Fin 4096), k.val = K + y.val → kb (ix3 0 y l) = x2 (ix3 0 k l))
    (hak : ∀ (y : Fin 256) (l : Fin 128) (k : Fin 4096), k.val = K + y.val → akb (ix3 0 y l) = x3 (ix3 0 k l))
    (hv : ∀ (r : Fin 128) (y : Fin 256) (k : Fin 4096), k.val = K + y.val → V (ix2 r y) = x4 (ix3 0 r k))
    {m : Vec Ideal S1x1x256 .f32} {a : Vec Ideal S1x128x256 .f32} (h : StV (sc x2 x3 qa qi) (wt lo x4) 0 K m a) :
    StV (sc x2 x3 qa qi) (wt lo x4) 0 (K + 256) (newM256_0 (sM0 qa kb akb) m) (newA256_0 V (sM0 qa kb akb) m a) := by
  refine step256_0 (sc_Sc hr) (sc_zero hr) V _ ?_ ?_ h
  · intro k q Q hQ
    have hk4 : K + k.val < 4096 := by omega
    obtain rfl : Q = ⟨q.val, Nat.lt_trans q.isLt (by norm_num)⟩ := Fin.ext (by simpa using hQ)
    have e : ∀ l, kb (ix3 0 k l) = x2 (ix3 0 ⟨K + k.val, hk4⟩ l) := fun l => hk k l ⟨K + k.val, hk4⟩ rfl
    have e' : ∀ l, akb (ix3 0 k l) = x3 (ix3 0 ⟨K + k.val, hk4⟩ l) := fun l => hak k l ⟨K + k.val, hk4⟩ rfl
    rw [sM0_at]
    simp only [e, e']
    unfold sc raw
    rw [dif_pos hk4]
    by_cases hc : k.val ≤ q.val
    · rw [if_pos hc, if_pos (by simp only; omega)]
    · rw [if_neg hc, if_neg (by simp only; omega)]
  · intro r k
    have hk4 : K + k.val < 4096 := by omega
    unfold wt
    by_cases ho : r.val < 64
    · rw [if_pos ho, if_pos (show lo r from ho), dif_pos hk4]
      exact hv r k ⟨K + k.val, hk4⟩ rfl
    · rw [if_neg ho, if_neg (show ¬ lo r from ho)]

theorem tileF_0_1 (hr : ∀ Q k, ∃ r : ℝ, raw x2 x3 qa Q k = r) {K : ℕ} (hK : K + 512 ≤ 512 * qi) (hqi : qi < 8)
    {kb akb : Vec Ideal S1x512x128 .bf16} {V : FVec Ideal S128x512 .bf16}
    (hk : ∀ (y : Fin 512) (l : Fin 128) (k : Fin 4096), k.val = K + y.val → kb (ix3 0 y l) = x2 (ix3 0 k l))
    (hak : ∀ (y : Fin 512) (l : Fin 128) (k : Fin 4096), k.val = K + y.val → akb (ix3 0 y l) = x3 (ix3 0 k l))
    (hv : ∀ (r : Fin 128) (y : Fin 512) (k : Fin 4096), k.val = K + y.val → V (ix2 r y) = x4 (ix3 0 r k))
    {m : Vec Ideal S1x1x256 .f32} {a : Vec Ideal S1x128x256 .f32} (h : StV (sc x2 x3 qa qi) (wt lo x4) 256 K m a) :
    StV (sc x2 x3 qa qi) (wt lo x4) 256 (K + 512) (newM512_0 (sF1 qa kb akb) m) (newA512_0 V (sF1 qa kb akb) m a) := by
  refine step512_0 (sc_Sc hr) (sc_zero hr) V _ ?_ ?_ h
  · intro k q Q hQ
    have hk4 : K + k.val < 4096 := by omega
    obtain rfl : Q = ⟨256 + q.val, Nat.add_lt_add_left q.isLt 256⟩ := Fin.ext (by simpa using hQ)
    have e : ∀ l, kb (ix3 0 k l) = x2 (ix3 0 ⟨K + k.val, hk4⟩ l) := fun l => hk k l ⟨K + k.val, hk4⟩ rfl
    have e' : ∀ l, akb (ix3 0 k l) = x3 (ix3 0 ⟨K + k.val, hk4⟩ l) := fun l => hak k l ⟨K + k.val, hk4⟩ rfl
    rw [sF1_at]
    simp only [e, e']
    unfold sc raw
    rw [dif_pos hk4, if_pos (by simp only; omega)]
  · intro r k
    have hk4 : K + k.val < 4096 := by omega
    unfold wt
    by_cases ho : r.val < 64
    · rw [if_pos ho, if_pos (show lo r from ho), dif_pos hk4]
      exact hv r k ⟨K + k.val, hk4⟩ rfl
    · rw [if_neg ho, if_neg (show ¬ lo r from ho)]

theorem tileM_0_1 (hr : ∀ Q k, ∃ r : ℝ, raw x2 x3 qa Q k = r) {K : ℕ} (hK : K = 512 * qi) (hqi : qi < 8)
    {kb akb : Vec Ideal S1x512x128 .bf16} {V : FVec Ideal S128x512 .bf16}
    (hk : ∀ (y : Fin 512) (l : Fin 128) (k : Fin 4096), k.val = K + y.val → kb (ix3 0 y l) = x2 (ix3 0 k l))
    (hak : ∀ (y : Fin 512) (l : Fin 128) (k : Fin 4096), k.val = K + y.val → akb (ix3 0 y l) = x3 (ix3 0 k l))
    (hv : ∀ (r : Fin 128) (y : Fin 512) (k : Fin 4096), k.val = K + y.val → V (ix2 r y) = x4 (ix3 0 r k))
    {m : Vec Ideal S1x1x256 .f32} {a : Vec Ideal S1x128x256 .f32} (h : StV (sc x2 x3 qa qi) (wt lo x4) 256 K m a) :
    StV (sc x2 x3 qa qi) (wt lo x4) 256 (K + 512) (newM512_0 (sM1 qa kb akb) m) (newA512_0 V (sM1 qa kb akb) m a) := by
  refine step512_0 (sc_Sc hr) (sc_zero hr) V _ ?_ ?_ h
  · intro k q Q hQ
    have hk4 : K + k.val < 4096 := by omega
    obtain rfl : Q = ⟨256 + q.val, Nat.add_lt_add_left q.isLt 256⟩ := Fin.ext (by simpa using hQ)
    have e : ∀ l, kb (ix3 0 k l) = x2 (ix3 0 ⟨K + k.val, hk4⟩ l) := fun l => hk k l ⟨K + k.val, hk4⟩ rfl
    have e' : ∀ l, akb (ix3 0 k l) = x3 (ix3 0 ⟨K + k.val, hk4⟩ l) := fun l => hak k l ⟨K + k.val, hk4⟩ rfl
    rw [sM1_at, sF1_at]
    simp only [e, e']
    unfold sc raw
    rw [dif_pos hk4]
    by_cases hc : k.val ≤ 256 + q.val
    · rw [if_pos hc, if_pos (by simp only; omega)]
    · rw [if_neg hc, if_neg (by simp only; omega)]
  · intro r k
    have hk4 : K + k.val < 4096 := by omega
    unfold wt
    by_cases ho : r.val < 64
    · rw [if_pos ho, if_pos (show lo r from ho), dif_pos hk4]
      exact hv r k ⟨K + k.val, hk4⟩ rfl
    · rw [if_neg ho, if_neg (show ¬ lo r from ho)]

theorem tileF_1_0 (hr : ∀ Q k, ∃ r : ℝ, raw x2 x3 qa Q k = r) {K : ℕ} (hK : K + 512 ≤ 512 * qi) (hqi : qi < 8)
    {kb akb : Vec Ideal S1x512x128 .bf16} {V : FVec Ideal S128x512 .bf16}
    (hk : ∀ (y : Fin 512) (l : Fin 128) (k : Fin 4096), k.val = K + y.val → kb (ix3 0 y l) = x2 (ix3 0 k l))
    (hak : ∀ (y : Fin 512) (l : Fin 128) (k : Fin 4096), k.val = K + y.val → akb (ix3 0 y l) = x3 (ix3 0 k l))
    (hv : ∀ (r : Fin 128) (y : Fin 512) (k : Fin 4096), k.val = K + y.val → V (ix2 r y) = x4 (ix3 0 r k))
    {m : Vec Ideal S1x1x256 .f32} {a : Vec Ideal S1x128x256 .f32} (h : StV (sc x2 x3 qa qi) (wt hi x4) 0 K m a) :
    StV (sc x2 x3 qa qi) (wt hi x4) 0 (K + 512) (newM512_1 (sF0 qa kb akb) m) (newA512_1 V (sF0 qa kb akb) m a) := by
  refine step512_1 (sc_Sc hr) (sc_zero hr) V _ ?_ ?_ h
  · intro k q Q hQ
    have hk4 : K + k.val < 4096 := by omega
    obtain rfl : Q = ⟨q.val, Nat.lt_trans q.isLt (by norm_num)⟩ := Fin.ext (by simpa using hQ)
    have e : ∀ l, kb (ix3 0 k l) = x2 (ix3 0 ⟨K + k.val, hk4⟩ l) := fun l => hk k l ⟨K + k.val, hk4⟩ rfl
    have e' : ∀ l, akb (ix3 0 k l) = x3 (ix3 0 ⟨K + k.val, hk4⟩ l) := fun l => hak k l ⟨K + k.val, hk4⟩ rfl
    rw [sF0_at]
    simp only [e, e']
    unfold sc raw
    rw [dif_pos hk4, if_pos (by simp only; omega)]
  · intro r k
    have hk4 : K + k.val < 4096 := by omega
    unfold wt
    by_cases ho : 64 ≤ r.val
    · rw [if_pos ho, if_pos (show hi r from ho), dif_pos hk4]
      exact hv r k ⟨K + k.val, hk4⟩ rfl
    · rw [if_neg ho, if_neg (show ¬ hi r from ho)]

theorem tileM_1_0 (hr : ∀ Q k, ∃ r : ℝ, raw x2 x3 qa Q k = r) {K : ℕ} (hK : K = 512 * qi) (hqi : qi < 8)
    {kb akb : Vec Ideal S1x256x128 .bf16} {V : FVec Ideal S128x256 .bf16}
    (hk : ∀ (y : Fin 256) (l : Fin 128) (k : Fin 4096), k.val = K + y.val → kb (ix3 0 y l) = x2 (ix3 0 k l))
    (hak : ∀ (y : Fin 256) (l : Fin 128) (k : Fin 4096), k.val = K + y.val → akb (ix3 0 y l) = x3 (ix3 0 k l))
    (hv : ∀ (r : Fin 128) (y : Fin 256) (k : Fin 4096), k.val = K + y.val → V (ix2 r y) = x4 (ix3 0 r k))
    {m : Vec Ideal S1x1x256 .f32} {a : Vec Ideal S1x128x256 .f32} (h : StV (sc x2 x3 qa qi) (wt hi x4) 0 K m a) :
    StV (sc x2 x3 qa qi) (wt hi x4) 0 (K + 256) (newM256_1 (sM0 qa kb akb) m) (newA256_1 V (sM0 qa kb akb) m a) := by
  refine step256_1 (sc_Sc hr) (sc_zero hr) V _ ?_ ?_ h
  · intro k q Q hQ
    have hk4 : K + k.val < 4096 := by omega
    obtain rfl : Q = ⟨q.val, Nat.lt_trans q.isLt (by norm_num)⟩ := Fin.ext (by simpa using hQ)
    have e : ∀ l, kb (ix3 0 k l) = x2 (ix3 0 ⟨K + k.val, hk4⟩ l) := fun l => hk k l ⟨K + k.val, hk4⟩ rfl
    have e' : ∀ l, akb (ix3 0 k l) = x3 (ix3 0 ⟨K + k.val, hk4⟩ l) := fun l => hak k l ⟨K + k.val, hk4⟩ rfl
    rw [sM0_at]
    simp only [e, e']
    unfold sc raw
    rw [dif_pos hk4]
    by_cases hc : k.val ≤ q.val
    · rw [if_pos hc, if_pos (by simp only; omega)]
    · rw [if_neg hc, if_neg (by simp only; omega)]
  · intro r k
    have hk4 : K + k.val < 4096 := by omega
    unfold wt
    by_cases ho : 64 ≤ r.val
    · rw [if_pos ho, if_pos (show hi r from ho), dif_pos hk4]
      exact hv r k ⟨K + k.val, hk4⟩ rfl
    · rw [if_neg ho, if_neg (show ¬ hi r from ho)]

theorem tileF_1_1 (hr : ∀ Q k, ∃ r : ℝ, raw x2 x3 qa Q k = r) {K : ℕ} (hK : K + 512 ≤ 512 * qi) (hqi : qi < 8)
    {kb akb : Vec Ideal S1x512x128 .bf16} {V : FVec Ideal S128x512 .bf16}
    (hk : ∀ (y : Fin 512) (l : Fin 128) (k : Fin 4096), k.val = K + y.val → kb (ix3 0 y l) = x2 (ix3 0 k l))
    (hak : ∀ (y : Fin 512) (l : Fin 128) (k : Fin 4096), k.val = K + y.val → akb (ix3 0 y l) = x3 (ix3 0 k l))
    (hv : ∀ (r : Fin 128) (y : Fin 512) (k : Fin 4096), k.val = K + y.val → V (ix2 r y) = x4 (ix3 0 r k))
    {m : Vec Ideal S1x1x256 .f32} {a : Vec Ideal S1x128x256 .f32} (h : StV (sc x2 x3 qa qi) (wt hi x4) 256 K m a) :
    StV (sc x2 x3 qa qi) (wt hi x4) 256 (K + 512) (newM512_1 (sF1 qa kb akb) m) (newA512_1 V (sF1 qa kb akb) m a) := by
  refine step512_1 (sc_Sc hr) (sc_zero hr) V _ ?_ ?_ h
  · intro k q Q hQ
    have hk4 : K + k.val < 4096 := by omega
    obtain rfl : Q = ⟨256 + q.val, Nat.add_lt_add_left q.isLt 256⟩ := Fin.ext (by simpa using hQ)
    have e : ∀ l, kb (ix3 0 k l) = x2 (ix3 0 ⟨K + k.val, hk4⟩ l) := fun l => hk k l ⟨K + k.val, hk4⟩ rfl
    have e' : ∀ l, akb (ix3 0 k l) = x3 (ix3 0 ⟨K + k.val, hk4⟩ l) := fun l => hak k l ⟨K + k.val, hk4⟩ rfl
    rw [sF1_at]
    simp only [e, e']
    unfold sc raw
    rw [dif_pos hk4, if_pos (by simp only; omega)]
  · intro r k
    have hk4 : K + k.val < 4096 := by omega
    unfold wt
    by_cases ho : 64 ≤ r.val
    · rw [if_pos ho, if_pos (show hi r from ho), dif_pos hk4]
      exact hv r k ⟨K + k.val, hk4⟩ rfl
    · rw [if_neg ho, if_neg (show ¬ hi r from ho)]

theorem tileM_1_1 (hr : ∀ Q k, ∃ r : ℝ, raw x2 x3 qa Q k = r) {K : ℕ} (hK : K = 512 * qi) (hqi : qi < 8)
    {kb akb : Vec Ideal S1x512x128 .bf16} {V : FVec Ideal S128x512 .bf16}
    (hk : ∀ (y : Fin 512) (l : Fin 128) (k : Fin 4096), k.val = K + y.val → kb (ix3 0 y l) = x2 (ix3 0 k l))
    (hak : ∀ (y : Fin 512) (l : Fin 128) (k : Fin 4096), k.val = K + y.val → akb (ix3 0 y l) = x3 (ix3 0 k l))
    (hv : ∀ (r : Fin 128) (y : Fin 512) (k : Fin 4096), k.val = K + y.val → V (ix2 r y) = x4 (ix3 0 r k))
    {m : Vec Ideal S1x1x256 .f32} {a : Vec Ideal S1x128x256 .f32} (h : StV (sc x2 x3 qa qi) (wt hi x4) 256 K m a) :
    StV (sc x2 x3 qa qi) (wt hi x4) 256 (K + 512) (newM512_1 (sM1 qa kb akb) m) (newA512_1 V (sM1 qa kb akb) m a) := by
  refine step512_1 (sc_Sc hr) (sc_zero hr) V _ ?_ ?_ h
  · intro k q Q hQ
    have hk4 : K + k.val < 4096 := by omega
    obtain rfl : Q = ⟨256 + q.val, Nat.add_lt_add_left q.isLt 256⟩ := Fin.ext (by simpa using hQ)
    have e : ∀ l, kb (ix3 0 k l) = x2 (ix3 0 ⟨K + k.val, hk4⟩ l) := fun l => hk k l ⟨K + k.val, hk4⟩ rfl
    have e' : ∀ l, akb (ix3 0 k l) = x3 (ix3 0 ⟨K + k.val, hk4⟩ l) := fun l => hak k l ⟨K + k.val, hk4⟩ rfl
    rw [sM1_at, sF1_at]
    simp only [e, e']
    unfold sc raw
    rw [dif_pos hk4]
    by_cases hc : k.val ≤ 256 + q.val
    · rw [if_pos hc, if_pos (by simp only; omega)]
    · rw [if_neg hc, if_neg (by simp only; omega)]
  · intro r k
    have hk4 : K + k.val < 4096 := by omega
    unfold wt
    by_cases ho : 64 ≤ r.val
    · rw [if_pos ho, if_pos (show hi r from ho), dif_pos hk4]
      exact hv r k ⟨K + k.val, hk4⟩ rfl
    · rw [if_neg ho, if_neg (show ¬ hi r from ho)]

end Tile

end Cert.AttnIdeal.Ker

end
-- ==== Proof.AttnTrip.lean ====
/- The attention kernel's loop: one trip takes two tiles of 512 keys into every chain, so the trips before `k` have taken `1024 * k` keys. -/
module

public import proofs.«01_k».proof.Proof.AttnChain
public import Idealize.ShloMosaic.Lib.WholeRead

@[expose] public section

set_option maxRecDepth 16384

noncomputable section

namespace Cert.AttnIdeal.Ker

open Cert.AttnIdeal Cert.AttnIdeal.Gen Idealize.ShloMosaic Idealize.ShloMosaic.TcCoe Idealize.SL.Sem
open Cert.AttnMath

/-- A load through the last store's own rectangle reads what was stored, whatever the buffer held. -/
theorem rd_hit {sig : RefSig} {κ : Kind} {sp : Space} {s : Shape} {e : EltTy} (v : View sig κ sp s e) (f : v.ty.Contents (Elt Ideal)) (r : Rect s)
    (w : r.shape.Idx → Elt Ideal e) (L : List (View.Piece (Elt Ideal) s e)) :
    v.readAt (Elt Ideal) r.toLoadRect (v.writes (Elt Ideal) f (⟨r, w⟩ :: L)) = w := by
  rw [show (⟨r, w⟩ :: L : List (View.Piece (Elt Ideal) s e)) = [⟨r, w⟩] ++ L from rfl, View.writes_append]
  rw [View.readAt_writes_of_cover, View.readCov_cons_toLoadRect]
  intro j
  exact ⟨_, List.mem_singleton.mpr rfl, r.toLoadRect.idx_mem j⟩

/-- A load apart from the last store reads what was there before it. -/
theorem rd_skip {sig : RefSig} {κ : Kind} {sp : Space} {s : Shape} {e : EltTy} (v : View sig κ sp s e) (f : v.ty.Contents (Elt Ideal)) (r : Rect s)
    (w : r.shape.Idx → Elt Ideal e) (L : List (View.Piece (Elt Ideal) s e)) (B : LoadRect s) (h : LoadRect.disj r B = true) :
    v.readAt (Elt Ideal) B (v.writes (Elt Ideal) f (⟨r, w⟩ :: L)) = v.readAt (Elt Ideal) B (v.writes (Elt Ideal) f L) := by
  rw [show (⟨r, w⟩ :: L : List (View.Piece (Elt Ideal) s e)) = [⟨r, w⟩] ++ L from rfl, View.writes_append]
  rw [View.readAt_writes_of_forall_not_mem]
  intro j p hp
  rw [List.mem_singleton.mp hp]
  exact LoadRect.idx_not_mem_of_disj h j

/-! ### What a load of an operand's rows reads -/

theorem load_rows {n : ℕ} (arg : Memref sig .tc .vmem S1x4096x128 .bf16) (h : arg.IsWhole) (x : Vec Ideal S1x4096x128 .bf16) {off : Fin 3 → ℕ} {K : ℕ}
    (ho : off = ![0, K, 0]) (inb : ∀ a, off a + (![1, n, 128] : Fin 3 → ℕ) a ≤ S1x4096x128.size a) (y : Fin n) (l : Fin 128) (k : Fin 4096)
    (hk : k.val = K + y.val) :
    arg.view.readAt (Elt Ideal) (Rect.unit (s := S1x4096x128) off ![1, n, 128] inb).toLoadRect (h.unread x) (ix3 0 y l) = x (ix3 0 k l) := by
  subst ho
  rw [Memref.IsWhole.readAt_unread]
  congr 1
  funext a
  apply Fin.ext
  fin_cases a
  · rfl
  · simp [LoadRect.idx, Rect.toLoadRect, Rect.unit, ix3, hk]
  · simp [LoadRect.idx, Rect.toLoadRect, Rect.unit, ix3]

theorem load_cols {n : ℕ} (arg : Memref sig .tc .vmem S1x128x4096 .bf16) (h : arg.IsWhole) (x : Vec Ideal S1x128x4096 .bf16) {off : Fin 3 → ℕ} {K : ℕ}
    (ho : off = ![0, 0, K]) (inb : ∀ a, off a + (![1, 128, n] : Fin 3 → ℕ) a ≤ S1x128x4096.size a) (r : Fin 128) (y : Fin n) (k : Fin 4096)
    (hk : k.val = K + y.val) :
    arg.view.readAt (Elt Ideal) (Rect.unit (s := S1x128x4096) off ![1, 128, n] inb).toLoadRect (h.unread x) (ix3 0 r y) = x (ix3 0 r k) := by
  subst ho
  rw [Memref.IsWhole.readAt_unread]
  congr 1
  funext a
  apply Fin.ext
  fin_cases a
  · rfl
  · simp [LoadRect.idx, Rect.toLoadRect, Rect.unit, ix3]
  · simp [LoadRect.idx, Rect.toLoadRect, Rect.unit, ix3, hk]

theorem cols512 (a : Vec Ideal S1x128x512 .bf16) (h : Shape.ShapeCasts S1x128x512 S128x512) (r : Fin 128) (y : Fin 512) :
    shapeCast S128x512 a h (ix2 r y) = a (ix3 0 r y) := by
  pointwise []

theorem cols256 (a : Vec Ideal S1x128x256 .bf16) (h : Shape.ShapeCasts S1x128x256 S128x256) (r : Fin 128) (y : Fin 256) :
    shapeCast S128x256 a h (ix2 r y) = a (ix3 0 r y) := by
  pointwise []

/-! ### Where the loop's loads lie -/

theorem trips_eq (i : grid0.Coords) : (k0_t1_loop i).trips = (i 2).val / 2 :=
  (by decide +kernel : ∀ i : grid0.Coords, (k0_t1_loop i).trips = (i 2).val / 2) i

theorem pos_even : ∀ n : Fin 4, (Scalar.indexCast (Scalar.muli (Scalar.muli 2#32 (Scf.iv 0#32 1#32 n.val)) 512#32)).toNat = 1024 * n.val := by
  decide

theorem pos_odd : ∀ n : Fin 4, (Scalar.indexCast (Scalar.muli (Scalar.addi (Scalar.muli 2#32 (Scf.iv 0#32 1#32 n.val)) 1#32) 512#32)).toNat
    = 1024 * n.val + 512 := by
  decide

theorem lt_four (i : grid0.Coords) (k : Fin (k0_t1_loop i).trips) : k.val < 4 := by
  have h := k.isLt
  have e := trips_eq i
  have h2 : (i 2).val < 8 := (i 2).isLt
  omega

theorem off1_eq (i : grid0.Coords) (k : Fin (k0_t1_loop i).trips) : k0_off1 i k = ![0, 1024 * k.val, 0] := by
  rw [← pos_even ⟨k.val, lt_four i k⟩]; rfl

theorem off2_eq (i : grid0.Coords) (k : Fin (k0_t1_loop i).trips) : k0_off2 i k = ![0, 0, 1024 * k.val] := by
  rw [← pos_even ⟨k.val, lt_four i k⟩]; rfl

theorem off3_eq (i : grid0.Coords) (k : Fin (k0_t1_loop i).trips) : k0_off3 i k = ![0, 1024 * k.val + 512, 0] := by
  rw [← pos_odd ⟨k.val, lt_four i k⟩]; rfl

theorem off4_eq (i : grid0.Coords) (k : Fin (k0_t1_loop i).trips) : k0_off4 i k = ![0, 0, 1024 * k.val + 512] := by
  rw [← pos_odd ⟨k.val, lt_four i k⟩]; rfl

/-! ### The four chains of a grid point -/

/-- Where the chain of head 0 and of the queries that begin at 0 keeps its maxima. -/
abbrev Rm_0_0 : Rect S2x1x512 := Rect.unit (s := S2x1x512) ![0, 0, 0] S1x1x256.size (by decide)

/-- Where the chain of head 0 and of the queries that begin at 256 keeps its maxima. -/
abbrev Rm_0_1 : Rect S2x1x512 := Rect.unit (s := S2x1x512) ![0, 0, 256] S1x1x256.size (by decide)

/-- Where the chain of head 1 and of the queries that begin at 0 keeps its maxima. -/
abbrev Rm_1_0 : Rect S2x1x512 := Rect.unit (s := S2x1x512) ![1, 0, 0] S1x1x256.size (by decide)

/-- Where the chain of head 1 and of the queries that begin at 256 keeps its maxima. -/
abbrev Rm_1_1 : Rect S2x1x512 := Rect.unit (s := S2x1x512) ![1, 0, 256] S1x1x256.size (by decide)

/-- Where the chain of head 0 and of the queries that begin at 0 keeps its accumulators. -/
abbrev Ra_0_0 : Rect S2x128x512 := Rect.unit (s := S2x128x512) ![0, 0, 0] S1x128x256.size (by decide)

/-- Where the chain of head 0 and of the queries that begin at 256 keeps its accumulators. -/
abbrev Ra_0_1 : Rect S2x128x512 := Rect.unit (s := S2x128x512) ![0, 0, 256] S1x128x256.size (by decide)

/-- Where the chain of head 1 and of the queries that begin at 0 keeps its accumulators. -/
abbrev Ra_1_0 : Rect S2x128x512 := Rect.unit (s := S2x128x512) ![1, 0, 0] S1x128x256.size (by decide)

/-- Where the chain of head 1 and of the queries that begin at 256 keeps its accumulators. -/
abbrev Ra_1_1 : Rect S2x128x512 := Rect.unit (s := S2x128x512) ![1, 0, 256] S1x128x256.size (by decide)

/-- The state of the four chains, held in the two scratch buffers: the chains of the first 256 queries have taken `Ka` keys, those of the last 256 `Kb`. -/
structure St (arg9 : Memref sig .tc .vmem S2x1x512 .f32) (arg10 : Memref sig .tc .vmem S2x128x512 .f32)
    (x2 x3 : Vec Ideal S1x4096x128 .bf16) (x4 : Vec Ideal S1x128x4096 .bf16) (qa0 qa1 : FVec Ideal S256x512 .bf16) (qi Ka Kb : ℕ)
    (f9 : BufTy.Contents (Elt Ideal) arg9.view.ty) (f10 : BufTy.Contents (Elt Ideal) arg10.view.ty) : Prop where
  h00 : StV (sc x2 x3 qa0 qi) (wt lo x4) 0 Ka (arg9.view.readAt (Elt Ideal) Rm_0_0.toLoadRect f9)
    (arg10.view.readAt (Elt Ideal) Ra_0_0.toLoadRect f10)
  h01 : StV (sc x2 x3 qa0 qi) (wt lo x4) 256 Kb (arg9.view.readAt (Elt Ideal) Rm_0_1.toLoadRect f9)
    (arg10.view.readAt (Elt Ideal) Ra_0_1.toLoadRect f10)
  h10 : StV (sc x2 x3 qa1 qi) (wt hi x4) 0 Ka (arg9.view.readAt (Elt Ideal) Rm_1_0.toLoadRect f9)
    (arg10.view.readAt (Elt Ideal) Ra_1_0.toLoadRect f10)
  h11 : StV (sc x2 x3 qa1 qi) (wt hi x4) 256 Kb (arg9.view.readAt (Elt Ideal) Rm_1_1.toLoadRect f9)
    (arg10.view.readAt (Elt Ideal) Ra_1_1.toLoadRect f10)

theorem trip_st (𝒱 : Variants) (c : Dev nD) (bd : Option 𝒱.V) (i : grid0.Coords) (arg3 : Memref sig .tc .vmem S1x512x128 .bf16) (harg3 : arg3.IsWhole)
    (arg4 : Memref sig .tc .vmem S1x512x128 .bf16) (harg4 : arg4.IsWhole) (arg5 : Memref sig .tc .vmem S1x4096x128 .bf16) (harg5 : arg5.IsWhole)
    (arg6 : Memref sig .tc .vmem S1x4096x128 .bf16) (harg6 : arg6.IsWhole) (arg7 : Memref sig .tc .vmem S1x128x4096 .bf16) (harg7 : arg7.IsWhole)
    (arg8 : Memref sig .tc .vmem S1x512x128 .bf16) (harg8 : arg8.IsWhole) (arg9 : Memref sig .tc .vmem S2x1x512 .f32) (harg9 : arg9.IsWhole)
    (arg10 : Memref sig .tc .vmem S2x128x512 .f32) (harg10 : arg10.IsWhole) (w0 : BitVec 32) (qa0 qa1 : FVec Ideal S256x512 .bf16) (w1 w2 w3 w4 : BitVec 32)
    (x2 x3 : Vec Ideal S1x4096x128 .bf16) (x4 : Vec Ideal S1x128x4096 .bf16)
    (hr0 : ∀ Q k, ∃ r : ℝ, raw x2 x3 qa0 Q k = r) (hr1 : ∀ Q k, ∃ r : ℝ, raw x2 x3 qa1 Q k = r)
    (k : Fin (k0_t1_loop i).trips)
    (f9 : BufTy.Contents (Elt Ideal) arg9.view.ty) (f10 : BufTy.Contents (Elt Ideal) arg10.view.ty)
    (h : St arg9 arg10 x2 x3 x4 qa0 qa1 (i 2).val (1024 * k.val) (1024 * k.val) f9 f10) :
    St arg9 arg10 x2 x3 x4 qa0 qa1 (i 2).val (1024 * k.val + 512 + 512) (1024 * k.val + 512 + 512)
      (arg9.view.writes (Elt Ideal) f9 (tripL_k0_t1 (F := Ideal) 𝒱 c bd i arg3 harg3 arg4 harg4 arg5 harg5 arg6 harg6 arg7 harg7 arg8 harg8 arg9 harg9 arg10 harg10 w0 qa0 qa1 w1 w2 w3 w4 one (harg5.unread x2) (harg6.unread x3) (harg7.unread x4) k f9 f10).1)
      (arg10.view.writes (Elt Ideal) f10 (tripL_k0_t1 (F := Ideal) 𝒱 c bd i arg3 harg3 arg4 harg4 arg5 harg5 arg6 harg6 arg7 harg7 arg8 harg8 arg9 harg9 arg10 harg10 w0 qa0 qa1 w1 w2 w3 w4 one (harg5.unread x2) (harg6.unread x3) (harg7.unread x4) k f9 f10).2) := by
  have hqi : (i 2).val < 8 := (i 2).isLt
  have hK : 1024 * k.val + 1024 ≤ 512 * (i 2).val := by
    have h1 := k.isLt
    have h2 := trips_eq i
    omega
  unfold tripL_k0_t1 trip_k0_t1
  dsimp only
  constructor
  · simp (disch := decide) only [trip_k0_t1.sl.HW_arg9_7, trip_k0_t1.sl.HW_arg9_6, trip_k0_t1.sl.HW_arg9_5, trip_k0_t1.sl.HW_arg9_4, trip_k0_t1.sl.HW_arg10_7, trip_k0_t1.sl.HW_arg10_6, trip_k0_t1.sl.HW_arg10_5, trip_k0_t1.sl.HW_arg10_4, ↓ rd_skip, ↓ rd_hit]
    refine tileF_0_0 hr0 (by omega) hqi (fun y l k' hk' => load_rows arg5 harg5 x2 (off3_eq i k) _ y l k' hk') (fun y l k' hk' => load_rows arg6 harg6 x3 (off3_eq i k) _ y l k' hk') (fun r y k' hk' => (cols512 _ _ r y).trans (load_cols arg7 harg7 x4 (off4_eq i k) _ r y k' hk')) ?_
    simp (disch := decide) only [trip_k0_t1.sl.v299, trip_k0_t1.sl.v318, trip_k0_t1.sl.HW_arg9_7, trip_k0_t1.sl.HW_arg9_6, trip_k0_t1.sl.HW_arg9_5, trip_k0_t1.sl.HW_arg9_4, trip_k0_t1.sl.HW_arg10_7, trip_k0_t1.sl.HW_arg10_6, trip_k0_t1.sl.HW_arg10_5, trip_k0_t1.sl.HW_arg10_4, ↓ View.readCov_skip, ↓ View.readCov_cons_toLoadRect]
    refine tileF_0_0 hr0 (by omega) hqi (fun y l k' hk' => load_rows arg5 harg5 x2 (off1_eq i k) _ y l k' hk') (fun y l k' hk' => load_rows arg6 harg6 x3 (off1_eq i k) _ y l k' hk') (fun r y k' hk' => (cols512 _ _ r y).trans (load_cols arg7 harg7 x4 (off2_eq i k) _ r y k' hk')) ?_
    exact h.h00
  · simp (disch := decide) only [trip_k0_t1.sl.HW_arg9_7, trip_k0_t1.sl.HW_arg9_6, trip_k0_t1.sl.HW_arg9_5, trip_k0_t1.sl.HW_arg9_4, trip_k0_t1.sl.HW_arg10_7, trip_k0_t1.sl.HW_arg10_6, trip_k0_t1.sl.HW_arg10_5, trip_k0_t1.sl.HW_arg10_4, ↓ rd_skip, ↓ rd_hit]
    refine tileF_0_1 hr0 (by omega) hqi (fun y l k' hk' => load_rows arg5 harg5 x2 (off3_eq i k) _ y l k' hk') (fun y l k' hk' => load_rows arg6 harg6 x3 (off3_eq i k) _ y l k' hk') (fun r y k' hk' => (cols512 _ _ r y).trans (load_cols arg7 harg7 x4 (off4_eq i k) _ r y k' hk')) ?_
    simp (disch := decide) only [trip_k0_t1.sl.v330, trip_k0_t1.sl.v349, trip_k0_t1.sl.HW_arg9_7, trip_k0_t1.sl.HW_arg9_6, trip_k0_t1.sl.HW_arg9_5, trip_k0_t1.sl.HW_arg9_4, trip_k0_t1.sl.HW_arg10_7, trip_k0_t1.sl.HW_arg10_6, trip_k0_t1.sl.HW_arg10_5, trip_k0_t1.sl.HW_arg10_4, ↓ View.readCov_skip, ↓ View.readCov_cons_toLoadRect]
    refine tileF_0_1 hr0 (by omega) hqi (fun y l k' hk' => load_rows arg5 harg5 x2 (off1_eq i k) _ y l k' hk') (fun y l k' hk' => load_rows arg6 harg6 x3 (off1_eq i k) _ y l k' hk') (fun r y k' hk' => (cols512 _ _ r y).trans (load_cols arg7 harg7 x4 (off2_eq i k) _ r y k' hk')) ?_
    exact h.h01
  · simp (disch := decide) only [trip_k0_t1.sl.HW_arg9_7, trip_k0_t1.sl.HW_arg9_6, trip_k0_t1.sl.HW_arg9_5, trip_k0_t1.sl.HW_arg9_4, trip_k0_t1.sl.HW_arg10_7, trip_k0_t1.sl.HW_arg10_6, trip_k0_t1.sl.HW_arg10_5, trip_k0_t1.sl.HW_arg10_4, ↓ rd_skip, ↓ rd_hit]
    refine tileF_1_0 hr1 (by omega) hqi (fun y l k' hk' => load_rows arg5 harg5 x2 (off3_eq i k) _ y l k' hk') (fun y l k' hk' => load_rows arg6 harg6 x3 (off3_eq i k) _ y l k' hk') (fun r y k' hk' => (cols512 _ _ r y).trans (load_cols arg7 harg7 x4 (off4_eq i k) _ r y k' hk')) ?_
    simp (disch := decide) only [trip_k0_t1.sl.v361, trip_k0_t1.sl.v380, trip_k0_t1.sl.HW_arg9_7, trip_k0_t1.sl.HW_arg9_6, trip_k0_t1.sl.HW_arg9_5, trip_k0_t1.sl.HW_arg9_4, trip_k0_t1.sl.HW_arg10_7, trip_k0_t1.sl.HW_arg10_6, trip_k0_t1.sl.HW_arg10_5, trip_k0_t1.sl.HW_arg10_4, ↓ View.readCov_skip, ↓ View.readCov_cons_toLoadRect]
    refine tileF_1_0 hr1 (by omega) hqi (fun y l k' hk' => load_rows arg5 harg5 x2 (off1_eq i k) _ y l k' hk') (fun y l k' hk' => load_rows arg6 harg6 x3 (off1_eq i k) _ y l k' hk') (fun r y k' hk' => (cols512 _ _ r y).trans (load_cols arg7 harg7 x4 (off2_eq i k) _ r y k' hk')) ?_
    exact h.h10
  · simp (disch := decide) only [trip_k0_t1.sl.HW_arg9_7, trip_k0_t1.sl.HW_arg9_6, trip_k0_t1.sl.HW_arg9_5, trip_k0_t1.sl.HW_arg9_4, trip_k0_t1.sl.HW_arg10_7, trip_k0_t1.sl.HW_arg10_6, trip_k0_t1.sl.HW_arg10_5, trip_k0_t1.sl.HW_arg10_4, ↓ rd_skip, ↓ rd_hit]
    refine tileF_1_1 hr1 (by omega) hqi (fun y l k' hk' => load_rows arg5 harg5 x2 (off3_eq i k) _ y l k' hk') (fun y l k' hk' => load_rows arg6 harg6 x3 (off3_eq i k) _ y l k' hk') (fun r y k' hk' => (cols512 _ _ r y).trans (load_cols arg7 harg7 x4 (off4_eq i k) _ r y k' hk')) ?_
    simp (disch := decide) only [trip_k0_t1.sl.v392, trip_k0_t1.sl.v411, trip_k0_t1.sl.HW_arg9_7, trip_k0_t1.sl.HW_arg9_6, trip_k0_t1.sl.HW_arg9_5, trip_k0_t1.sl.HW_arg9_4, trip_k0_t1.sl.HW_arg10_7, trip_k0_t1.sl.HW_arg10_6, trip_k0_t1.sl.HW_arg10_5, trip_k0_t1.sl.HW_arg10_4, ↓ View.readCov_skip, ↓ View.readCov_cons_toLoadRect]
    refine tileF_1_1 hr1 (by omega) hqi (fun y l k' hk' => load_rows arg5 harg5 x2 (off1_eq i k) _ y l k' hk') (fun y l k' hk' => load_rows arg6 harg6 x3 (off1_eq i k) _ y l k' hk') (fun r y k' hk' => (cols512 _ _ r y).trans (load_cols arg7 harg7 x4 (off2_eq i k) _ r y k' hk')) ?_
    exact h.h11

/-- Before trip `n` every chain has taken `1024 * n` keys. -/
theorem loop_st (𝒱 : Variants) (c : Dev nD) (bd : Option 𝒱.V) (i : grid0.Coords) (arg3 : Memref sig .tc .vmem S1x512x128 .bf16) (harg3 : arg3.IsWhole)
    (arg4 : Memref sig .tc .vmem S1x512x128 .bf16) (harg4 : arg4.IsWhole) (arg5 : Memref sig .tc .vmem S1x4096x128 .bf16) (harg5 : arg5.IsWhole)
    (arg6 : Memref sig .tc .vmem S1x4096x128 .bf16) (harg6 : arg6.IsWhole) (arg7 : Memref sig .tc .vmem S1x128x4096 .bf16) (harg7 : arg7.IsWhole)
    (arg8 : Memref sig .tc .vmem S1x512x128 .bf16) (harg8 : arg8.IsWhole) (arg9 : Memref sig .tc .vmem S2x1x512 .f32) (harg9 : arg9.IsWhole)
    (arg10 : Memref sig .tc .vmem S2x128x512 .f32) (harg10 : arg10.IsWhole) (w0 : BitVec 32) (qa0 qa1 : FVec Ideal S256x512 .bf16) (w1 w2 w3 w4 : BitVec 32)
    (x2 x3 : Vec Ideal S1x4096x128 .bf16) (x4 : Vec Ideal S1x128x4096 .bf16)
    (hr0 : ∀ Q k, ∃ r : ℝ, raw x2 x3 qa0 Q k = r) (hr1 : ∀ Q k, ∃ r : ℝ, raw x2 x3 qa1 Q k = r)
    (f9 : BufTy.Contents (Elt Ideal) arg9.view.ty) (f10 : BufTy.Contents (Elt Ideal) arg10.view.ty)
    (h : St arg9 arg10 x2 x3 x4 qa0 qa1 (i 2).val 0 0 f9 f10) (n : ℕ) (hn : n ≤ (k0_t1_loop i).trips) :
    St arg9 arg10 x2 x3 x4 qa0 qa1 (i 2).val (1024 * n) (1024 * n)
      (arg9.view.writes (Elt Ideal) f9 (pb_k0_t1 (F := Ideal) 𝒱 c bd i arg3 harg3 arg4 harg4 arg5 harg5 arg6 harg6 arg7 harg7 arg8 harg8 arg9 harg9 arg10 harg10 w0 qa0 qa1 w1 w2 w3 w4 one (harg5.unread x2) (harg6.unread x3) (harg7.unread x4) f9 f10 n).1)
      (arg10.view.writes (Elt Ideal) f10 (pb_k0_t1 (F := Ideal) 𝒱 c bd i arg3 harg3 arg4 harg4 arg5 harg5 arg6 harg6 arg7 harg7 arg8 harg8 arg9 harg9 arg10 harg10 w0 qa0 qa1 w1 w2 w3 w4 one (harg5.unread x2) (harg6.unread x3) (harg7.unread x4) f9 f10 n).2) := by
  induction n with
  | zero => exact h
  | succ n ih =>
    have hs := pb_k0_t1_succ (F := Ideal) 𝒱 c bd i arg3 harg3 arg4 harg4 arg5 harg5 arg6 harg6 arg7 harg7 arg8 harg8 arg9 harg9 arg10 harg10 w0 qa0 qa1 w1 w2 w3 w4 one (harg5.unread x2) (harg6.unread x3) (harg7.unread x4) f9 f10 ⟨n, hn⟩
    simp only at hs
    rw [hs]
    rw [View.writes_append, View.writes_append]
    exact trip_st 𝒱 c bd i arg3 harg3 arg4 harg4 arg5 harg5 arg6 harg6 arg7 harg7 arg8 harg8 arg9 harg9 arg10 harg10 w0 qa0 qa1 w1 w2 w3 w4 x2 x3 x4 hr0 hr1 ⟨n, hn⟩ _ _ (ih (Nat.le_of_succ_le hn))

end Cert.AttnIdeal.Ker
-- ==== Proof.AttnCase.lean ====
/- What one grid point of the attention kernel writes back: the two heads' weighted means, each a ratio of two sums over all 4096 keys. -/
module

public import proofs.«01_k».proof.Proof.AttnTrip

@[expose] public section

set_option maxRecDepth 16384

noncomputable section

namespace Cert.AttnIdeal.Ker

open Cert.AttnIdeal Cert.AttnIdeal.Gen Idealize.ShloMosaic Idealize.ShloMosaic.TcCoe Idealize.SL.Sem
open Cert.AttnMath

/-! ### Which case a point is, and where its tiles lie -/

theorem odd_of_cond : ∀ i : grid0.Coords, cond0_0 i → (i 2).val % 2 = 1 := by decide +kernel

theorem even_of_cond : ∀ i : grid0.Coords, cond0_1 i → (i 2).val % 2 = 0 := by decide +kernel

theorem trips2_eq : ∀ i : grid0.Coords, Scf.trips (k0_t2_loop i).lb (k0_t2_loop i).ub (k0_t2_loop i).st = 0 := by decide +kernel

theorem pos_own : ∀ n : Fin 8, (Scalar.indexCast (Scalar.muli (BitVec.ofNat 32 n.val) 512#32)).toNat = 512 * n.val := by decide

theorem pos_prev : ∀ n : Fin 8, n.val % 2 = 1 →
    (Scalar.indexCast (Scalar.muli (Scalar.subi (BitVec.ofNat 32 n.val) 1#32) 512#32)).toNat = 512 * (n.val - 1) := by decide

theorem off9_eq (i : grid0.Coords) (h : (i 2).val % 2 = 1) : k0_off9 i = ![0, 512 * ((i 2).val - 1), 0] := by
  rw [← pos_prev (i 2) h]; rfl

theorem off10_eq (i : grid0.Coords) (h : (i 2).val % 2 = 1) : k0_off10 i = ![0, 0, 512 * ((i 2).val - 1)] := by
  rw [← pos_prev (i 2) h]; rfl

theorem off11_eq (i : grid0.Coords) : k0_off11 i = ![0, 512 * (i 2).val, 0] := by
  rw [← pos_own (i 2)]; rfl

theorem off12_eq (i : grid0.Coords) : k0_off12 i = ![0, 0, 512 * (i 2).val] := by
  rw [← pos_own (i 2)]; rfl

theorem off13_eq (i : grid0.Coords) : k0_off13 i = ![0, 512 * (i 2).val, 0] := by
  rw [← pos_own (i 2)]; rfl

theorem off14_eq (i : grid0.Coords) : k0_off14 i = ![0, 0, 512 * (i 2).val] := by
  rw [← pos_own (i 2)]; rfl

theorem off15_eq (i : grid0.Coords) : k0_off15 i = ![0, 512 * (i 2).val, 0] := by
  rw [← pos_own (i 2)]; rfl

theorem off16_eq (i : grid0.Coords) : k0_off16 i = ![0, 0, 512 * (i 2).val] := by
  rw [← pos_own (i 2)]; rfl

theorem off17_eq (i : grid0.Coords) : k0_off17 i = ![0, 512 * (i 2).val, 0] := by
  rw [← pos_own (i 2)]; rfl

theorem off18_eq (i : grid0.Coords) : k0_off18 i = ![0, 0, 512 * (i 2).val] := by
  rw [← pos_own (i 2)]; rfl

/-! ### The chains before the loop, and after it -/

/-- The parts that the clearing stores write. -/
abbrev RI9_0 : Rect S2x1x512 := Rect.unit ![0, 0, 0] S1x1x512.size inb_S2x1x512_S1x1x512_0_0_0
abbrev RI9_1 : Rect S2x1x512 := Rect.unit ![1, 0, 0] S1x1x512.size inb_S2x1x512_S1x1x512_1_0_0
abbrev RI10_0 : Rect S2x128x512 := Rect.unit ![0, 0, 0] S1x128x512.size inb_S2x128x512_S1x128x512_0_0_0
abbrev RI10_1 : Rect S2x128x512 := Rect.unit ![1, 0, 0] S1x128x512.size inb_S2x128x512_S1x128x512_1_0_0

/-- The cleared maxima. -/
abbrev I9 : List (View.Piece (Elt Ideal) S2x1x512 .f32) :=
  [⟨Rect.unit ![1, 0, 0] S1x1x512.size inb_S2x1x512_S1x1x512_1_0_0, k0_pay187 (F := Ideal)⟩,
   ⟨Rect.unit ![0, 0, 0] S1x1x512.size inb_S2x1x512_S1x1x512_0_0_0, k0_pay183 (F := Ideal)⟩]

/-- The cleared accumulators. -/
abbrev I10 : List (View.Piece (Elt Ideal) S2x128x512 .f32) :=
  [⟨Rect.unit ![1, 0, 0] S1x128x512.size inb_S2x128x512_S1x128x512_1_0_0, k0_pay188 (F := Ideal)⟩,
   ⟨Rect.unit ![0, 0, 0] S1x128x512.size inb_S2x128x512_S1x128x512_0_0_0, k0_pay185 (k0_pay184 (F := Ideal))⟩]

theorem pay183_at (y : S1x1x512.Idx) : k0_pay183 (F := Ideal) y = ⊥ := by
  idx_vars y
  pointwise [k0_pay183]
  exact mask_bot

theorem pay187_at (y : S1x1x512.Idx) : k0_pay187 (F := Ideal) y = ⊥ := by
  idx_vars y
  pointwise [k0_pay187]
  exact mask_bot

theorem pay188_at (y : S1x128x512.Idx) : k0_pay188 (F := Ideal) y = 0 := by
  idx_vars y
  pointwise [k0_pay188]

theorem pay185_at (y : S1x128x512.Idx) : k0_pay185 (k0_pay184 (F := Ideal)) y = 0 := by
  idx_vars y
  pointwise [k0_pay185, k0_pay184]

/-- A load inside the last store's rectangle reads the store's own value there. -/
theorem rd_in {sig : RefSig} {κ : Kind} {sp : Space} {s : Shape} {e : EltTy} (v : View sig κ sp s e) (f : v.ty.Contents (Elt Ideal)) (r : Rect s)
    (w : r.shape.Idx → Elt Ideal e) (L : List (View.Piece (Elt Ideal) s e)) (B : LoadRect s) (x : B.shape.Idx) (y : r.shape.Idx)
    (h : B.idx x = r.toLoadRect.idx y) :
    v.readAt (Elt Ideal) B (v.writes (Elt Ideal) f (⟨r, w⟩ :: L)) x = w y := by
  rw [View.readAt_apply, h, ← View.readAt_apply, rd_hit]

theorem init_st (arg9 : Memref sig .tc .vmem S2x1x512 .f32) (arg10 : Memref sig .tc .vmem S2x128x512 .f32)
    (x2 x3 : Vec Ideal S1x4096x128 .bf16) (x4 : Vec Ideal S1x128x4096 .bf16) (qa0 qa1 : FVec Ideal S256x512 .bf16) (qi : ℕ) :
    St arg9 arg10 x2 x3 x4 qa0 qa1 qi 0 0 (arg9.view.writes (Elt Ideal) arg9.view.junk I9) (arg10.view.writes (Elt Ideal) arg10.view.junk I10) := by
  constructor
  · intro q r Q hQ
    have em : arg9.view.readAt (Elt Ideal) Rm_0_0.toLoadRect (arg9.view.writes (Elt Ideal) arg9.view.junk I9) (ix3 0 0 q) = ⊥ := by
      refine (congrFun (rd_skip arg9.view _ RI9_1 (k0_pay187 (F := Ideal)) [⟨RI9_0, k0_pay183 (F := Ideal)⟩] Rm_0_0.toLoadRect (by decide)) (ix3 0 0 q)).trans ((rd_in arg9.view _ RI9_0 (k0_pay183 (F := Ideal)) [] Rm_0_0.toLoadRect (ix3 0 0 q) (ix3 0 0 Q : S1x1x512.Idx) ?_).trans (pay183_at _))
      funext a
      apply Fin.ext
      fin_cases a <;> simp [LoadRect.idx, Rect.toLoadRect, Rect.unit, ix3, hQ]
    have ea : arg10.view.readAt (Elt Ideal) Ra_0_0.toLoadRect (arg10.view.writes (Elt Ideal) arg10.view.junk I10) (ix3 0 r q) = 0 := by
      refine (congrFun (rd_skip arg10.view _ RI10_1 (k0_pay188 (F := Ideal)) [⟨RI10_0, k0_pay185 (k0_pay184 (F := Ideal))⟩] Ra_0_0.toLoadRect (by decide)) (ix3 0 r q)).trans ((rd_in arg10.view _ RI10_0 (k0_pay185 (k0_pay184 (F := Ideal))) [] Ra_0_0.toLoadRect (ix3 0 r q) (ix3 0 r Q : S1x128x512.Idx) ?_).trans (pay185_at _))
      funext a
      apply Fin.ext
      fin_cases a <;> simp [LoadRect.idx, Rect.toLoadRect, Rect.unit, ix3, hQ]
    rw [em, ea]
    exact inv_init _ _
  · intro q r Q hQ
    have em : arg9.view.readAt (Elt Ideal) Rm_0_1.toLoadRect (arg9.view.writes (Elt Ideal) arg9.view.junk I9) (ix3 0 0 q) = ⊥ := by
      refine (congrFun (rd_skip arg9.view _ RI9_1 (k0_pay187 (F := Ideal)) [⟨RI9_0, k0_pay183 (F := Ideal)⟩] Rm_0_1.toLoadRect (by decide)) (ix3 0 0 q)).trans ((rd_in arg9.view _ RI9_0 (k0_pay183 (F := Ideal)) [] Rm_0_1.toLoadRect (ix3 0 0 q) (ix3 0 0 Q : S1x1x512.Idx) ?_).trans (pay183_at _))
      funext a
      apply Fin.ext
      fin_cases a <;> simp [LoadRect.idx, Rect.toLoadRect, Rect.unit, ix3, hQ]
    have ea : arg10.view.readAt (Elt Ideal) Ra_0_1.toLoadRect (arg10.view.writes (Elt Ideal) arg10.view.junk I10) (ix3 0 r q) = 0 := by
      refine (congrFun (rd_skip arg10.view _ RI10_1 (k0_pay188 (F := Ideal)) [⟨RI10_0, k0_pay185 (k0_pay184 (F := Ideal))⟩] Ra_0_1.toLoadRect (by decide)) (ix3 0 r q)).trans ((rd_in arg10.view _ RI10_0 (k0_pay185 (k0_pay184 (F := Ideal))) [] Ra_0_1.toLoadRect (ix3 0 r q) (ix3 0 r Q : S1x128x512.Idx) ?_).trans (pay185_at _))
      funext a
      apply Fin.ext
      fin_cases a <;> simp [LoadRect.idx, Rect.toLoadRect, Rect.unit, ix3, hQ]
    rw [em, ea]
    exact inv_init _ _
  · intro q r Q hQ
    have em : arg9.view.readAt (Elt Ideal) Rm_1_0.toLoadRect (arg9.view.writes (Elt Ideal) arg9.view.junk I9) (ix3 0 0 q) = ⊥ := by
      refine ((rd_in arg9.view _ RI9_1 (k0_pay187 (F := Ideal)) [⟨RI9_0, k0_pay183 (F := Ideal)⟩] Rm_1_0.toLoadRect (ix3 0 0 q) (ix3 0 0 Q : S1x1x512.Idx) ?_).trans (pay187_at _))
      funext a
      apply Fin.ext
      fin_cases a <;> simp [LoadRect.idx, Rect.toLoadRect, Rect.unit, ix3, hQ]
    have ea : arg10.view.readAt (Elt Ideal) Ra_1_0.toLoadRect (arg10.view.writes (Elt Ideal) arg10.view.junk I10) (ix3 0 r q) = 0 := by
      refine ((rd_in arg10.view _ RI10_1 (k0_pay188 (F := Ideal)) [⟨RI10_0, k0_pay185 (k0_pay184 (F := Ideal))⟩] Ra_1_0.toLoadRect (ix3 0 r q) (ix3 0 r Q : S1x128x512.Idx) ?_).trans (pay188_at _))
      funext a
      apply Fin.ext
      fin_cases a <;> simp [LoadRect.idx, Rect.toLoadRect, Rect.unit, ix3, hQ]
    rw [em, ea]
    exact inv_init _ _
  · intro q r Q hQ
    have em : arg9.view.readAt (Elt Ideal) Rm_1_1.toLoadRect (arg9.view.writes (Elt Ideal) arg9.view.junk I9) (ix3 0 0 q) = ⊥ := by
      refine ((rd_in arg9.view _ RI9_1 (k0_pay187 (F := Ideal)) [⟨RI9_0, k0_pay183 (F := Ideal)⟩] Rm_1_1.toLoadRect (ix3 0 0 q) (ix3 0 0 Q : S1x1x512.Idx) ?_).trans (pay187_at _))
      funext a
      apply Fin.ext
      fin_cases a <;> simp [LoadRect.idx, Rect.toLoadRect, Rect.unit, ix3, hQ]
    have ea : arg10.view.readAt (Elt Ideal) Ra_1_1.toLoadRect (arg10.view.writes (Elt Ideal) arg10.view.junk I10) (ix3 0 r q) = 0 := by
      refine ((rd_in arg10.view _ RI10_1 (k0_pay188 (F := Ideal)) [⟨RI10_0, k0_pay185 (k0_pay184 (F := Ideal))⟩] Ra_1_1.toLoadRect (ix3 0 r q) (ix3 0 r Q : S1x128x512.Idx) ?_).trans (pay188_at _))
      funext a
      apply Fin.ext
      fin_cases a <;> simp [LoadRect.idx, Rect.toLoadRect, Rect.unit, ix3, hQ]
    rw [em, ea]
    exact inv_init _ _

/-- After both loops (the second makes no trip) every chain has taken the keys of the pairs of tiles before the point's own. -/
theorem base_st (𝒱 : Variants) (bd : Option 𝒱.V) (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128x4096 .bf16) (harg7 : arg7.IsWhole) (arg8 : Memref sig .tc .vmem S1x512x128 .bf16) (harg8 : arg8.IsWhole) (arg9 : Memref sig .tc .vmem S2x1x512 .f32) (harg9 : arg9.IsWhole) (arg10 : Memref sig .tc .vmem S2x128x512 .f32) (harg10 : arg10.IsWhole) (w0 : BitVec 32) (qa0 qa1 : FVec Ideal S256x512 .bf16) (w1 w2 w3 w4 w5 : BitVec 32)
    (x2 x3 : Vec Ideal S1x4096x128 .bf16) (x4 : Vec Ideal S1x128x4096 .bf16)
    (hr0 : ∀ Q k, ∃ r : ℝ, raw x2 x3 qa0 Q k = r) (hr1 : ∀ Q k, ∃ r : ℝ, raw x2 x3 qa1 Q k = r)
    (g9 : BufTy.Contents (Elt Ideal) arg9.view.ty) (g10 : BufTy.Contents (Elt Ideal) arg10.view.ty) (K : ℕ) (hK : K = 1024 * ((i 2).val / 2)) :
    St arg9 arg10 x2 x3 x4 qa0 qa1 (i 2).val K K
      (arg9.view.writes (Elt Ideal) arg9.view.junk ((pb_k0_t2 (F := Ideal) 𝒱 c bd i arg3 harg3 arg4 harg4 arg5 harg5 arg6 harg6 arg7 harg7 arg8 harg8 arg9 harg9 arg10 harg10 w0 qa0 qa1 w1 w2 w3 w4 one w5 (harg5.unread x2) (harg6.unread x3) (harg7.unread x4) g9 g10 (Scf.trips (k0_t2_loop i).lb (k0_t2_loop i).ub (k0_t2_loop i).st)).1 ++ ((pb_k0_t1 (F := Ideal) 𝒱 c bd i arg3 harg3 arg4 harg4 arg5 harg5 arg6 harg6 arg7 harg7 arg8 harg8 arg9 harg9 arg10 harg10 w0 qa0 qa1 w1 w2 w3 w4 one (harg5.unread x2) (harg6.unread x3) (harg7.unread x4) (arg9.view.writes (Elt Ideal) arg9.view.junk I9) (arg10.view.writes (Elt Ideal) arg10.view.junk I10) (Scf.trips (k0_t1_loop i).lb (k0_t1_loop i).ub (k0_t1_loop i).st)).1 ++ I9)))
      (arg10.view.writes (Elt Ideal) arg10.view.junk ((pb_k0_t2 (F := Ideal) 𝒱 c bd i arg3 harg3 arg4 harg4 arg5 harg5 arg6 harg6 arg7 harg7 arg8 harg8 arg9 harg9 arg10 harg10 w0 qa0 qa1 w1 w2 w3 w4 one w5 (harg5.unread x2) (harg6.unread x3) (harg7.unread x4) g9 g10 (Scf.trips (k0_t2_loop i).lb (k0_t2_loop i).ub (k0_t2_loop i).st)).2 ++ ((pb_k0_t1 (F := Ideal) 𝒱 c bd i arg3 harg3 arg4 harg4 arg5 harg5 arg6 harg6 arg7 harg7 arg8 harg8 arg9 harg9 arg10 harg10 w0 qa0 qa1 w1 w2 w3 w4 one (harg5.unread x2) (harg6.unread x3) (harg7.unread x4) (arg9.view.writes (Elt Ideal) arg9.view.junk I9) (arg10.view.writes (Elt Ideal) arg10.view.junk I10) (Scf.trips (k0_t1_loop i).lb (k0_t1_loop i).ub (k0_t1_loop i).st)).2 ++ I10))) := by
  rw [trips2_eq i]
  subst hK
  rw [show Scf.trips (k0_t1_loop i).lb (k0_t1_loop i).ub (k0_t1_loop i).st = (i 2).val / 2 from trips_eq i]
  rw [show (pb_k0_t2 (F := Ideal) 𝒱 c bd i arg3 harg3 arg4 harg4 arg5 harg5 arg6 harg6 arg7 harg7 arg8 harg8 arg9 harg9 arg10 harg10 w0 qa0 qa1 w1 w2 w3 w4 one w5 (harg5.unread x2) (harg6.unread x3) (harg7.unread x4) g9 g10 0) = ([], []) from rfl]
  simp only [List.nil_append]
  rw [View.writes_append, View.writes_append]
  exact loop_st 𝒱 c bd i arg3 harg3 arg4 harg4 arg5 harg5 arg6 harg6 arg7 harg7 arg8 harg8 arg9 harg9 arg10 harg10 w0 qa0 qa1 w1 w2 w3 w4 x2 x3 x4 hr0 hr1 _ _ (init_st arg9 arg10 x2 x3 x4 qa0 qa1 (i 2).val) _ (le_of_eq (trips_eq i).symm)

/-! ### The last step -/

/-- A block whose rows are the weighted means of its two heads. -/
def Done (x2 x3 : Vec Ideal S1x4096x128 .bf16) (x4 : Vec Ideal S1x128x4096 .bf16) (qa0 qa1 : FVec Ideal S256x512 .bf16) (qi : ℕ)
    (out : Vec Ideal S1x512x128 .bf16) : Prop :=
  ∀ (Q : Fin 512) (r : Fin 128), ∃ m : ℝ, out (ix3 0 Q r) =
    Ideal.div (∑ k : Fin 4096, Ideal.exp2 (sc x2 x3 (if r.val < 64 then qa0 else qa1) qi Q k.val - m) * x4 (ix3 0 r k))
      (∑ k : Fin 4096, Ideal.exp2 (sc x2 x3 (if r.val < 64 then qa0 else qa1) qi Q k.val - m) * 1)

theorem below (r : Fin 128) {α : Type} (x y : α) :
    Scalar.select (IntOp.cmpi CmpIPredicate.slt (BitVec.ofNat 32 r.val) 64#32) x y = if r.val < 64 then x else y := by
  have h : IntOp.cmpi CmpIPredicate.slt (BitVec.ofNat 32 r.val) 64#32 = if r.val < 64 then 1#1 else 0#1 :=
    (by decide : ∀ r : Fin 128, IntOp.cmpi CmpIPredicate.slt (BitVec.ofNat 32 r.val) 64#32 = if r.val < 64 then 1#1 else 0#1) r
  rw [h]
  by_cases hr : r.val < 64
  · rw [if_pos hr, if_pos hr]; rfl
  · rw [if_neg hr, if_neg hr]; rfl

theorem pay4_lo (a0 a1 : Vec Ideal S1x128x512 .f32) (Q : Fin 512) (r r' : Fin 128) (h : r.val < 64) (h' : r'.val = r.val + 64) :
    k0_pay4 a0 a0 a1 a1 (ix3 0 Q r) = Ideal.div (a0 (ix3 0 r Q)) (a0 (ix3 0 r' Q)) := by
  pointwise [k0_pay4]
  rw [below, if_pos h]
  congr 3
  apply Fin.ext
  simp only
  omega

theorem pay4_hi (a0 a1 : Vec Ideal S1x128x512 .f32) (Q : Fin 512) (r r' : Fin 128) (h : ¬ r.val < 64) (h' : r.val = r'.val + 64) :
    k0_pay4 a0 a0 a1 a1 (ix3 0 Q r) = Ideal.div (a1 (ix3 0 r Q)) (a1 (ix3 0 r' Q)) := by
  pointwise [k0_pay4]
  rw [below, if_neg h]
  congr 3
  apply Fin.ext
  simp only
  have := r'.isLt
  omega

/-- A whole half of the accumulators, read through the part of one chain. -/
theorem rd_chain (arg10 : Memref sig .tc .vmem S2x128x512 .f32) (f10 : BufTy.Contents (Elt Ideal) arg10.view.ty) (j c : ℕ)
    (inb : ∀ a, (![j, 0, 0] : Fin 3 → ℕ) a + S1x128x512.size a ≤ S2x128x512.size a) (inb' : ∀ a, (![j, 0, c] : Fin 3 → ℕ) a + S1x128x256.size a ≤ S2x128x512.size a)
    (r : Fin 128) (q : Fin 256) (Q : Fin 512) (hQ : Q.val = c + q.val) :
    arg10.view.readAt (Elt Ideal) (Rect.unit (s := S2x128x512) ![j, 0, 0] S1x128x512.size inb).toLoadRect f10 (ix3 0 r Q)
      = arg10.view.readAt (Elt Ideal) (Rect.unit (s := S2x128x512) ![j, 0, c] S1x128x256.size inb').toLoadRect f10 (ix3 0 r q) := by
  rw [View.readAt_apply, View.readAt_apply]
  congr 1
  funext a
  apply Fin.ext
  fin_cases a <;> simp [LoadRect.idx, Rect.toLoadRect, Rect.unit, ix3, hQ]

/-- Past a query's own key every score is masked, so a chain that has taken the keys up to it has in effect taken all. -/
theorem all_keys {x2 x3 : Vec Ideal S1x4096x128 .bf16} {qa : FVec Ideal S256x512 .bf16} {qi : ℕ} (hqi : qi < 8) {w : ℕ → EReal} {Q : Fin 512} {K : ℕ}
    (hK : 512 * qi + Q.val < K) (hK' : K ≤ 4096) {m a : EReal} (h : Inv (sc x2 x3 qa qi Q) w K m a) :
    ∃ x : ℝ, m = x ∧ a = ∑ k : Fin 4096, Ideal.exp2 (sc x2 x3 qa qi Q k.val - x) * w k.val := by
  have h2 := inv_extend hK' (by omega) (fun k hk => by
    unfold sc
    split_ifs with h1 h3
    · omega
    · rfl
    · rfl) h
  obtain ⟨h3 | ⟨x, hx⟩, ha⟩ := h2
  · exact absurd h3.1 (by norm_num)
  · refine ⟨x, hx, ?_⟩
    rw [ha, Finset.sum_range, hx]

theorem done_of {x2 x3 : Vec Ideal S1x4096x128 .bf16} {x4 : Vec Ideal S1x128x4096 .bf16} {qa0 qa1 : FVec Ideal S256x512 .bf16} {qi : ℕ} (hqi : qi < 8)
    (arg10 : Memref sig .tc .vmem S2x128x512 .f32) (f10 : BufTy.Contents (Elt Ideal) arg10.view.ty)
    (h00 : ∃ m, StV (sc x2 x3 qa0 qi) (wt lo x4) 0 (512 * qi + 256) m (arg10.view.readAt (Elt Ideal) Ra_0_0.toLoadRect f10))
    (h01 : ∃ m, StV (sc x2 x3 qa0 qi) (wt lo x4) 256 (512 * qi + 512) m (arg10.view.readAt (Elt Ideal) Ra_0_1.toLoadRect f10))
    (h10 : ∃ m, StV (sc x2 x3 qa1 qi) (wt hi x4) 0 (512 * qi + 256) m (arg10.view.readAt (Elt Ideal) Ra_1_0.toLoadRect f10))
    (h11 : ∃ m, StV (sc x2 x3 qa1 qi) (wt hi x4) 256 (512 * qi + 512) m (arg10.view.readAt (Elt Ideal) Ra_1_1.toLoadRect f10))
    (inb : ∀ a, (![0, 0, 0] : Fin 3 → ℕ) a + S1x128x512.size a ≤ S2x128x512.size a) (inb' : ∀ a, (![1, 0, 0] : Fin 3 → ℕ) a + S1x128x512.size a ≤ S2x128x512.size a) :
    Done x2 x3 x4 qa0 qa1 qi (k0_pay4 (arg10.view.readAt (Elt Ideal) (Rect.unit (s := S2x128x512) ![0, 0, 0] S1x128x512.size inb).toLoadRect f10)
      (arg10.view.readAt (Elt Ideal) (Rect.unit (s := S2x128x512) ![0, 0, 0] S1x128x512.size inb).toLoadRect f10)
      (arg10.view.readAt (Elt Ideal) (Rect.unit (s := S2x128x512) ![1, 0, 0] S1x128x512.size inb').toLoadRect f10)
      (arg10.view.readAt (Elt Ideal) (Rect.unit (s := S2x128x512) ![1, 0, 0] S1x128x512.size inb').toLoadRect f10)) := by
  intro Q r
  have hw (own : Fin 128 → Prop) [DecidablePred own] (r : Fin 128) (ho : own r) (k : Fin 4096) : wt own x4 r k.val = x4 (ix3 0 r k) := by
    unfold wt
    rw [if_pos ho, dif_pos k.isLt]
  have hw1 (own : Fin 128 → Prop) [DecidablePred own] (r : Fin 128) (ho : ¬ own r) (k : Fin 4096) : wt own x4 r k.val = 1 := by
    unfold wt
    rw [if_neg ho]
  by_cases hr : r.val < 64
  · have e := pay4_lo (arg10.view.readAt (Elt Ideal) (Rect.unit (s := S2x128x512) ![0, 0, 0] S1x128x512.size inb).toLoadRect f10)
      (arg10.view.readAt (Elt Ideal) (Rect.unit (s := S2x128x512) ![1, 0, 0] S1x128x512.size inb').toLoadRect f10) Q r ⟨r.val + 64, by omega⟩ hr rfl
    simp only [if_pos hr]
    rw [e]
    by_cases hQ : Q.val < 256
    · obtain ⟨mv, h⟩ := h00
      obtain ⟨x, hx, ea⟩ := all_keys hqi (by omega) (by omega) (h ⟨Q.val, hQ⟩ r Q (by simp))
      obtain ⟨x', hx', eb⟩ := all_keys hqi (by omega) (by omega) (h ⟨Q.val, hQ⟩ ⟨r.val + 64, by omega⟩ Q (by simp))
      obtain rfl : x = x' := EReal.coe_injective (hx.symm.trans hx')
      refine ⟨x, ?_⟩
      rw [rd_chain arg10 f10 0 0 inb (by decide) r ⟨Q.val, hQ⟩ Q (by simp), rd_chain arg10 f10 0 0 inb (by decide) ⟨r.val + 64, by omega⟩ ⟨Q.val, hQ⟩ Q (by simp)]
      rw [ea, eb]
      simp only [hw lo r hr, hw1 lo ⟨r.val + 64, by omega⟩ (show ¬ r.val + 64 < 64 by omega)]
    · obtain ⟨mv, h⟩ := h01
      have hq : Q.val - 256 < 256 := by omega
      obtain ⟨x, hx, ea⟩ := all_keys hqi (by omega) (by omega) (h ⟨Q.val - 256, hq⟩ r Q (by simp only; omega))
      obtain ⟨x', hx', eb⟩ := all_keys hqi (by omega) (by omega) (h ⟨Q.val - 256, hq⟩ ⟨r.val + 64, by omega⟩ Q (by simp only; omega))
      obtain rfl : x = x' := EReal.coe_injective (hx.symm.trans hx')
      refine ⟨x, ?_⟩
      rw [rd_chain arg10 f10 0 256 inb (by decide) r ⟨Q.val - 256, hq⟩ Q (by simp only; omega), rd_chain arg10 f10 0 256 inb (by decide) ⟨r.val + 64, by omega⟩ ⟨Q.val - 256, hq⟩ Q (by simp only; omega)]
      rw [ea, eb]
      simp only [hw lo r hr, hw1 lo ⟨r.val + 64, by omega⟩ (show ¬ r.val + 64 < 64 by omega)]
  · have hr1 : r.val - 64 < 128 := by omega
    have e := pay4_hi (arg10.view.readAt (Elt Ideal) (Rect.unit (s := S2x128x512) ![0, 0, 0] S1x128x512.size inb).toLoadRect f10)
      (arg10.view.readAt (Elt Ideal) (Rect.unit (s := S2x128x512) ![1, 0, 0] S1x128x512.size inb').toLoadRect f10) Q r ⟨r.val - 64, hr1⟩ hr (by simp only; omega)
    simp only [if_neg hr]
    rw [e]
    have ho : hi r := show 64 ≤ r.val by omega
    have ho' : ¬ hi ⟨r.val - 64, hr1⟩ := show ¬ 64 ≤ r.val - 64 by omega
    by_cases hQ : Q.val < 256
    · obtain ⟨mv, h⟩ := h10
      obtain ⟨x, hx, ea⟩ := all_keys hqi (by omega) (by omega) (h ⟨Q.val, hQ⟩ r Q (by simp))
      obtain ⟨x', hx', eb⟩ := all_keys hqi (by omega) (by omega) (h ⟨Q.val, hQ⟩ ⟨r.val - 64, hr1⟩ Q (by simp))
      obtain rfl : x = x' := EReal.coe_injective (hx.symm.trans hx')
      refine ⟨x, ?_⟩
      rw [rd_chain arg10 f10 1 0 inb' (by decide) r ⟨Q.val, hQ⟩ Q (by simp), rd_chain arg10 f10 1 0 inb' (by decide) ⟨r.val - 64, hr1⟩ ⟨Q.val, hQ⟩ Q (by simp)]
      rw [ea, eb]
      simp only [hw hi r ho, hw1 hi ⟨r.val - 64, hr1⟩ ho']
    · obtain ⟨mv, h⟩ := h11
      have hq : Q.val - 256 < 256 := by omega
      obtain ⟨x, hx, ea⟩ := all_keys hqi (by omega) (by omega) (h ⟨Q.val - 256, hq⟩ r Q (by simp only; omega))
      obtain ⟨x', hx', eb⟩ := all_keys hqi (by omega) (by omega) (h ⟨Q.val - 256, hq⟩ ⟨r.val - 64, hr1⟩ Q (by simp only; omega))
      obtain rfl : x = x' := EReal.coe_injective (hx.symm.trans hx')
      refine ⟨x, ?_⟩
      rw [rd_chain arg10 f10 1 256 inb' (by decide) r ⟨Q.val - 256, hq⟩ Q (by simp only; omega), rd_chain arg10 f10 1 256 inb' (by decide) ⟨r.val - 64, hr1⟩ ⟨Q.val - 256, hq⟩ Q (by simp only; omega)]
      rw [ea, eb]
      simp only [hw hi r ho, hw1 hi ⟨r.val - 64, hr1⟩ ho']

end Cert.AttnIdeal.Ker
-- ==== Proof.AttnCaseA.lean ====
/- A point whose query block is even: after the loop only its own masked tile is left. -/
module

public import proofs.«01_k».proof.Proof.AttnCase

@[expose] public section

set_option maxRecDepth 16384

noncomputable section

namespace Cert.AttnIdeal.Ker

open Cert.AttnIdeal Cert.AttnIdeal.Gen Idealize.ShloMosaic Idealize.ShloMosaic.TcCoe Idealize.SL.Sem
open Cert.AttnMath

/-- The last chain's accumulators, written as the other chains write theirs. -/
theorem last_eq (qa : FVec Ideal S256x512 .bf16) (kb akb : Vec Ideal S1x512x128 .bf16) (V : FVec Ideal S128x512 .bf16) (m : Vec Ideal S1x1x256 .f32)
    (a : Vec Ideal S1x128x256 .f32) :
    k0_pay2 (F := Ideal) V (k0_pay177 (k0_pay161 qa kb akb)) (k0_pay178 m) (k0_pay179 (k0_pay161 qa kb akb)) a = newA512_1 V (sM1 qa kb akb) m a := rfl

theorem chainA_0_0 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128x4096 .bf16) (harg7 : arg7.IsWhole) (arg8 : Memref sig .tc .vmem S1x512x128 .bf16) (harg8 : arg8.IsWhole) (arg9 : Memref sig .tc .vmem S2x1x512 .f32) (harg9 : arg9.IsWhole) (arg10 : Memref sig .tc .vmem S2x128x512 .f32) (harg10 : arg10.IsWhole) (hc0 : ¬cond0_0 i) (hc1 : cond0_1 i)
    (x0 x1 : Vec Ideal S1x512x128 .bf16) (x2 x3 : Vec Ideal S1x4096x128 .bf16) (x4 : Vec Ideal S1x128x4096 .bf16)
    (hr0 : ∀ Q k, ∃ r : ℝ, raw x2 x3 (kernelRun0_A.sl.r_2 (F := Ideal) c i arg3 harg3 arg4 harg4 x0 x1) Q k = r)
    (hr1 : ∀ Q k, ∃ r : ℝ, raw x2 x3 (kernelRun0_A.sl.r_3 (F := Ideal) c i arg3 harg3 arg4 harg4 x0 x1) Q k = r) :
    ∃ m, StV (sc x2 x3 (kernelRun0_A.sl.r_2 (F := Ideal) c i arg3 harg3 arg4 harg4 x0 x1) (i 2).val) (wt lo x4) 0 (512 * (i 2).val + 256) m (arg10.view.readAt (Elt Ideal) Ra_0_0.toLoadRect (arg10.view.writes (Elt Ideal) arg10.view.junk (kernelRun0_A.sl.HS1_4 c i arg3 harg3 arg4 harg4 arg5 harg5 arg6 harg6 arg7 harg7 arg8 harg8 arg9 harg9 arg10 harg10 hc1 x0 x1 x2 x3 x4))) := by
  have hqi : (i 2).val < 8 := (i 2).isLt
  have he := even_of_cond i hc1
  have base := base_st Variants.none none c i arg3 harg3 arg4 harg4 arg5 harg5 arg6 harg6 arg7 harg7 arg8 harg8 arg9 harg9 arg10 harg10 (BitVec.ofNat 32 (i 2).val) (kernelRun0_A.sl.r_2 (F := Ideal) c i arg3 harg3 arg4 harg4 x0 x1) (kernelRun0_A.sl.r_3 (F := Ideal) c i arg3 harg3 arg4 harg4 x0 x1) 2#32 (kernelRun0_A.sl.v63 i) (kernelRun0_A.sl.v68 i) 0#32 (kernelRun0_A.sl.v84 i) x2 x3 x4 hr0 hr1
    (arg9.view.writes (Elt Ideal) arg9.view.junk ((pb_k0_t1 (F := Ideal) Variants.none c none i arg3 harg3 arg4 harg4 arg5 harg5 arg6 harg6 arg7 harg7 arg8 harg8 arg9 harg9 arg10 harg10 (BitVec.ofNat 32 (i 2).val) (kernelRun0_A.sl.r_2 (F := Ideal) c i arg3 harg3 arg4 harg4 x0 x1) (kernelRun0_A.sl.r_3 (F := Ideal) c i arg3 harg3 arg4 harg4 x0 x1) 2#32 (kernelRun0_A.sl.v63 i) (kernelRun0_A.sl.v68 i) 0#32 one (harg5.unread x2) (harg6.unread x3) (harg7.unread x4) (arg9.view.writes (Elt Ideal) arg9.view.junk I9) (arg10.view.writes (Elt Ideal) arg10.view.junk I10) (Scf.trips (k0_t1_loop i).lb (k0_t1_loop i).ub (k0_t1_loop i).st)).1 ++ I9))
    (arg10.view.writes (Elt Ideal) arg10.view.junk ((pb_k0_t1 (F := Ideal) Variants.none c none i arg3 harg3 arg4 harg4 arg5 harg5 arg6 harg6 arg7 harg7 arg8 harg8 arg9 harg9 arg10 harg10 (BitVec.ofNat 32 (i 2).val) (kernelRun0_A.sl.r_2 (F := Ideal) c i arg3 harg3 arg4 harg4 x0 x1) (kernelRun0_A.sl.r_3 (F := Ideal) c i arg3 harg3 arg4 harg4 x0 x1) 2#32 (kernelRun0_A.sl.v63 i) (kernelRun0_A.sl.v68 i) 0#32 one (harg5.unread x2) (harg6.unread x3) (harg7.unread x4) (arg9.view.writes (Elt Ideal) arg9.view.junk I9) (arg10.view.writes (Elt Ideal) arg10.view.junk I10) (Scf.trips (k0_t1_loop i).lb (k0_t1_loop i).ub (k0_t1_loop i).st)).2 ++ I10)) (512 * (i 2).val) (by omega)
  simp (disch := decide) only [kernelRun0_A.sl.HS0_1, kernelRun0_A.sl.HS0_2_1, kernelRun0_A.sl.HS0_3, kernelRun0_A.sl.HS1_1, kernelRun0_A.sl.HS1_2_1, kernelRun0_A.sl.HS1_3, kernelRun0_A.sl.HS1_4, ↓ rd_skip, ↓ rd_hit]
  refine ⟨_, tileM_0_0 hr0 rfl hqi (fun y l k' hk' => load_rows arg5 harg5 x2 (off15_eq i) _ y l k' hk') (fun y l k' hk' => load_rows arg6 harg6 x3 (off15_eq i) _ y l k' hk') (fun r y k' hk' => (cols256 _ _ r y).trans (load_cols arg7 harg7 x4 (off16_eq i) _ r y k' hk')) ?_⟩
  simp (disch := decide) only [kernelRun0_A.sl.v171, kernelRun0_A.sl.v190, kernelRun0_A.sl.HS0_1, kernelRun0_A.sl.HS0_2_1, kernelRun0_A.sl.HS0_3, kernelRun0_A.sl.HS1_1, kernelRun0_A.sl.HS1_2_1, kernelRun0_A.sl.HS1_3, kernelRun0_A.sl.HS1_4, ↓ View.readCov_skip, ↓ View.readCov_cons_toLoadRect]
  exact base.h00

theorem chainA_0_1 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128x4096 .bf16) (harg7 : arg7.IsWhole) (arg8 : Memref sig .tc .vmem S1x512x128 .bf16) (harg8 : arg8.IsWhole) (arg9 : Memref sig .tc .vmem S2x1x512 .f32) (harg9 : arg9.IsWhole) (arg10 : Memref sig .tc .vmem S2x128x512 .f32) (harg10 : arg10.IsWhole) (hc0 : ¬cond0_0 i) (hc1 : cond0_1 i)
    (x0 x1 : Vec Ideal S1x512x128 .bf16) (x2 x3 : Vec Ideal S1x4096x128 .bf16) (x4 : Vec Ideal S1x128x4096 .bf16)
    (hr0 : ∀ Q k, ∃ r : ℝ, raw x2 x3 (kernelRun0_A.sl.r_2 (F := Ideal) c i arg3 harg3 arg4 harg4 x0 x1) Q k = r)
    (hr1 : ∀ Q k, ∃ r : ℝ, raw x2 x3 (kernelRun0_A.sl.r_3 (F := Ideal) c i arg3 harg3 arg4 harg4 x0 x1) Q k = r) :
    ∃ m, StV (sc x2 x3 (kernelRun0_A.sl.r_2 (F := Ideal) c i arg3 harg3 arg4 harg4 x0 x1) (i 2).val) (wt lo x4) 256 (512 * (i 2).val + 512) m (arg10.view.readAt (Elt Ideal) Ra_0_1.toLoadRect (arg10.view.writes (Elt Ideal) arg10.view.junk (kernelRun0_A.sl.HS1_4 c i arg3 harg3 arg4 harg4 arg5 harg5 arg6 harg6 arg7 harg7 arg8 harg8 arg9 harg9 arg10 harg10 hc1 x0 x1 x2 x3 x4))) := by
  have hqi : (i 2).val < 8 := (i 2).isLt
  have he := even_of_cond i hc1
  have base := base_st Variants.none none c i arg3 harg3 arg4 harg4 arg5 harg5 arg6 harg6 arg7 harg7 arg8 harg8 arg9 harg9 arg10 harg10 (BitVec.ofNat 32 (i 2).val) (kernelRun0_A.sl.r_2 (F := Ideal) c i arg3 harg3 arg4 harg4 x0 x1) (kernelRun0_A.sl.r_3 (F := Ideal) c i arg3 harg3 arg4 harg4 x0 x1) 2#32 (kernelRun0_A.sl.v63 i) (kernelRun0_A.sl.v68 i) 0#32 (kernelRun0_A.sl.v84 i) x2 x3 x4 hr0 hr1
    (arg9.view.writes (Elt Ideal) arg9.view.junk ((pb_k0_t1 (F := Ideal) Variants.none c none i arg3 harg3 arg4 harg4 arg5 harg5 arg6 harg6 arg7 harg7 arg8 harg8 arg9 harg9 arg10 harg10 (BitVec.ofNat 32 (i 2).val) (kernelRun0_A.sl.r_2 (F := Ideal) c i arg3 harg3 arg4 harg4 x0 x1) (kernelRun0_A.sl.r_3 (F := Ideal) c i arg3 harg3 arg4 harg4 x0 x1) 2#32 (kernelRun0_A.sl.v63 i) (kernelRun0_A.sl.v68 i) 0#32 one (harg5.unread x2) (harg6.unread x3) (harg7.unread x4) (arg9.view.writes (Elt Ideal) arg9.view.junk I9) (arg10.view.writes (Elt Ideal) arg10.view.junk I10) (Scf.trips (k0_t1_loop i).lb (k0_t1_loop i).ub (k0_t1_loop i).st)).1 ++ I9))
    (arg10.view.writes (Elt Ideal) arg10.view.junk ((pb_k0_t1 (F := Ideal) Variants.none c none i arg3 harg3 arg4 harg4 arg5 harg5 arg6 harg6 arg7 harg7 arg8 harg8 arg9 harg9 arg10 harg10 (BitVec.ofNat 32 (i 2).val) (kernelRun0_A.sl.r_2 (F := Ideal) c i arg3 harg3 arg4 harg4 x0 x1) (kernelRun0_A.sl.r_3 (F := Ideal) c i arg3 harg3 arg4 harg4 x0 x1) 2#32 (kernelRun0_A.sl.v63 i) (kernelRun0_A.sl.v68 i) 0#32 one (harg5.unread x2) (harg6.unread x3) (harg7.unread x4) (arg9.view.writes (Elt Ideal) arg9.view.junk I9) (arg10.view.writes (Elt Ideal) arg10.view.junk I10) (Scf.trips (k0_t1_loop i).lb (k0_t1_loop i).ub (k0_t1_loop i).st)).2 ++ I10)) (512 * (i 2).val) (by omega)
  simp (disch := decide) only [kernelRun0_A.sl.HS0_1, kernelRun0_A.sl.HS0_2_1, kernelRun0_A.sl.HS0_3, kernelRun0_A.sl.HS1_1, kernelRun0_A.sl.HS1_2_1, kernelRun0_A.sl.HS1_3, kernelRun0_A.sl.HS1_4, ↓ rd_skip, ↓ rd_hit]
  refine ⟨_, tileM_0_1 hr0 rfl hqi (fun y l k' hk' => load_rows arg5 harg5 x2 (off17_eq i) _ y l k' hk') (fun y l k' hk' => load_rows arg6 harg6 x3 (off17_eq i) _ y l k' hk') (fun r y k' hk' => (cols512 _ _ r y).trans (load_cols arg7 harg7 x4 (off18_eq i) _ r y k' hk')) ?_⟩
  simp (disch := decide) only [kernelRun0_A.sl.v209, kernelRun0_A.sl.v228, kernelRun0_A.sl.HS0_1, kernelRun0_A.sl.HS0_2_1, kernelRun0_A.sl.HS0_3, kernelRun0_A.sl.HS1_1, kernelRun0_A.sl.HS1_2_1, kernelRun0_A.sl.HS1_3, kernelRun0_A.sl.HS1_4, ↓ View.readCov_skip, ↓ View.readCov_cons_toLoadRect]
  exact base.h01

theorem chainA_1_0 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128x4096 .bf16) (harg7 : arg7.IsWhole) (arg8 : Memref sig .tc .vmem S1x512x128 .bf16) (harg8 : arg8.IsWhole) (arg9 : Memref sig .tc .vmem S2x1x512 .f32) (harg9 : arg9.IsWhole) (arg10 : Memref sig .tc .vmem S2x128x512 .f32) (harg10 : arg10.IsWhole) (hc0 : ¬cond0_0 i) (hc1 : cond0_1 i)
    (x0 x1 : Vec Ideal S1x512x128 .bf16) (x2 x3 : Vec Ideal S1x4096x128 .bf16) (x4 : Vec Ideal S1x128x4096 .bf16)
    (hr0 : ∀ Q k, ∃ r : ℝ, raw x2 x3 (kernelRun0_A.sl.r_2 (F := Ideal) c i arg3 harg3 arg4 harg4 x0 x1) Q k = r)
    (hr1 : ∀ Q k, ∃ r : ℝ, raw x2 x3 (kernelRun0_A.sl.r_3 (F := Ideal) c i arg3 harg3 arg4 harg4 x0 x1) Q k = r) :
    ∃ m, StV (sc x2 x3 (kernelRun0_A.sl.r_3 (F := Ideal) c i arg3 harg3 arg4 harg4 x0 x1) (i 2).val) (wt hi x4) 0 (512 * (i 2).val + 256) m (arg10.view.readAt (Elt Ideal) Ra_1_0.toLoadRect (arg10.view.writes (Elt Ideal) arg10.view.junk (kernelRun0_A.sl.HS1_4 c i arg3 harg3 arg4 harg4 arg5 harg5 arg6 harg6 arg7 harg7 arg8 harg8 arg9 harg9 arg10 harg10 hc1 x0 x1 x2 x3 x4))) := by
  have hqi : (i 2).val < 8 := (i 2).isLt
  have he := even_of_cond i hc1
  have base := base_st Variants.none none c i arg3 harg3 arg4 harg4 arg5 harg5 arg6 harg6 arg7 harg7 arg8 harg8 arg9 harg9 arg10 harg10 (BitVec.ofNat 32 (i 2).val) (kernelRun0_A.sl.r_2 (F := Ideal) c i arg3 harg3 arg4 harg4 x0 x1) (kernelRun0_A.sl.r_3 (F := Ideal) c i arg3 harg3 arg4 harg4 x0 x1) 2#32 (kernelRun0_A.sl.v63 i) (kernelRun0_A.sl.v68 i) 0#32 (kernelRun0_A.sl.v84 i) x2 x3 x4 hr0 hr1
    (arg9.view.writes (Elt Ideal) arg9.view.junk ((pb_k0_t1 (F := Ideal) Variants.none c none i arg3 harg3 arg4 harg4 arg5 harg5 arg6 harg6 arg7 harg7 arg8 harg8 arg9 harg9 arg10 harg10 (BitVec.ofNat 32 (i 2).val) (kernelRun0_A.sl.r_2 (F := Ideal) c i arg3 harg3 arg4 harg4 x0 x1) (kernelRun0_A.sl.r_3 (F := Ideal) c i arg3 harg3 arg4 harg4 x0 x1) 2#32 (kernelRun0_A.sl.v63 i) (kernelRun0_A.sl.v68 i) 0#32 one (harg5.unread x2) (harg6.unread x3) (harg7.unread x4) (arg9.view.writes (Elt Ideal) arg9.view.junk I9) (arg10.view.writes (Elt Ideal) arg10.view.junk I10) (Scf.trips (k0_t1_loop i).lb (k0_t1_loop i).ub (k0_t1_loop i).st)).1 ++ I9))
    (arg10.view.writes (Elt Ideal) arg10.view.junk ((pb_k0_t1 (F := Ideal) Variants.none c none i arg3 harg3 arg4 harg4 arg5 harg5 arg6 harg6 arg7 harg7 arg8 harg8 arg9 harg9 arg10 harg10 (BitVec.ofNat 32 (i 2).val) (kernelRun0_A.sl.r_2 (F := Ideal) c i arg3 harg3 arg4 harg4 x0 x1) (kernelRun0_A.sl.r_3 (F := Ideal) c i arg3 harg3 arg4 harg4 x0 x1) 2#32 (kernelRun0_A.sl.v63 i) (kernelRun0_A.sl.v68 i) 0#32 one (harg5.unread x2) (harg6.unread x3) (harg7.unread x4) (arg9.view.writes (Elt Ideal) arg9.view.junk I9) (arg10.view.writes (Elt Ideal) arg10.view.junk I10) (Scf.trips (k0_t1_loop i).lb (k0_t1_loop i).ub (k0_t1_loop i).st)).2 ++ I10)) (512 * (i 2).val) (by omega)
  simp (disch := decide) only [kernelRun0_A.sl.HS0_1, kernelRun0_A.sl.HS0_2_1, kernelRun0_A.sl.HS0_3, kernelRun0_A.sl.HS1_1, kernelRun0_A.sl.HS1_2_1, kernelRun0_A.sl.HS1_3, kernelRun0_A.sl.HS1_4, ↓ rd_skip, ↓ rd_hit]
  refine ⟨_, tileM_1_0 hr1 rfl hqi (fun y l k' hk' => load_rows arg5 harg5 x2 (off15_eq i) _ y l k' hk') (fun y l k' hk' => load_rows arg6 harg6 x3 (off15_eq i) _ y l k' hk') (fun r y k' hk' => (cols256 _ _ r y).trans (load_cols arg7 harg7 x4 (off16_eq i) _ r y k' hk')) ?_⟩
  simp (disch := decide) only [kernelRun0_A.sl.v247, kernelRun0_A.sl.v266, kernelRun0_A.sl.HS0_1, kernelRun0_A.sl.HS0_2_1, kernelRun0_A.sl.HS0_3, kernelRun0_A.sl.HS1_1, kernelRun0_A.sl.HS1_2_1, kernelRun0_A.sl.HS1_3, kernelRun0_A.sl.HS1_4, ↓ View.readCov_skip, ↓ View.readCov_cons_toLoadRect]
  exact base.h10

theorem chainA_1_1 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128x4096 .bf16) (harg7 : arg7.IsWhole) (arg8 : Memref sig .tc .vmem S1x512x128 .bf16) (harg8 : arg8.IsWhole) (arg9 : Memref sig .tc .vmem S2x1x512 .f32) (harg9 : arg9.IsWhole) (arg10 : Memref sig .tc .vmem S2x128x512 .f32) (harg10 : arg10.IsWhole) (hc0 : ¬cond0_0 i) (hc1 : cond0_1 i)
    (x0 x1 : Vec Ideal S1x512x128 .bf16) (x2 x3 : Vec Ideal S1x4096x128 .bf16) (x4 : Vec Ideal S1x128x4096 .bf16)
    (hr0 : ∀ Q k, ∃ r : ℝ, raw x2 x3 (kernelRun0_A.sl.r_2 (F := Ideal) c i arg3 harg3 arg4 harg4 x0 x1) Q k = r)
    (hr1 : ∀ Q k, ∃ r : ℝ, raw x2 x3 (kernelRun0_A.sl.r_3 (F := Ideal) c i arg3 harg3 arg4 harg4 x0 x1) Q k = r) :
    ∃ m, StV (sc x2 x3 (kernelRun0_A.sl.r_3 (F := Ideal) c i arg3 harg3 arg4 harg4 x0 x1) (i 2).val) (wt hi x4) 256 (512 * (i 2).val + 512) m (arg10.view.readAt (Elt Ideal) Ra_1_1.toLoadRect (arg10.view.writes (Elt Ideal) arg10.view.junk (kernelRun0_A.sl.HS1_4 c i arg3 harg3 arg4 harg4 arg5 harg5 arg6 harg6 arg7 harg7 arg8 harg8 arg9 harg9 arg10 harg10 hc1 x0 x1 x2 x3 x4))) := by
  have hqi : (i 2).val < 8 := (i 2).isLt
  have he := even_of_cond i hc1
  have base := base_st Variants.none none c i arg3 harg3 arg4 harg4 arg5 harg5 arg6 harg6 arg7 harg7 arg8 harg8 arg9 harg9 arg10 harg10 (BitVec.ofNat 32 (i 2).val) (kernelRun0_A.sl.r_2 (F := Ideal) c i arg3 harg3 arg4 harg4 x0 x1) (kernelRun0_A.sl.r_3 (F := Ideal) c i arg3 harg3 arg4 harg4 x0 x1) 2#32 (kernelRun0_A.sl.v63 i) (kernelRun0_A.sl.v68 i) 0#32 (kernelRun0_A.sl.v84 i) x2 x3 x4 hr0 hr1
    (arg9.view.writes (Elt Ideal) arg9.view.junk ((pb_k0_t1 (F := Ideal) Variants.none c none i arg3 harg3 arg4 harg4 arg5 harg5 arg6 harg6 arg7 harg7 arg8 harg8 arg9 harg9 arg10 harg10 (BitVec.ofNat 32 (i 2).val) (kernelRun0_A.sl.r_2 (F := Ideal) c i arg3 harg3 arg4 harg4 x0 x1) (kernelRun0_A.sl.r_3 (F := Ideal) c i arg3 harg3 arg4 harg4 x0 x1) 2#32 (kernelRun0_A.sl.v63 i) (kernelRun0_A.sl.v68 i) 0#32 one (harg5.unread x2) (harg6.unread x3) (harg7.unread x4) (arg9.view.writes (Elt Ideal) arg9.view.junk I9) (arg10.view.writes (Elt Ideal) arg10.view.junk I10) (Scf.trips (k0_t1_loop i).lb (k0_t1_loop i).ub (k0_t1_loop i).st)).1 ++ I9))
    (arg10.view.writes (Elt Ideal) arg10.view.junk ((pb_k0_t1 (F := Ideal) Variants.none c none i arg3 harg3 arg4 harg4 arg5 harg5 arg6 harg6 arg7 harg7 arg8 harg8 arg9 harg9 arg10 harg10 (BitVec.ofNat 32 (i 2).val) (kernelRun0_A.sl.r_2 (F := Ideal) c i arg3 harg3 arg4 harg4 x0 x1) (kernelRun0_A.sl.r_3 (F := Ideal) c i arg3 harg3 arg4 harg4 x0 x1) 2#32 (kernelRun0_A.sl.v63 i) (kernelRun0_A.sl.v68 i) 0#32 one (harg5.unread x2) (harg6.unread x3) (harg7.unread x4) (arg9.view.writes (Elt Ideal) arg9.view.junk I9) (arg10.view.writes (Elt Ideal) arg10.view.junk I10) (Scf.trips (k0_t1_loop i).lb (k0_t1_loop i).ub (k0_t1_loop i).st)).2 ++ I10)) (512 * (i 2).val) (by omega)
  simp (disch := decide) only [kernelRun0_A.sl.HS0_1, kernelRun0_A.sl.HS0_2_1, kernelRun0_A.sl.HS0_3, kernelRun0_A.sl.HS1_1, kernelRun0_A.sl.HS1_2_1, kernelRun0_A.sl.HS1_3, kernelRun0_A.sl.HS1_4, ↓ rd_skip, ↓ rd_hit]
  simp only [kernelRun0_A.sl.r_13, kernelRun0_A.sl.r_14, kernelRun0_A.sl.r_15, kernelRun0_A.sl.r_8, last_eq]
  refine ⟨_, tileM_1_1 hr1 rfl hqi (fun y l k' hk' => load_rows arg5 harg5 x2 (off17_eq i) _ y l k' hk') (fun y l k' hk' => load_rows arg6 harg6 x3 (off17_eq i) _ y l k' hk') (fun r y k' hk' => (cols512 _ _ r y).trans (load_cols arg7 harg7 x4 (off18_eq i) _ r y k' hk')) ?_⟩
  simp (disch := decide) only [kernelRun0_A.sl.v285, kernelRun0_A.sl.v304, kernelRun0_A.sl.HS0_1, kernelRun0_A.sl.HS0_2_1, kernelRun0_A.sl.HS0_3, kernelRun0_A.sl.HS1_1, kernelRun0_A.sl.HS1_2_1, kernelRun0_A.sl.HS1_3, kernelRun0_A.sl.HS1_4, ↓ View.readCov_skip, ↓ View.readCov_cons_toLoadRect]
  exact base.h11

/-- What such a point writes back. -/
theorem caseA (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128x4096 .bf16) (harg7 : arg7.IsWhole) (arg8 : Memref sig .tc .vmem S1x512x128 .bf16) (harg8 : arg8.IsWhole) (arg9 : Memref sig .tc .vmem S2x1x512 .f32) (harg9 : arg9.IsWhole) (arg10 : Memref sig .tc .vmem S2x128x512 .f32) (harg10 : arg10.IsWhole) (hc0 : ¬cond0_0 i) (hc1 : cond0_1 i)
    (x0 x1 : Vec Ideal S1x512x128 .bf16) (x2 x3 : Vec Ideal S1x4096x128 .bf16) (x4 : Vec Ideal S1x128x4096 .bf16)
    (hr0 : ∀ Q k, ∃ r : ℝ, raw x2 x3 (kernelRun0_A.sl.r_2 (F := Ideal) c i arg3 harg3 arg4 harg4 x0 x1) Q k = r)
    (hr1 : ∀ Q k, ∃ r : ℝ, raw x2 x3 (kernelRun0_A.sl.r_3 (F := Ideal) c i arg3 harg3 arg4 harg4 x0 x1) Q k = r) :
    Done x2 x3 x4 (kernelRun0_A.sl.r_2 (F := Ideal) c i arg3 harg3 arg4 harg4 x0 x1) (kernelRun0_A.sl.r_3 (F := Ideal) c i arg3 harg3 arg4 harg4 x0 x1) (i 2).val
      (out0_A_5 c i arg3 harg3 arg4 harg4 arg5 harg5 arg6 harg6 arg7 harg7 arg8 harg8 arg9 harg9 arg10 harg10 hc0 hc1 x0 x1 x2 x3 x4) := by
  have hqi : (i 2).val < 8 := (i 2).isLt
  unfold out0_A_5 kernelRun0_A
  dsimp only
  rw [View.read_writes_junk_eq_canon, View.canon_cons_unit_lit _ _ _ (by decide)]
  exact done_of hqi arg10 (arg10.view.writes (Elt Ideal) arg10.view.junk (kernelRun0_A.sl.HS1_4 c i arg3 harg3 arg4 harg4 arg5 harg5 arg6 harg6 arg7 harg7 arg8 harg8 arg9 harg9 arg10 harg10 hc1 x0 x1 x2 x3 x4))
    (chainA_0_0 c i arg3 harg3 arg4 harg4 arg5 harg5 arg6 harg6 arg7 harg7 arg8 harg8 arg9 harg9 arg10 harg10 hc0 hc1 x0 x1 x2 x3 x4 hr0 hr1) (chainA_0_1 c i arg3 harg3 arg4 harg4 arg5 harg5 arg6 harg6 arg7 harg7 arg8 harg8 arg9 harg9 arg10 harg10 hc0 hc1 x0 x1 x2 x3 x4 hr0 hr1)
    (chainA_1_0 c i arg3 harg3 arg4 harg4 arg5 harg5 arg6 harg6 arg7 harg7 arg8 harg8 arg9 harg9 arg10 harg10 hc0 hc1 x0 x1 x2 x3 x4 hr0 hr1) (chainA_1_1 c i arg3 harg3 arg4 harg4 arg5 harg5 arg6 harg6 arg7 harg7 arg8 harg8 arg9 harg9 arg10 harg10 hc0 hc1 x0 x1 x2 x3 x4 hr0 hr1) _ _

end Cert.AttnIdeal.Ker
-- ==== Proof.AttnCaseB.lean ====
/- A point whose query block is odd: after the loop one more full tile and then its own masked tile are left. -/
module

public import proofs.«01_k».proof.Proof.AttnCase

@[expose] public section

set_option maxRecDepth 16384

noncomputable section

namespace Cert.AttnIdeal.Ker

open Cert.AttnIdeal Cert.AttnIdeal.Gen Idealize.ShloMosaic Idealize.ShloMosaic.TcCoe Idealize.SL.Sem
open Cert.AttnMath

theorem chainB_0_0 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128x4096 .bf16) (harg7 : arg7.IsWhole) (arg8 : Memref sig .tc .vmem S1x512x128 .bf16) (harg8 : arg8.IsWhole) (arg9 : Memref sig .tc .vmem S2x1x512 .f32) (harg9 : arg9.IsWhole) (arg10 : Memref sig .tc .vmem S2x128x512 .f32) (harg10 : arg10.IsWhole) (hc0 : cond0_0 i) (hc1 : ¬cond0_1 i)
    (x0 x1 : Vec Ideal S1x512x128 .bf16) (x2 x3 : Vec Ideal S1x4096x128 .bf16) (x4 : Vec Ideal S1x128x4096 .bf16)
    (hr0 : ∀ Q k, ∃ r : ℝ, raw x2 x3 (kernelRun0_B.sl.r_2 (F := Ideal) c i arg3 harg3 arg4 harg4 x0 x1) Q k = r)
    (hr1 : ∀ Q k, ∃ r : ℝ, raw x2 x3 (kernelRun0_B.sl.r_3 (F := Ideal) c i arg3 harg3 arg4 harg4 x0 x1) Q k = r) :
    ∃ m, StV (sc x2 x3 (kernelRun0_B.sl.r_2 (F := Ideal) c i arg3 harg3 arg4 harg4 x0 x1) (i 2).val) (wt lo x4) 0 (512 * (i 2).val + 256) m (arg10.view.readAt (Elt Ideal) Ra_0_0.toLoadRect (arg10.view.writes (Elt Ideal) arg10.view.junk (kernelRun0_B.sl.HS1_8 c i arg3 harg3 arg4 harg4 arg5 harg5 arg6 harg6 arg7 harg7 arg8 harg8 arg9 harg9 arg10 harg10 hc0 x0 x1 x2 x3 x4))) := by
  have hqi : (i 2).val < 8 := (i 2).isLt
  have ho := odd_of_cond i hc0
  have base := base_st Variants.none none c i arg3 harg3 arg4 harg4 arg5 harg5 arg6 harg6 arg7 harg7 arg8 harg8 arg9 harg9 arg10 harg10 (BitVec.ofNat 32 (i 2).val) (kernelRun0_B.sl.r_2 (F := Ideal) c i arg3 harg3 arg4 harg4 x0 x1) (kernelRun0_B.sl.r_3 (F := Ideal) c i arg3 harg3 arg4 harg4 x0 x1) 2#32 (kernelRun0_B.sl.v63 i) (kernelRun0_B.sl.v68 i) 0#32 (kernelRun0_B.sl.v84 i) x2 x3 x4 hr0 hr1
    (arg9.view.writes (Elt Ideal) arg9.view.junk ((pb_k0_t1 (F := Ideal) Variants.none c none i arg3 harg3 arg4 harg4 arg5 harg5 arg6 harg6 arg7 harg7 arg8 harg8 arg9 harg9 arg10 harg10 (BitVec.ofNat 32 (i 2).val) (kernelRun0_B.sl.r_2 (F := Ideal) c i arg3 harg3 arg4 harg4 x0 x1) (kernelRun0_B.sl.r_3 (F := Ideal) c i arg3 harg3 arg4 harg4 x0 x1) 2#32 (kernelRun0_B.sl.v63 i) (kernelRun0_B.sl.v68 i) 0#32 one (harg5.unread x2) (harg6.unread x3) (harg7.unread x4) (arg9.view.writes (Elt Ideal) arg9.view.junk I9) (arg10.view.writes (Elt Ideal) arg10.view.junk I10) (Scf.trips (k0_t1_loop i).lb (k0_t1_loop i).ub (k0_t1_loop i).st)).1 ++ I9))
    (arg10.view.writes (Elt Ideal) arg10.view.junk ((pb_k0_t1 (F := Ideal) Variants.none c none i arg3 harg3 arg4 harg4 arg5 harg5 arg6 harg6 arg7 harg7 arg8 harg8 arg9 harg9 arg10 harg10 (BitVec.ofNat 32 (i 2).val) (kernelRun0_B.sl.r_2 (F := Ideal) c i arg3 harg3 arg4 harg4 x0 x1) (kernelRun0_B.sl.r_3 (F := Ideal) c i arg3 harg3 arg4 harg4 x0 x1) 2#32 (kernelRun0_B.sl.v63 i) (kernelRun0_B.sl.v68 i) 0#32 one (harg5.unread x2) (harg6.unread x3) (harg7.unread x4) (arg9.view.writes (Elt Ideal) arg9.view.junk I9) (arg10.view.writes (Elt Ideal) arg10.view.junk I10) (Scf.trips (k0_t1_loop i).lb (k0_t1_loop i).ub (k0_t1_loop i).st)).2 ++ I10)) (512 * ((i 2).val - 1)) (by omega)
  simp (disch := decide) only [kernelRun0_B.sl.HS0_1, kernelRun0_B.sl.HS0_2_1, kernelRun0_B.sl.HS0_3, kernelRun0_B.sl.HS0_4, kernelRun0_B.sl.HS0_5, kernelRun0_B.sl.HS0_6, kernelRun0_B.sl.HS0_7, kernelRun0_B.sl.HS1_1, kernelRun0_B.sl.HS1_2_1, kernelRun0_B.sl.HS1_3, kernelRun0_B.sl.HS1_4, kernelRun0_B.sl.HS1_5, kernelRun0_B.sl.HS1_6, kernelRun0_B.sl.HS1_7, kernelRun0_B.sl.HS1_8, ↓ rd_skip, ↓ rd_hit]
  refine ⟨_, tileM_0_0 hr0 rfl hqi (fun y l k' hk' => load_rows arg5 harg5 x2 (off11_eq i) _ y l k' hk') (fun y l k' hk' => load_rows arg6 harg6 x3 (off11_eq i) _ y l k' hk') (fun r y k' hk' => (cols256 _ _ r y).trans (load_cols arg7 harg7 x4 (off12_eq i) _ r y k' hk')) ?_⟩
  simp (disch := decide) only [kernelRun0_B.sl.v316, kernelRun0_B.sl.v335, kernelRun0_B.sl.HS0_1, kernelRun0_B.sl.HS0_2_1, kernelRun0_B.sl.HS0_3, kernelRun0_B.sl.HS0_4, kernelRun0_B.sl.HS0_5, kernelRun0_B.sl.HS0_6, kernelRun0_B.sl.HS0_7, kernelRun0_B.sl.HS1_1, kernelRun0_B.sl.HS1_2_1, kernelRun0_B.sl.HS1_3, kernelRun0_B.sl.HS1_4, kernelRun0_B.sl.HS1_5, kernelRun0_B.sl.HS1_6, kernelRun0_B.sl.HS1_7, kernelRun0_B.sl.HS1_8, ↓ View.readCov_skip, ↓ View.readCov_cons_toLoadRect]
  rw [show 512 * (i 2).val = 512 * ((i 2).val - 1) + 512 by omega]
  refine tileF_0_0 hr0 (by omega) hqi (fun y l k' hk' => load_rows arg5 harg5 x2 (off9_eq i ho) _ y l k' hk') (fun y l k' hk' => load_rows arg6 harg6 x3 (off9_eq i ho) _ y l k' hk') (fun r y k' hk' => (cols512 _ _ r y).trans (load_cols arg7 harg7 x4 (off10_eq i ho) _ r y k' hk')) ?_
  simp (disch := decide) only [kernelRun0_B.sl.v185, kernelRun0_B.sl.v204, kernelRun0_B.sl.HS0_1, kernelRun0_B.sl.HS0_2_1, kernelRun0_B.sl.HS0_3, kernelRun0_B.sl.HS0_4, kernelRun0_B.sl.HS0_5, kernelRun0_B.sl.HS0_6, kernelRun0_B.sl.HS0_7, kernelRun0_B.sl.HS1_1, kernelRun0_B.sl.HS1_2_1, kernelRun0_B.sl.HS1_3, kernelRun0_B.sl.HS1_4, kernelRun0_B.sl.HS1_5, kernelRun0_B.sl.HS1_6, kernelRun0_B.sl.HS1_7, kernelRun0_B.sl.HS1_8, ↓ View.readCov_skip, ↓ View.readCov_cons_toLoadRect]
  exact base.h00

theorem chainB_0_1 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128x4096 .bf16) (harg7 : arg7.IsWhole) (arg8 : Memref sig .tc .vmem S1x512x128 .bf16) (harg8 : arg8.IsWhole) (arg9 : Memref sig .tc .vmem S2x1x512 .f32) (harg9 : arg9.IsWhole) (arg10 : Memref sig .tc .vmem S2x128x512 .f32) (harg10 : arg10.IsWhole) (hc0 : cond0_0 i) (hc1 : ¬cond0_1 i)
    (x0 x1 : Vec Ideal S1x512x128 .bf16) (x2 x3 : Vec Ideal S1x4096x128 .bf16) (x4 : Vec Ideal S1x128x4096 .bf16)
    (hr0 : ∀ Q k, ∃ r : ℝ, raw x2 x3 (kernelRun0_B.sl.r_2 (F := Ideal) c i arg3 harg3 arg4 harg4 x0 x1) Q k = r)
    (hr1 : ∀ Q k, ∃ r : ℝ, raw x2 x3 (kernelRun0_B.sl.r_3 (F := Ideal) c i arg3 harg3 arg4 harg4 x0 x1) Q k = r) :
    ∃ m, StV (sc x2 x3 (kernelRun0_B.sl.r_2 (F := Ideal) c i arg3 harg3 arg4 harg4 x0 x1) (i 2).val) (wt lo x4) 256 (512 * (i 2).val + 512) m (arg10.view.readAt (Elt Ideal) Ra_0_1.toLoadRect (arg10.view.writes (Elt Ideal) arg10.view.junk (kernelRun0_B.sl.HS1_8 c i arg3 harg3 arg4 harg4 arg5 harg5 arg6 harg6 arg7 harg7 arg8 harg8 arg9 harg9 arg10 harg10 hc0 x0 x1 x2 x3 x4))) := by
  have hqi : (i 2).val < 8 := (i 2).isLt
  have ho := odd_of_cond i hc0
  have base := base_st Variants.none none c i arg3 harg3 arg4 harg4 arg5 harg5 arg6 harg6 arg7 harg7 arg8 harg8 arg9 harg9 arg10 harg10 (BitVec.ofNat 32 (i 2).val) (kernelRun0_B.sl.r_2 (F := Ideal) c i arg3 harg3 arg4 harg4 x0 x1) (kernelRun0_B.sl.r_3 (F := Ideal) c i arg3 harg3 arg4 harg4 x0 x1) 2#32 (kernelRun0_B.sl.v63 i) (kernelRun0_B.sl.v68 i) 0#32 (kernelRun0_B.sl.v84 i) x2 x3 x4 hr0 hr1
    (arg9.view.writes (Elt Ideal) arg9.view.junk ((pb_k0_t1 (F := Ideal) Variants.none c none i arg3 harg3 arg4 harg4 arg5 harg5 arg6 harg6 arg7 harg7 arg8 harg8 arg9 harg9 arg10 harg10 (BitVec.ofNat 32 (i 2).val) (kernelRun0_B.sl.r_2 (F := Ideal) c i arg3 harg3 arg4 harg4 x0 x1) (kernelRun0_B.sl.r_3 (F := Ideal) c i arg3 harg3 arg4 harg4 x0 x1) 2#32 (kernelRun0_B.sl.v63 i) (kernelRun0_B.sl.v68 i) 0#32 one (harg5.unread x2) (harg6.unread x3) (harg7.unread x4) (arg9.view.writes (Elt Ideal) arg9.view.junk I9) (arg10.view.writes (Elt Ideal) arg10.view.junk I10) (Scf.trips (k0_t1_loop i).lb (k0_t1_loop i).ub (k0_t1_loop i).st)).1 ++ I9))
    (arg10.view.writes (Elt Ideal) arg10.view.junk ((pb_k0_t1 (F := Ideal) Variants.none c none i arg3 harg3 arg4 harg4 arg5 harg5 arg6 harg6 arg7 harg7 arg8 harg8 arg9 harg9 arg10 harg10 (BitVec.ofNat 32 (i 2).val) (kernelRun0_B.sl.r_2 (F := Ideal) c i arg3 harg3 arg4 harg4 x0 x1) (kernelRun0_B.sl.r_3 (F := Ideal) c i arg3 harg3 arg4 harg4 x0 x1) 2#32 (kernelRun0_B.sl.v63 i) (kernelRun0_B.sl.v68 i) 0#32 one (harg5.unread x2) (harg6.unread x3) (harg7.unread x4) (arg9.view.writes (Elt Ideal) arg9.view.junk I9) (arg10.view.writes (Elt Ideal) arg10.view.junk I10) (Scf.trips (k0_t1_loop i).lb (k0_t1_loop i).ub (k0_t1_loop i).st)).2 ++ I10)) (512 * ((i 2).val - 1)) (by omega)
  simp (disch := decide) only [kernelRun0_B.sl.HS0_1, kernelRun0_B.sl.HS0_2_1, kernelRun0_B.sl.HS0_3, kernelRun0_B.sl.HS0_4, kernelRun0_B.sl.HS0_5, kernelRun0_B.sl.HS0_6, kernelRun0_B.sl.HS0_7, kernelRun0_B.sl.HS1_1, kernelRun0_B.sl.HS1_2_1, kernelRun0_B.sl.HS1_3, kernelRun0_B.sl.HS1_4, kernelRun0_B.sl.HS1_5, kernelRun0_B.sl.HS1_6, kernelRun0_B.sl.HS1_7, kernelRun0_B.sl.HS1_8, ↓ rd_skip, ↓ rd_hit]
  refine ⟨_, tileM_0_1 hr0 rfl hqi (fun y l k' hk' => load_rows arg5 harg5 x2 (off13_eq i) _ y l k' hk') (fun y l k' hk' => load_rows arg6 harg6 x3 (off13_eq i) _ y l k' hk') (fun r y k' hk' => (cols512 _ _ r y).trans (load_cols arg7 harg7 x4 (off14_eq i) _ r y k' hk')) ?_⟩
  simp (disch := decide) only [kernelRun0_B.sl.v354, kernelRun0_B.sl.v373, kernelRun0_B.sl.HS0_1, kernelRun0_B.sl.HS0_2_1, kernelRun0_B.sl.HS0_3, kernelRun0_B.sl.HS0_4, kernelRun0_B.sl.HS0_5, kernelRun0_B.sl.HS0_6, kernelRun0_B.sl.HS0_7, kernelRun0_B.sl.HS1_1, kernelRun0_B.sl.HS1_2_1, kernelRun0_B.sl.HS1_3, kernelRun0_B.sl.HS1_4, kernelRun0_B.sl.HS1_5, kernelRun0_B.sl.HS1_6, kernelRun0_B.sl.HS1_7, kernelRun0_B.sl.HS1_8, ↓ View.readCov_skip, ↓ View.readCov_cons_toLoadRect]
  rw [show 512 * (i 2).val = 512 * ((i 2).val - 1) + 512 by omega]
  refine tileF_0_1 hr0 (by omega) hqi (fun y l k' hk' => load_rows arg5 harg5 x2 (off9_eq i ho) _ y l k' hk') (fun y l k' hk' => load_rows arg6 harg6 x3 (off9_eq i ho) _ y l k' hk') (fun r y k' hk' => (cols512 _ _ r y).trans (load_cols arg7 harg7 x4 (off10_eq i ho) _ r y k' hk')) ?_
  simp (disch := decide) only [kernelRun0_B.sl.v216, kernelRun0_B.sl.v235, kernelRun0_B.sl.HS0_1, kernelRun0_B.sl.HS0_2_1, kernelRun0_B.sl.HS0_3, kernelRun0_B.sl.HS0_4, kernelRun0_B.sl.HS0_5, kernelRun0_B.sl.HS0_6, kernelRun0_B.sl.HS0_7, kernelRun0_B.sl.HS1_1, kernelRun0_B.sl.HS1_2_1, kernelRun0_B.sl.HS1_3, kernelRun0_B.sl.HS1_4, kernelRun0_B.sl.HS1_5, kernelRun0_B.sl.HS1_6, kernelRun0_B.sl.HS1_7, kernelRun0_B.sl.HS1_8, ↓ View.readCov_skip, ↓ View.readCov_cons_toLoadRect]
  exact base.h01

theorem chainB_1_0 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128x4096 .bf16) (harg7 : arg7.IsWhole) (arg8 : Memref sig .tc .vmem S1x512x128 .bf16) (harg8 : arg8.IsWhole) (arg9 : Memref sig .tc .vmem S2x1x512 .f32) (harg9 : arg9.IsWhole) (arg10 : Memref sig .tc .vmem S2x128x512 .f32) (harg10 : arg10.IsWhole) (hc0 : cond0_0 i) (hc1 : ¬cond0_1 i)
    (x0 x1 : Vec Ideal S1x512x128 .bf16) (x2 x3 : Vec Ideal S1x4096x128 .bf16) (x4 : Vec Ideal S1x128x4096 .bf16)
    (hr0 : ∀ Q k, ∃ r : ℝ, raw x2 x3 (kernelRun0_B.sl.r_2 (F := Ideal) c i arg3 harg3 arg4 harg4 x0 x1) Q k = r)
    (hr1 : ∀ Q k, ∃ r : ℝ, raw x2 x3 (kernelRun0_B.sl.r_3 (F := Ideal) c i arg3 harg3 arg4 harg4 x0 x1) Q k = r) :
    ∃ m, StV (sc x2 x3 (kernelRun0_B.sl.r_3 (F := Ideal) c i arg3 harg3 arg4 harg4 x0 x1) (i 2).val) (wt hi x4) 0 (512 * (i 2).val + 256) m (arg10.view.readAt (Elt Ideal) Ra_1_0.toLoadRect (arg10.view.writes (Elt Ideal) arg10.view.junk (kernelRun0_B.sl.HS1_8 c i arg3 harg3 arg4 harg4 arg5 harg5 arg6 harg6 arg7 harg7 arg8 harg8 arg9 harg9 arg10 harg10 hc0 x0 x1 x2 x3 x4))) := by
  have hqi : (i 2).val < 8 := (i 2).isLt
  have ho := odd_of_cond i hc0
  have base := base_st Variants.none none c i arg3 harg3 arg4 harg4 arg5 harg5 arg6 harg6 arg7 harg7 arg8 harg8 arg9 harg9 arg10 harg10 (BitVec.ofNat 32 (i 2).val) (kernelRun0_B.sl.r_2 (F := Ideal) c i arg3 harg3 arg4 harg4 x0 x1) (kernelRun0_B.sl.r_3 (F := Ideal) c i arg3 harg3 arg4 harg4 x0 x1) 2#32 (kernelRun0_B.sl.v63 i) (kernelRun0_B.sl.v68 i) 0#32 (kernelRun0_B.sl.v84 i) x2 x3 x4 hr0 hr1
    (arg9.view.writes (Elt Ideal) arg9.view.junk ((pb_k0_t1 (F := Ideal) Variants.none c none i arg3 harg3 arg4 harg4 arg5 harg5 arg6 harg6 arg7 harg7 arg8 harg8 arg9 harg9 arg10 harg10 (BitVec.ofNat 32 (i 2).val) (kernelRun0_B.sl.r_2 (F := Ideal) c i arg3 harg3 arg4 harg4 x0 x1) (kernelRun0_B.sl.r_3 (F := Ideal) c i arg3 harg3 arg4 harg4 x0 x1) 2#32 (kernelRun0_B.sl.v63 i) (kernelRun0_B.sl.v68 i) 0#32 one (harg5.unread x2) (harg6.unread x3) (harg7.unread x4) (arg9.view.writes (Elt Ideal) arg9.view.junk I9) (arg10.view.writes (Elt Ideal) arg10.view.junk I10) (Scf.trips (k0_t1_loop i).lb (k0_t1_loop i).ub (k0_t1_loop i).st)).1 ++ I9))
    (arg10.view.writes (Elt Ideal) arg10.view.junk ((pb_k0_t1 (F := Ideal) Variants.none c none i arg3 harg3 arg4 harg4 arg5 harg5 arg6 harg6 arg7 harg7 arg8 harg8 arg9 harg9 arg10 harg10 (BitVec.ofNat 32 (i 2).val) (kernelRun0_B.sl.r_2 (F := Ideal) c i arg3 harg3 arg4 harg4 x0 x1) (kernelRun0_B.sl.r_3 (F := Ideal) c i arg3 harg3 arg4 harg4 x0 x1) 2#32 (kernelRun0_B.sl.v63 i) (kernelRun0_B.sl.v68 i) 0#32 one (harg5.unread x2) (harg6.unread x3) (harg7.unread x4) (arg9.view.writes (Elt Ideal) arg9.view.junk I9) (arg10.view.writes (Elt Ideal) arg10.view.junk I10) (Scf.trips (k0_t1_loop i).lb (k0_t1_loop i).ub (k0_t1_loop i).st)).2 ++ I10)) (512 * ((i 2).val - 1)) (by omega)
  simp (disch := decide) only [kernelRun0_B.sl.HS0_1, kernelRun0_B.sl.HS0_2_1, kernelRun0_B.sl.HS0_3, kernelRun0_B.sl.HS0_4, kernelRun0_B.sl.HS0_5, kernelRun0_B.sl.HS0_6, kernelRun0_B.sl.HS0_7, kernelRun0_B.sl.HS1_1, kernelRun0_B.sl.HS1_2_1, kernelRun0_B.sl.HS1_3, kernelRun0_B.sl.HS1_4, kernelRun0_B.sl.HS1_5, kernelRun0_B.sl.HS1_6, kernelRun0_B.sl.HS1_7, kernelRun0_B.sl.HS1_8, ↓ rd_skip, ↓ rd_hit]
  refine ⟨_, tileM_1_0 hr1 rfl hqi (fun y l k' hk' => load_rows arg5 harg5 x2 (off11_eq i) _ y l k' hk') (fun y l k' hk' => load_rows arg6 harg6 x3 (off11_eq i) _ y l k' hk') (fun r y k' hk' => (cols256 _ _ r y).trans (load_cols arg7 harg7 x4 (off12_eq i) _ r y k' hk')) ?_⟩
  simp (disch := decide) only [kernelRun0_B.sl.v392, kernelRun0_B.sl.v411, kernelRun0_B.sl.HS0_1, kernelRun0_B.sl.HS0_2_1, kernelRun0_B.sl.HS0_3, kernelRun0_B.sl.HS0_4, kernelRun0_B.sl.HS0_5, kernelRun0_B.sl.HS0_6, kernelRun0_B.sl.HS0_7, kernelRun0_B.sl.HS1_1, kernelRun0_B.sl.HS1_2_1, kernelRun0_B.sl.HS1_3, kernelRun0_B.sl.HS1_4, kernelRun0_B.sl.HS1_5, kernelRun0_B.sl.HS1_6, kernelRun0_B.sl.HS1_7, kernelRun0_B.sl.HS1_8, ↓ View.readCov_skip, ↓ View.readCov_cons_toLoadRect]
  rw [show 512 * (i 2).val = 512 * ((i 2).val - 1) + 512 by omega]
  refine tileF_1_0 hr1 (by omega) hqi (fun y l k' hk' => load_rows arg5 harg5 x2 (off9_eq i ho) _ y l k' hk') (fun y l k' hk' => load_rows arg6 harg6 x3 (off9_eq i ho) _ y l k' hk') (fun r y k' hk' => (cols512 _ _ r y).trans (load_cols arg7 harg7 x4 (off10_eq i ho) _ r y k' hk')) ?_
  simp (disch := decide) only [kernelRun0_B.sl.v247, kernelRun0_B.sl.v266, kernelRun0_B.sl.HS0_1, kernelRun0_B.sl.HS0_2_1, kernelRun0_B.sl.HS0_3, kernelRun0_B.sl.HS0_4, kernelRun0_B.sl.HS0_5, kernelRun0_B.sl.HS0_6, kernelRun0_B.sl.HS0_7, kernelRun0_B.sl.HS1_1, kernelRun0_B.sl.HS1_2_1, kernelRun0_B.sl.HS1_3, kernelRun0_B.sl.HS1_4, kernelRun0_B.sl.HS1_5, kernelRun0_B.sl.HS1_6, kernelRun0_B.sl.HS1_7, kernelRun0_B.sl.HS1_8, ↓ View.readCov_skip, ↓ View.readCov_cons_toLoadRect]
  exact base.h10

theorem chainB_1_1 (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128x4096 .bf16) (harg7 : arg7.IsWhole) (arg8 : Memref sig .tc .vmem S1x512x128 .bf16) (harg8 : arg8.IsWhole) (arg9 : Memref sig .tc .vmem S2x1x512 .f32) (harg9 : arg9.IsWhole) (arg10 : Memref sig .tc .vmem S2x128x512 .f32) (harg10 : arg10.IsWhole) (hc0 : cond0_0 i) (hc1 : ¬cond0_1 i)
    (x0 x1 : Vec Ideal S1x512x128 .bf16) (x2 x3 : Vec Ideal S1x4096x128 .bf16) (x4 : Vec Ideal S1x128x4096 .bf16)
    (hr0 : ∀ Q k, ∃ r : ℝ, raw x2 x3 (kernelRun0_B.sl.r_2 (F := Ideal) c i arg3 harg3 arg4 harg4 x0 x1) Q k = r)
    (hr1 : ∀ Q k, ∃ r : ℝ, raw x2 x3 (kernelRun0_B.sl.r_3 (F := Ideal) c i arg3 harg3 arg4 harg4 x0 x1) Q k = r) :
    ∃ m, StV (sc x2 x3 (kernelRun0_B.sl.r_3 (F := Ideal) c i arg3 harg3 arg4 harg4 x0 x1) (i 2).val) (wt hi x4) 256 (512 * (i 2).val + 512) m (arg10.view.readAt (Elt Ideal) Ra_1_1.toLoadRect (arg10.view.writes (Elt Ideal) arg10.view.junk (kernelRun0_B.sl.HS1_8 c i arg3 harg3 arg4 harg4 arg5 harg5 arg6 harg6 arg7 harg7 arg8 harg8 arg9 harg9 arg10 harg10 hc0 x0 x1 x2 x3 x4))) := by
  have hqi : (i 2).val < 8 := (i 2).isLt
  have ho := odd_of_cond i hc0
  have base := base_st Variants.none none c i arg3 harg3 arg4 harg4 arg5 harg5 arg6 harg6 arg7 harg7 arg8 harg8 arg9 harg9 arg10 harg10 (BitVec.ofNat 32 (i 2).val) (kernelRun0_B.sl.r_2 (F := Ideal) c i arg3 harg3 arg4 harg4 x0 x1) (kernelRun0_B.sl.r_3 (F := Ideal) c i arg3 harg3 arg4 harg4 x0 x1) 2#32 (kernelRun0_B.sl.v63 i) (kernelRun0_B.sl.v68 i) 0#32 (kernelRun0_B.sl.v84 i) x2 x3 x4 hr0 hr1
    (arg9.view.writes (Elt Ideal) arg9.view.junk ((pb_k0_t1 (F := Ideal) Variants.none c none i arg3 harg3 arg4 harg4 arg5 harg5 arg6 harg6 arg7 harg7 arg8 harg8 arg9 harg9 arg10 harg10 (BitVec.ofNat 32 (i 2).val) (kernelRun0_B.sl.r_2 (F := Ideal) c i arg3 harg3 arg4 harg4 x0 x1) (kernelRun0_B.sl.r_3 (F := Ideal) c i arg3 harg3 arg4 harg4 x0 x1) 2#32 (kernelRun0_B.sl.v63 i) (kernelRun0_B.sl.v68 i) 0#32 one (harg5.unread x2) (harg6.unread x3) (harg7.unread x4) (arg9.view.writes (Elt Ideal) arg9.view.junk I9) (arg10.view.writes (Elt Ideal) arg10.view.junk I10) (Scf.trips (k0_t1_loop i).lb (k0_t1_loop i).ub (k0_t1_loop i).st)).1 ++ I9))
    (arg10.view.writes (Elt Ideal) arg10.view.junk ((pb_k0_t1 (F := Ideal) Variants.none c none i arg3 harg3 arg4 harg4 arg5 harg5 arg6 harg6 arg7 harg7 arg8 harg8 arg9 harg9 arg10 harg10 (BitVec.ofNat 32 (i 2).val) (kernelRun0_B.sl.r_2 (F := Ideal) c i arg3 harg3 arg4 harg4 x0 x1) (kernelRun0_B.sl.r_3 (F := Ideal) c i arg3 harg3 arg4 harg4 x0 x1) 2#32 (kernelRun0_B.sl.v63 i) (kernelRun0_B.sl.v68 i) 0#32 one (harg5.unread x2) (harg6.unread x3) (harg7.unread x4) (arg9.view.writes (Elt Ideal) arg9.view.junk I9) (arg10.view.writes (Elt Ideal) arg10.view.junk I10) (Scf.trips (k0_t1_loop i).lb (k0_t1_loop i).ub (k0_t1_loop i).st)).2 ++ I10)) (512 * ((i 2).val - 1)) (by omega)
  simp (disch := decide) only [kernelRun0_B.sl.HS0_1, kernelRun0_B.sl.HS0_2_1, kernelRun0_B.sl.HS0_3, kernelRun0_B.sl.HS0_4, kernelRun0_B.sl.HS0_5, kernelRun0_B.sl.HS0_6, kernelRun0_B.sl.HS0_7, kernelRun0_B.sl.HS1_1, kernelRun0_B.sl.HS1_2_1, kernelRun0_B.sl.HS1_3, kernelRun0_B.sl.HS1_4, kernelRun0_B.sl.HS1_5, kernelRun0_B.sl.HS1_6, kernelRun0_B.sl.HS1_7, kernelRun0_B.sl.HS1_8, ↓ rd_skip, ↓ rd_hit]
  refine ⟨_, tileM_1_1 hr1 rfl hqi (fun y l k' hk' => load_rows arg5 harg5 x2 (off13_eq i) _ y l k' hk') (fun y l k' hk' => load_rows arg6 harg6 x3 (off13_eq i) _ y l k' hk') (fun r y k' hk' => (cols512 _ _ r y).trans (load_cols arg7 harg7 x4 (off14_eq i) _ r y k' hk')) ?_⟩
  simp (disch := decide) only [kernelRun0_B.sl.v430, kernelRun0_B.sl.v449, kernelRun0_B.sl.HS0_1, kernelRun0_B.sl.HS0_2_1, kernelRun0_B.sl.HS0_3, kernelRun0_B.sl.HS0_4, kernelRun0_B.sl.HS0_5, kernelRun0_B.sl.HS0_6, kernelRun0_B.sl.HS0_7, kernelRun0_B.sl.HS1_1, kernelRun0_B.sl.HS1_2_1, kernelRun0_B.sl.HS1_3, kernelRun0_B.sl.HS1_4, kernelRun0_B.sl.HS1_5, kernelRun0_B.sl.HS1_6, kernelRun0_B.sl.HS1_7, kernelRun0_B.sl.HS1_8, ↓ View.readCov_skip, ↓ View.readCov_cons_toLoadRect]
  rw [show 512 * (i 2).val = 512 * ((i 2).val - 1) + 512 by omega]
  refine tileF_1_1 hr1 (by omega) hqi (fun y l k' hk' => load_rows arg5 harg5 x2 (off9_eq i ho) _ y l k' hk') (fun y l k' hk' => load_rows arg6 harg6 x3 (off9_eq i ho) _ y l k' hk') (fun r y k' hk' => (cols512 _ _ r y).trans (load_cols arg7 harg7 x4 (off10_eq i ho) _ r y k' hk')) ?_
  simp (disch := decide) only [kernelRun0_B.sl.v278, kernelRun0_B.sl.v297, kernelRun0_B.sl.HS0_1, kernelRun0_B.sl.HS0_2_1, kernelRun0_B.sl.HS0_3, kernelRun0_B.sl.HS0_4, kernelRun0_B.sl.HS0_5, kernelRun0_B.sl.HS0_6, kernelRun0_B.sl.HS0_7, kernelRun0_B.sl.HS1_1, kernelRun0_B.sl.HS1_2_1, kernelRun0_B.sl.HS1_3, kernelRun0_B.sl.HS1_4, kernelRun0_B.sl.HS1_5, kernelRun0_B.sl.HS1_6, kernelRun0_B.sl.HS1_7, kernelRun0_B.sl.HS1_8, ↓ View.readCov_skip, ↓ View.readCov_cons_toLoadRect]
  exact base.h11

/-- What such a point writes back. -/
theorem caseB (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128x4096 .bf16) (harg7 : arg7.IsWhole) (arg8 : Memref sig .tc .vmem S1x512x128 .bf16) (harg8 : arg8.IsWhole) (arg9 : Memref sig .tc .vmem S2x1x512 .f32) (harg9 : arg9.IsWhole) (arg10 : Memref sig .tc .vmem S2x128x512 .f32) (harg10 : arg10.IsWhole) (hc0 : cond0_0 i) (hc1 : ¬cond0_1 i)
    (x0 x1 : Vec Ideal S1x512x128 .bf16) (x2 x3 : Vec Ideal S1x4096x128 .bf16) (x4 : Vec Ideal S1x128x4096 .bf16)
    (hr0 : ∀ Q k, ∃ r : ℝ, raw x2 x3 (kernelRun0_B.sl.r_2 (F := Ideal) c i arg3 harg3 arg4 harg4 x0 x1) Q k = r)
    (hr1 : ∀ Q k, ∃ r : ℝ, raw x2 x3 (kernelRun0_B.sl.r_3 (F := Ideal) c i arg3 harg3 arg4 harg4 x0 x1) Q k = r) :
    Done x2 x3 x4 (kernelRun0_B.sl.r_2 (F := Ideal) c i arg3 harg3 arg4 harg4 x0 x1) (kernelRun0_B.sl.r_3 (F := Ideal) c i arg3 harg3 arg4 harg4 x0 x1) (i 2).val
      (out0_B_5 c i arg3 harg3 arg4 harg4 arg5 harg5 arg6 harg6 arg7 harg7 arg8 harg8 arg9 harg9 arg10 harg10 hc0 hc1 x0 x1 x2 x3 x4) := by
  have hqi : (i 2).val < 8 := (i 2).isLt
  unfold out0_B_5 kernelRun0_B
  dsimp only
  rw [View.read_writes_junk_eq_canon, View.canon_cons_unit_lit _ _ _ (by decide)]
  exact done_of hqi arg10 (arg10.view.writes (Elt Ideal) arg10.view.junk (kernelRun0_B.sl.HS1_8 c i arg3 harg3 arg4 harg4 arg5 harg5 arg6 harg6 arg7 harg7 arg8 harg8 arg9 harg9 arg10 harg10 hc0 x0 x1 x2 x3 x4))
    (chainB_0_0 c i arg3 harg3 arg4 harg4 arg5 harg5 arg6 harg6 arg7 harg7 arg8 harg8 arg9 harg9 arg10 harg10 hc0 hc1 x0 x1 x2 x3 x4 hr0 hr1) (chainB_0_1 c i arg3 harg3 arg4 harg4 arg5 harg5 arg6 harg6 arg7 harg7 arg8 harg8 arg9 harg9 arg10 harg10 hc0 hc1 x0 x1 x2 x3 x4 hr0 hr1)
    (chainB_1_0 c i arg3 harg3 arg4 harg4 arg5 harg5 arg6 harg6 arg7 harg7 arg8 harg8 arg9 harg9 arg10 harg10 hc0 hc1 x0 x1 x2 x3 x4 hr0 hr1) (chainB_1_1 c i arg3 harg3 arg4 harg4 arg5 harg5 arg6 harg6 arg7 harg7 arg8 harg8 arg9 harg9 arg10 harg10 hc0 hc1 x0 x1 x2 x3 x4 hr0 hr1) _ _

end Cert.AttnIdeal.Ker
-- ==== Proof.AttnHost.lean ====
/- The operands of the attention kernel, as the host operations leave them. -/
module

public import proofs.«01_k».proof.Proof.Gen.AttnIdeal.Value
public import Idealize.ShloMosaic.Lib.Pointwise
public import Idealize.ShloMosaic.Lib.StableHlo.RunRead
public import Idealize.ShloMosaic.Lib.Pipeline.ValueKit
public import Idealize.ShloMosaic.Lib.Pipeline.ReadBack

@[expose] public section

set_option maxRecDepth 16384

noncomputable section

namespace Cert.AttnIdeal.Ops

open Cert.AttnIdeal Cert.AttnIdeal.Gen Idealize.ShloMosaic Idealize.ShloMosaic.TcCoe Idealize.SL.Sem

variable (m : (ℓ : Loc nD τ sig) → Buf (Elt Ideal) ℓ)

/-- The base-two logarithm of e, as the host computes it: one over the logarithm of two. -/
def L2 : EReal := Ideal.div 1 (Ideal.log (Ideal.ofBits .f32 0x40000000#32))

/-- The four arguments. -/
abbrev aQ (c : Dev nD) : FVec Ideal S8x4096x512 .f32 := m ((c : Thread nD τ).loc main_arg0)
abbrev aK (c : Dev nD) : FVec Ideal S8x4096x512 .f32 := m ((c : Thread nD τ).loc main_arg1)
abbrev aV (c : Dev nD) : FVec Ideal S8x4096x512 .f32 := m ((c : Thread nD τ).loc main_arg2)
abbrev aC (c : Dev nD) : FVec Ideal S8x4096x8 .f32 := m ((c : Thread nD τ).loc main_arg3)

theorem v7_at (c : Dev nD) (b : Fin 8) (i : Fin 4096) (x : Fin 512) :
    (show FVec Ideal S8x4096x512 .bf16 from V m c main_v7) (ix3 b i x) = aQ m c (ix3 b i x) * (L2 * Ideal.ofBits .f32 0x3E000000#32) := by
  entry_read
  pointwise []
  rfl

theorem v8_at (c : Dev nD) (b : Fin 8) (i : Fin 4096) (x : Fin 512) :
    (show FVec Ideal S8x4096x512 .bf16 from V m c main_v8) (ix3 b i x) = aK m c (ix3 b i x) := by
  entry_read
  pointwise []

theorem v10_at (c : Dev nD) (b : Fin 8) (i : Fin 4096) (x : Fin 512) :
    (show FVec Ideal S8x512x4096 .bf16 from V m c main_v10) (ix3 b x i) = aV m c (ix3 b i x) := by
  entry_read
  pointwise []

/-- Sixteen columns per head side by side, -/
def cat (u0 u1 u2 u3 u4 u5 u6 u7 u8 u9 u10 u11 u12 u13 u14 u15 : FVec Ideal S8x4096x8x1 .f32) : FVec Ideal S8x4096x8x16 .f32 :=
  concatenate S8x4096x8x16 3 [⟨S8x4096x8x1, u0⟩, ⟨S8x4096x8x1, u1⟩, ⟨S8x4096x8x1, u2⟩, ⟨S8x4096x8x1, u3⟩, ⟨S8x4096x8x1, u4⟩, ⟨S8x4096x8x1, u5⟩, ⟨S8x4096x8x1, u6⟩, ⟨S8x4096x8x1, u7⟩, ⟨S8x4096x8x1, u8⟩, ⟨S8x4096x8x1, u9⟩, ⟨S8x4096x8x1, u10⟩, ⟨S8x4096x8x1, u11⟩, ⟨S8x4096x8x1, u12⟩, ⟨S8x4096x8x1, u13⟩, ⟨S8x4096x8x1, u14⟩, ⟨S8x4096x8x1, u15⟩]
    concatenates_S8x4096x8x1_S8x4096x8x1_S8x4096x8x1_S8x4096x8x1_S8x4096x8x1_S8x4096x8x1_S8x4096x8x1_S8x4096x8x1_S8x4096x8x1_S8x4096x8x1_S8x4096x8x1_S8x4096x8x1_S8x4096x8x1_S8x4096x8x1_S8x4096x8x1_S8x4096x8x1_S8x4096x8x16_d3

/-- and sixteen lanes to a head. -/
def lanes (X : FVec Ideal S8x4096x8x16 .f32) : FVec Ideal S8x4096x128 .bf16 :=
  truncf (F := Ideal) .bf16 (shapeCast S8x4096x128 X shapeCasts_S8x4096x8x16_S8x4096x128) bitsLt_bf16_f32

def pack (u0 u1 u2 u3 u4 u5 u6 u7 u8 u9 u10 u11 u12 u13 u14 u15 : FVec Ideal S8x4096x8x1 .f32) : FVec Ideal S8x4096x128 .bf16 := lanes (cat u0 u1 u2 u3 u4 u5 u6 u7 u8 u9 u10 u11 u12 u13 u14 u15)

theorem lanes_at (X : FVec Ideal S8x4096x8x16 .f32) (b : Fin 8) (i : Fin 4096) (h : Fin 8) (s : Fin 16) (p : h.val * 16 + s.val < 128) :
    lanes X (ix3 b i (⟨h.val * 16 + s.val, p⟩ : Fin 128)) = X (ix4 b i h s) := by
  pointwise [lanes]

theorem cat_0 (u0 u1 u2 u3 u4 u5 u6 u7 u8 u9 u10 u11 u12 u13 u14 u15 : FVec Ideal S8x4096x8x1 .f32) (b : Fin 8) (i : Fin 4096) (h : Fin 8) : cat u0 u1 u2 u3 u4 u5 u6 u7 u8 u9 u10 u11 u12 u13 u14 u15 (ix4 b i h (0 : Fin 16)) = u0 (ix4 b i h 0) := by
  pointwise [cat]

theorem cat_1 (u0 u1 u2 u3 u4 u5 u6 u7 u8 u9 u10 u11 u12 u13 u14 u15 : FVec Ideal S8x4096x8x1 .f32) (b : Fin 8) (i : Fin 4096) (h : Fin 8) : cat u0 u1 u2 u3 u4 u5 u6 u7 u8 u9 u10 u11 u12 u13 u14 u15 (ix4 b i h (1 : Fin 16)) = u1 (ix4 b i h 0) := by
  pointwise [cat]

theorem cat_2 (u0 u1 u2 u3 u4 u5 u6 u7 u8 u9 u10 u11 u12 u13 u14 u15 : FVec Ideal S8x4096x8x1 .f32) (b : Fin 8) (i : Fin 4096) (h : Fin 8) : cat u0 u1 u2 u3 u4 u5 u6 u7 u8 u9 u10 u11 u12 u13 u14 u15 (ix4 b i h (2 : Fin 16)) = u2 (ix4 b i h 0) := by
  pointwise [cat]

theorem cat_3 (u0 u1 u2 u3 u4 u5 u6 u7 u8 u9 u10 u11 u12 u13 u14 u15 : FVec Ideal S8x4096x8x1 .f32) (b : Fin 8) (i : Fin 4096) (h : Fin 8) : cat u0 u1 u2 u3 u4 u5 u6 u7 u8 u9 u10 u11 u12 u13 u14 u15 (ix4 b i h (3 : Fin 16)) = u3 (ix4 b i h 0) := by
  pointwise [cat]

theorem cat_4 (u0 u1 u2 u3 u4 u5 u6 u7 u8 u9 u10 u11 u12 u13 u14 u15 : FVec Ideal S8x4096x8x1 .f32) (b : Fin 8) (i : Fin 4096) (h : Fin 8) : cat u0 u1 u2 u3 u4 u5 u6 u7 u8 u9 u10 u11 u12 u13 u14 u15 (ix4 b i h (4 : Fin 16)) = u4 (ix4 b i h 0) := by
  pointwise [cat]

theorem cat_5 (u0 u1 u2 u3 u4 u5 u6 u7 u8 u9 u10 u11 u12 u13 u14 u15 : FVec Ideal S8x4096x8x1 .f32) (b : Fin 8) (i : Fin 4096) (h : Fin 8) : cat u0 u1 u2 u3 u4 u5 u6 u7 u8 u9 u10 u11 u12 u13 u14 u15 (ix4 b i h (5 : Fin 16)) = u5 (ix4 b i h 0) := by
  pointwise [cat]

theorem cat_6 (u0 u1 u2 u3 u4 u5 u6 u7 u8 u9 u10 u11 u12 u13 u14 u15 : FVec Ideal S8x4096x8x1 .f32) (b : Fin 8) (i : Fin 4096) (h : Fin 8) : cat u0 u1 u2 u3 u4 u5 u6 u7 u8 u9 u10 u11 u12 u13 u14 u15 (ix4 b i h (6 : Fin 16)) = u6 (ix4 b i h 0) := by
  pointwise [cat]

theorem cat_7 (u0 u1 u2 u3 u4 u5 u6 u7 u8 u9 u10 u11 u12 u13 u14 u15 : FVec Ideal S8x4096x8x1 .f32) (b : Fin 8) (i : Fin 4096) (h : Fin 8) : cat u0 u1 u2 u3 u4 u5 u6 u7 u8 u9 u10 u11 u12 u13 u14 u15 (ix4 b i h (7 : Fin 16)) = u7 (ix4 b i h 0) := by
  pointwise [cat]

theorem cat_8 (u0 u1 u2 u3 u4 u5 u6 u7 u8 u9 u10 u11 u12 u13 u14 u15 : FVec Ideal S8x4096x8x1 .f32) (b : Fin 8) (i : Fin 4096) (h : Fin 8) : cat u0 u1 u2 u3 u4 u5 u6 u7 u8 u9 u10 u11 u12 u13 u14 u15 (ix4 b i h (8 : Fin 16)) = u8 (ix4 b i h 0) := by
  pointwise [cat]

theorem cat_9 (u0 u1 u2 u3 u4 u5 u6 u7 u8 u9 u10 u11 u12 u13 u14 u15 : FVec Ideal S8x4096x8x1 .f32) (b : Fin 8) (i : Fin 4096) (h : Fin 8) : cat u0 u1 u2 u3 u4 u5 u6 u7 u8 u9 u10 u11 u12 u13 u14 u15 (ix4 b i h (9 : Fin 16)) = u9 (ix4 b i h 0) := by
  pointwise [cat]

theorem cat_10 (u0 u1 u2 u3 u4 u5 u6 u7 u8 u9 u10 u11 u12 u13 u14 u15 : FVec Ideal S8x4096x8x1 .f32) (b : Fin 8) (i : Fin 4096) (h : Fin 8) : cat u0 u1 u2 u3 u4 u5 u6 u7 u8 u9 u10 u11 u12 u13 u14 u15 (ix4 b i h (10 : Fin 16)) = u10 (ix4 b i h 0) := by
  pointwise [cat]

theorem cat_11 (u0 u1 u2 u3 u4 u5 u6 u7 u8 u9 u10 u11 u12 u13 u14 u15 : FVec Ideal S8x4096x8x1 .f32) (b : Fin 8) (i : Fin 4096) (h : Fin 8) : cat u0 u1 u2 u3 u4 u5 u6 u7 u8 u9 u10 u11 u12 u13 u14 u15 (ix4 b i h (11 : Fin 16)) = u11 (ix4 b i h 0) := by
  pointwise [cat]

theorem cat_12 (u0 u1 u2 u3 u4 u5 u6 u7 u8 u9 u10 u11 u12 u13 u14 u15 : FVec Ideal S8x4096x8x1 .f32) (b : Fin 8) (i : Fin 4096) (h : Fin 8) : cat u0 u1 u2 u3 u4 u5 u6 u7 u8 u9 u10 u11 u12 u13 u14 u15 (ix4 b i h (12 : Fin 16)) = u12 (ix4 b i h 0) := by
  pointwise [cat]

theorem cat_13 (u0 u1 u2 u3 u4 u5 u6 u7 u8 u9 u10 u11 u12 u13 u14 u15 : FVec Ideal S8x4096x8x1 .f32) (b : Fin 8) (i : Fin 4096) (h : Fin 8) : cat u0 u1 u2 u3 u4 u5 u6 u7 u8 u9 u10 u11 u12 u13 u14 u15 (ix4 b i h (13 : Fin 16)) = u13 (ix4 b i h 0) := by
  pointwise [cat]

theorem cat_14 (u0 u1 u2 u3 u4 u5 u6 u7 u8 u9 u10 u11 u12 u13 u14 u15 : FVec Ideal S8x4096x8x1 .f32) (b : Fin 8) (i : Fin 4096) (h : Fin 8) : cat u0 u1 u2 u3 u4 u5 u6 u7 u8 u9 u10 u11 u12 u13 u14 u15 (ix4 b i h (14 : Fin 16)) = u14 (ix4 b i h 0) := by
  pointwise [cat]

theorem cat_15 (u0 u1 u2 u3 u4 u5 u6 u7 u8 u9 u10 u11 u12 u13 u14 u15 : FVec Ideal S8x4096x8x1 .f32) (b : Fin 8) (i : Fin 4096) (h : Fin 8) : cat u0 u1 u2 u3 u4 u5 u6 u7 u8 u9 u10 u11 u12 u13 u14 u15 (ix4 b i h (15 : Fin 16)) = u15 (ix4 b i h 0) := by
  pointwise [cat]

theorem pack_0 (u0 u1 u2 u3 u4 u5 u6 u7 u8 u9 u10 u11 u12 u13 u14 u15 : FVec Ideal S8x4096x8x1 .f32) (b : Fin 8) (i : Fin 4096) (h : Fin 8) (p : h.val * 16 + 0 < 128) :
    pack u0 u1 u2 u3 u4 u5 u6 u7 u8 u9 u10 u11 u12 u13 u14 u15 (ix3 b i (⟨h.val * 16 + 0, p⟩ : Fin 128)) = u0 (ix4 b i h 0) :=
  (lanes_at (cat u0 u1 u2 u3 u4 u5 u6 u7 u8 u9 u10 u11 u12 u13 u14 u15) b i h (0 : Fin 16) p).trans (cat_0 u0 u1 u2 u3 u4 u5 u6 u7 u8 u9 u10 u11 u12 u13 u14 u15 b i h)

theorem pack_1 (u0 u1 u2 u3 u4 u5 u6 u7 u8 u9 u10 u11 u12 u13 u14 u15 : FVec Ideal S8x4096x8x1 .f32) (b : Fin 8) (i : Fin 4096) (h : Fin 8) (p : h.val * 16 + 1 < 128) :
    pack u0 u1 u2 u3 u4 u5 u6 u7 u8 u9 u10 u11 u12 u13 u14 u15 (ix3 b i (⟨h.val * 16 + 1, p⟩ : Fin 128)) = u1 (ix4 b i h 0) :=
  (lanes_at (cat u0 u1 u2 u3 u4 u5 u6 u7 u8 u9 u10 u11 u12 u13 u14 u15) b i h (1 : Fin 16) p).trans (cat_1 u0 u1 u2 u3 u4 u5 u6 u7 u8 u9 u10 u11 u12 u13 u14 u15 b i h)

theorem pack_2 (u0 u1 u2 u3 u4 u5 u6 u7 u8 u9 u10 u11 u12 u13 u14 u15 : FVec Ideal S8x4096x8x1 .f32) (b : Fin 8) (i : Fin 4096) (h : Fin 8) (p : h.val * 16 + 2 < 128) :
    pack u0 u1 u2 u3 u4 u5 u6 u7 u8 u9 u10 u11 u12 u13 u14 u15 (ix3 b i (⟨h.val * 16 + 2, p⟩ : Fin 128)) = u2 (ix4 b i h 0) :=
  (lanes_at (cat u0 u1 u2 u3 u4 u5 u6 u7 u8 u9 u10 u11 u12 u13 u14 u15) b i h (2 : Fin 16) p).trans (cat_2 u0 u1 u2 u3 u4 u5 u6 u7 u8 u9 u10 u11 u12 u13 u14 u15 b i h)

theorem pack_3 (u0 u1 u2 u3 u4 u5 u6 u7 u8 u9 u10 u11 u12 u13 u14 u15 : FVec Ideal S8x4096x8x1 .f32) (b : Fin 8) (i : Fin 4096) (h : Fin 8) (p : h.val * 16 + 3 < 128) :
    pack u0 u1 u2 u3 u4 u5 u6 u7 u8 u9 u10 u11 u12 u13 u14 u15 (ix3 b i (⟨h.val * 16 + 3, p⟩ : Fin 128)) = u3 (ix4 b i h 0) :=
  (lanes_at (cat u0 u1 u2 u3 u4 u5 u6 u7 u8 u9 u10 u11 u12 u13 u14 u15) b i h (3 : Fin 16) p).trans (cat_3 u0 u1 u2 u3 u4 u5 u6 u7 u8 u9 u10 u11 u12 u13 u14 u15 b i h)

theorem pack_4 (u0 u1 u2 u3 u4 u5 u6 u7 u8 u9 u10 u11 u12 u13 u14 u15 : FVec Ideal S8x4096x8x1 .f32) (b : Fin 8) (i : Fin 4096) (h : Fin 8) (p : h.val * 16 + 4 < 128) :
    pack u0 u1 u2 u3 u4 u5 u6 u7 u8 u9 u10 u11 u12 u13 u14 u15 (ix3 b i (⟨h.val * 16 + 4, p⟩ : Fin 128)) = u4 (ix4 b i h 0) :=
  (lanes_at (cat u0 u1 u2 u3 u4 u5 u6 u7 u8 u9 u10 u11 u12 u13 u14 u15) b i h (4 : Fin 16) p).trans (cat_4 u0 u1 u2 u3 u4 u5 u6 u7 u8 u9 u10 u11 u12 u13 u14 u15 b i h)

theorem pack_5 (u0 u1 u2 u3 u4 u5 u6 u7 u8 u9 u10 u11 u12 u13 u14 u15 : FVec Ideal S8x4096x8x1 .f32) (b : Fin 8) (i : Fin 4096) (h : Fin 8) (p : h.val * 16 + 5 < 128) :
    pack u0 u1 u2 u3 u4 u5 u6 u7 u8 u9 u10 u11 u12 u13 u14 u15 (ix3 b i (⟨h.val * 16 + 5, p⟩ : Fin 128)) = u5 (ix4 b i h 0) :=
  (lanes_at (cat u0 u1 u2 u3 u4 u5 u6 u7 u8 u9 u10 u11 u12 u13 u14 u15) b i h (5 : Fin 16) p).trans (cat_5 u0 u1 u2 u3 u4 u5 u6 u7 u8 u9 u10 u11 u12 u13 u14 u15 b i h)

theorem pack_6 (u0 u1 u2 u3 u4 u5 u6 u7 u8 u9 u10 u11 u12 u13 u14 u15 : FVec Ideal S8x4096x8x1 .f32) (b : Fin 8) (i : Fin 4096) (h : Fin 8) (p : h.val * 16 + 6 < 128) :
    pack u0 u1 u2 u3 u4 u5 u6 u7 u8 u9 u10 u11 u12 u13 u14 u15 (ix3 b i (⟨h.val * 16 + 6, p⟩ : Fin 128)) = u6 (ix4 b i h 0) :=
  (lanes_at (cat u0 u1 u2 u3 u4 u5 u6 u7 u8 u9 u10 u11 u12 u13 u14 u15) b i h (6 : Fin 16) p).trans (cat_6 u0 u1 u2 u3 u4 u5 u6 u7 u8 u9 u10 u11 u12 u13 u14 u15 b i h)

theorem pack_7 (u0 u1 u2 u3 u4 u5 u6 u7 u8 u9 u10 u11 u12 u13 u14 u15 : FVec Ideal S8x4096x8x1 .f32) (b : Fin 8) (i : Fin 4096) (h : Fin 8) (p : h.val * 16 + 7 < 128) :
    pack u0 u1 u2 u3 u4 u5 u6 u7 u8 u9 u10 u11 u12 u13 u14 u15 (ix3 b i (⟨h.val * 16 + 7, p⟩ : Fin 128)) = u7 (ix4 b i h 0) :=
  (lanes_at (cat u0 u1 u2 u3 u4 u5 u6 u7 u8 u9 u10 u11 u12 u13 u14 u15) b i h (7 : Fin 16) p).trans (cat_7 u0 u1 u2 u3 u4 u5 u6 u7 u8 u9 u10 u11 u12 u13 u14 u15 b i h)

theorem pack_8 (u0 u1 u2 u3 u4 u5 u6 u7 u8 u9 u10 u11 u12 u13 u14 u15 : FVec Ideal S8x4096x8x1 .f32) (b : Fin 8) (i : Fin 4096) (h : Fin 8) (p : h.val * 16 + 8 < 128) :
    pack u0 u1 u2 u3 u4 u5 u6 u7 u8 u9 u10 u11 u12 u13 u14 u15 (ix3 b i (⟨h.val * 16 + 8, p⟩ : Fin 128)) = u8 (ix4 b i h 0) :=
  (lanes_at (cat u0 u1 u2 u3 u4 u5 u6 u7 u8 u9 u10 u11 u12 u13 u14 u15) b i h (8 : Fin 16) p).trans (cat_8 u0 u1 u2 u3 u4 u5 u6 u7 u8 u9 u10 u11 u12 u13 u14 u15 b i h)

theorem pack_9 (u0 u1 u2 u3 u4 u5 u6 u7 u8 u9 u10 u11 u12 u13 u14 u15 : FVec Ideal S8x4096x8x1 .f32) (b : Fin 8) (i : Fin 4096) (h : Fin 8) (p : h.val * 16 + 9 < 128) :
    pack u0 u1 u2 u3 u4 u5 u6 u7 u8 u9 u10 u11 u12 u13 u14 u15 (ix3 b i (⟨h.val * 16 + 9, p⟩ : Fin 128)) = u9 (ix4 b i h 0) :=
  (lanes_at (cat u0 u1 u2 u3 u4 u5 u6 u7 u8 u9 u10 u11 u12 u13 u14 u15) b i h (9 : Fin 16) p).trans (cat_9 u0 u1 u2 u3 u4 u5 u6 u7 u8 u9 u10 u11 u12 u13 u14 u15 b i h)

theorem pack_10 (u0 u1 u2 u3 u4 u5 u6 u7 u8 u9 u10 u11 u12 u13 u14 u15 : FVec Ideal S8x4096x8x1 .f32) (b : Fin 8) (i : Fin 4096) (h : Fin 8) (p : h.val * 16 + 10 < 128) :
    pack u0 u1 u2 u3 u4 u5 u6 u7 u8 u9 u10 u11 u12 u13 u14 u15 (ix3 b i (⟨h.val * 16 + 10, p⟩ : Fin 128)) = u10 (ix4 b i h 0) :=
  (lanes_at (cat u0 u1 u2 u3 u4 u5 u6 u7 u8 u9 u10 u11 u12 u13 u14 u15) b i h (10 : Fin 16) p).trans (cat_10 u0 u1 u2 u3 u4 u5 u6 u7 u8 u9 u10 u11 u12 u13 u14 u15 b i h)

theorem pack_11 (u0 u1 u2 u3 u4 u5 u6 u7 u8 u9 u10 u11 u12 u13 u14 u15 : FVec Ideal S8x4096x8x1 .f32) (b : Fin 8) (i : Fin 4096) (h : Fin 8) (p : h.val * 16 + 11 < 128) :
    pack u0 u1 u2 u3 u4 u5 u6 u7 u8 u9 u10 u11 u12 u13 u14 u15 (ix3 b i (⟨h.val * 16 + 11, p⟩ : Fin 128)) = u11 (ix4 b i h 0) :=
  (lanes_at (cat u0 u1 u2 u3 u4 u5 u6 u7 u8 u9 u10 u11 u12 u13 u14 u15) b i h (11 : Fin 16) p).trans (cat_11 u0 u1 u2 u3 u4 u5 u6 u7 u8 u9 u10 u11 u12 u13 u14 u15 b i h)

theorem pack_12 (u0 u1 u2 u3 u4 u5 u6 u7 u8 u9 u10 u11 u12 u13 u14 u15 : FVec Ideal S8x4096x8x1 .f32) (b : Fin 8) (i : Fin 4096) (h : Fin 8) (p : h.val * 16 + 12 < 128) :
    pack u0 u1 u2 u3 u4 u5 u6 u7 u8 u9 u10 u11 u12 u13 u14 u15 (ix3 b i (⟨h.val * 16 + 12, p⟩ : Fin 128)) = u12 (ix4 b i h 0) :=
  (lanes_at (cat u0 u1 u2 u3 u4 u5 u6 u7 u8 u9 u10 u11 u12 u13 u14 u15) b i h (12 : Fin 16) p).trans (cat_12 u0 u1 u2 u3 u4 u5 u6 u7 u8 u9 u10 u11 u12 u13 u14 u15 b i h)

theorem pack_13 (u0 u1 u2 u3 u4 u5 u6 u7 u8 u9 u10 u11 u12 u13 u14 u15 : FVec Ideal S8x4096x8x1 .f32) (b : Fin 8) (i : Fin 4096) (h : Fin 8) (p : h.val * 16 + 13 < 128) :
    pack u0 u1 u2 u3 u4 u5 u6 u7 u8 u9 u10 u11 u12 u13 u14 u15 (ix3 b i (⟨h.val * 16 + 13, p⟩ : Fin 128)) = u13 (ix4 b i h 0) :=
  (lanes_at (cat u0 u1 u2 u3 u4 u5 u6 u7 u8 u9 u10 u11 u12 u13 u14 u15) b i h (13 : Fin 16) p).trans (cat_13 u0 u1 u2 u3 u4 u5 u6 u7 u8 u9 u10 u11 u12 u13 u14 u15 b i h)

theorem pack_14 (u0 u1 u2 u3 u4 u5 u6 u7 u8 u9 u10 u11 u12 u13 u14 u15 : FVec Ideal S8x4096x8x1 .f32) (b : Fin 8) (i : Fin 4096) (h : Fin 8) (p : h.val * 16 + 14 < 128) :
    pack u0 u1 u2 u3 u4 u5 u6 u7 u8 u9 u10 u11 u12 u13 u14 u15 (ix3 b i (⟨h.val * 16 + 14, p⟩ : Fin 128)) = u14 (ix4 b i h 0) :=
  (lanes_at (cat u0 u1 u2 u3 u4 u5 u6 u7 u8 u9 u10 u11 u12 u13 u14 u15) b i h (14 : Fin 16) p).trans (cat_14 u0 u1 u2 u3 u4 u5 u6 u7 u8 u9 u10 u11 u12 u13 u14 u15 b i h)

theorem pack_15 (u0 u1 u2 u3 u4 u5 u6 u7 u8 u9 u10 u11 u12 u13 u14 u15 : FVec Ideal S8x4096x8x1 .f32) (b : Fin 8) (i : Fin 4096) (h : Fin 8) (p : h.val * 16 + 15 < 128) :
    pack u0 u1 u2 u3 u4 u5 u6 u7 u8 u9 u10 u11 u12 u13 u14 u15 (ix3 b i (⟨h.val * 16 + 15, p⟩ : Fin 128)) = u15 (ix4 b i h 0) :=
  (lanes_at (cat u0 u1 u2 u3 u4 u5 u6 u7 u8 u9 u10 u11 u12 u13 u14 u15) b i h (15 : Fin 16) p).trans (cat_15 u0 u1 u2 u3 u4 u5 u6 u7 u8 u9 u10 u11 u12 u13 u14 u15 b i h)

theorem v44_eq (c : Dev nD) : (show FVec Ideal S8x4096x128 .bf16 from V m c main_v44)
    = pack (StableHlo.upto hostOps0 (fun b => m (c, b)) 49 (Proc.devRef .tc main_v26)) (StableHlo.upto hostOps0 (fun b => m (c, b)) 49 (Proc.devRef .tc main_v27)) (StableHlo.upto hostOps0 (fun b => m (c, b)) 49 (Proc.devRef .tc main_v28)) (StableHlo.upto hostOps0 (fun b => m (c, b)) 49 (Proc.devRef .tc main_v29)) (StableHlo.upto hostOps0 (fun b => m (c, b)) 49 (Proc.devRef .tc main_v30)) (StableHlo.upto hostOps0 (fun b => m (c, b)) 49 (Proc.devRef .tc main_v31)) (StableHlo.upto hostOps0 (fun b => m (c, b)) 49 (Proc.devRef .tc main_v32)) (StableHlo.upto hostOps0 (fun b => m (c, b)) 49 (Proc.devRef .tc main_v33)) (StableHlo.upto hostOps0 (fun b => m (c, b)) 49 (Proc.devRef .tc main_v34)) (StableHlo.upto hostOps0 (fun b => m (c, b)) 49 (Proc.devRef .tc main_v35)) (StableHlo.upto hostOps0 (fun b => m (c, b)) 49 (Proc.devRef .tc main_v36)) (StableHlo.upto hostOps0 (fun b => m (c, b)) 49 (Proc.devRef .tc main_v37)) (StableHlo.upto hostOps0 (fun b => m (c, b)) 49 (Proc.devRef .tc main_v38)) (StableHlo.upto hostOps0 (fun b => m (c, b)) 49 (Proc.devRef .tc main_v39)) (StableHlo.upto hostOps0 (fun b => m (c, b)) 49 (Proc.devRef .tc main_v40)) (StableHlo.upto hostOps0 (fun b => m (c, b)) 49 (Proc.devRef .tc main_v41)) := by
  show StableHlo.after hostOps0 (fun b => m (c, b)) (Proc.devRef .tc main_v44) = _
  unfold pack lanes cat
  after_reads_simp
  rfl

theorem v66_eq (c : Dev nD) : (show FVec Ideal S8x4096x128 .bf16 from V m c main_v66)
    = pack (StableHlo.upto hostOps0 (fun b => m (c, b)) 71 (Proc.devRef .tc main_v48)) (StableHlo.upto hostOps0 (fun b => m (c, b)) 71 (Proc.devRef .tc main_v49)) (StableHlo.upto hostOps0 (fun b => m (c, b)) 71 (Proc.devRef .tc main_v50)) (StableHlo.upto hostOps0 (fun b => m (c, b)) 71 (Proc.devRef .tc main_v51)) (StableHlo.upto hostOps0 (fun b => m (c, b)) 71 (Proc.devRef .tc main_v52)) (StableHlo.upto hostOps0 (fun b => m (c, b)) 71 (Proc.devRef .tc main_v53)) (StableHlo.upto hostOps0 (fun b => m (c, b)) 71 (Proc.devRef .tc main_v54)) (StableHlo.upto hostOps0 (fun b => m (c, b)) 71 (Proc.devRef .tc main_v55)) (StableHlo.upto hostOps0 (fun b => m (c, b)) 71 (Proc.devRef .tc main_v56)) (StableHlo.upto hostOps0 (fun b => m (c, b)) 71 (Proc.devRef .tc main_v57)) (StableHlo.upto hostOps0 (fun b => m (c, b)) 71 (Proc.devRef .tc main_v58)) (StableHlo.upto hostOps0 (fun b => m (c, b)) 71 (Proc.devRef .tc main_v59)) (StableHlo.upto hostOps0 (fun b => m (c, b)) 71 (Proc.devRef .tc main_v60)) (StableHlo.upto hostOps0 (fun b => m (c, b)) 71 (Proc.devRef .tc main_v61)) (StableHlo.upto hostOps0 (fun b => m (c, b)) 71 (Proc.devRef .tc main_v62)) (StableHlo.upto hostOps0 (fun b => m (c, b)) 71 (Proc.devRef .tc main_v63)) := by
  show StableHlo.after hostOps0 (fun b => m (c, b)) (Proc.devRef .tc main_v66) = _
  unfold pack lanes cat
  after_reads_simp
  rfl

theorem w26_at (c : Dev nD) (b : Fin 8) (i : Fin 4096) (h : Fin 8) :
    (show FVec Ideal S8x4096x8x1 .f32 from StableHlo.upto hostOps0 (fun b => m (c, b)) 49 (Proc.devRef .tc main_v26)) (ix4 b i h 0) = (aC m c (ix3 b i h) * L2) := by
  show (StableHlo.upto hostOps0 (fun b => m (c, b)) 49 (Proc.devRef .tc main_v26)) _ = _
  after_reads_simp
  pointwise []
  rfl

theorem w27_at (c : Dev nD) (b : Fin 8) (i : Fin 4096) (h : Fin 8) :
    (show FVec Ideal S8x4096x8x1 .f32 from StableHlo.upto hostOps0 (fun b => m (c, b)) 49 (Proc.devRef .tc main_v27)) (ix4 b i h 0) = ((aC m c (ix3 b i h) * L2) - (aC m c (ix3 b i h) * L2)) := by
  show (StableHlo.upto hostOps0 (fun b => m (c, b)) 49 (Proc.devRef .tc main_v27)) _ = _
  after_reads_simp
  pointwise []
  rfl

theorem w28_at (c : Dev nD) (b : Fin 8) (i : Fin 4096) (h : Fin 8) :
    (show FVec Ideal S8x4096x8x1 .f32 from StableHlo.upto hostOps0 (fun b => m (c, b)) 49 (Proc.devRef .tc main_v28)) (ix4 b i h 0) = (((aC m c (ix3 b i h) * L2) - (aC m c (ix3 b i h) * L2)) - ((aC m c (ix3 b i h) * L2) - (aC m c (ix3 b i h) * L2))) := by
  show (StableHlo.upto hostOps0 (fun b => m (c, b)) 49 (Proc.devRef .tc main_v28)) _ = _
  after_reads_simp
  pointwise []
  rfl

theorem w29_at (c : Dev nD) (b : Fin 8) (i : Fin 4096) (h : Fin 8) :
    (show FVec Ideal S8x4096x8x1 .f32 from StableHlo.upto hostOps0 (fun b => m (c, b)) 49 (Proc.devRef .tc main_v29)) (ix4 b i h 0) = 1 := by
  show (StableHlo.upto hostOps0 (fun b => m (c, b)) 49 (Proc.devRef .tc main_v29)) _ = _
  after_reads_simp
  pointwise []

theorem w30_at (c : Dev nD) (b : Fin 8) (i : Fin 4096) (h : Fin 8) :
    (show FVec Ideal S8x4096x8x1 .f32 from StableHlo.upto hostOps0 (fun b => m (c, b)) 49 (Proc.devRef .tc main_v30)) (ix4 b i h 0) = 1 := by
  show (StableHlo.upto hostOps0 (fun b => m (c, b)) 49 (Proc.devRef .tc main_v30)) _ = _
  after_reads_simp
  pointwise []

theorem w31_at (c : Dev nD) (b : Fin 8) (i : Fin 4096) (h : Fin 8) :
    (show FVec Ideal S8x4096x8x1 .f32 from StableHlo.upto hostOps0 (fun b => m (c, b)) 49 (Proc.devRef .tc main_v31)) (ix4 b i h 0) = 1 := by
  show (StableHlo.upto hostOps0 (fun b => m (c, b)) 49 (Proc.devRef .tc main_v31)) _ = _
  after_reads_simp
  pointwise []

theorem w32_at (c : Dev nD) (b : Fin 8) (i : Fin 4096) (h : Fin 8) :
    (show FVec Ideal S8x4096x8x1 .f32 from StableHlo.upto hostOps0 (fun b => m (c, b)) 49 (Proc.devRef .tc main_v32)) (ix4 b i h 0) = 0 := by
  show (StableHlo.upto hostOps0 (fun b => m (c, b)) 49 (Proc.devRef .tc main_v32)) _ = _
  after_reads_simp
  pointwise []

theorem w33_at (c : Dev nD) (b : Fin 8) (i : Fin 4096) (h : Fin 8) :
    (show FVec Ideal S8x4096x8x1 .f32 from StableHlo.upto hostOps0 (fun b => m (c, b)) 49 (Proc.devRef .tc main_v33)) (ix4 b i h 0) = 0 := by
  show (StableHlo.upto hostOps0 (fun b => m (c, b)) 49 (Proc.devRef .tc main_v33)) _ = _
  after_reads_simp
  pointwise []

theorem w34_at (c : Dev nD) (b : Fin 8) (i : Fin 4096) (h : Fin 8) :
    (show FVec Ideal S8x4096x8x1 .f32 from StableHlo.upto hostOps0 (fun b => m (c, b)) 49 (Proc.devRef .tc main_v34)) (ix4 b i h 0) = 0 := by
  show (StableHlo.upto hostOps0 (fun b => m (c, b)) 49 (Proc.devRef .tc main_v34)) _ = _
  after_reads_simp
  pointwise []

theorem w35_at (c : Dev nD) (b : Fin 8) (i : Fin 4096) (h : Fin 8) :
    (show FVec Ideal S8x4096x8x1 .f32 from StableHlo.upto hostOps0 (fun b => m (c, b)) 49 (Proc.devRef .tc main_v35)) (ix4 b i h 0) = 0 := by
  show (StableHlo.upto hostOps0 (fun b => m (c, b)) 49 (Proc.devRef .tc main_v35)) _ = _
  after_reads_simp
  pointwise []

theorem w36_at (c : Dev nD) (b : Fin 8) (i : Fin 4096) (h : Fin 8) :
    (show FVec Ideal S8x4096x8x1 .f32 from StableHlo.upto hostOps0 (fun b => m (c, b)) 49 (Proc.devRef .tc main_v36)) (ix4 b i h 0) = 0 := by
  show (StableHlo.upto hostOps0 (fun b => m (c, b)) 49 (Proc.devRef .tc main_v36)) _ = _
  after_reads_simp
  pointwise []

theorem w37_at (c : Dev nD) (b : Fin 8) (i : Fin 4096) (h : Fin 8) :
    (show FVec Ideal S8x4096x8x1 .f32 from StableHlo.upto hostOps0 (fun b => m (c, b)) 49 (Proc.devRef .tc main_v37)) (ix4 b i h 0) = 0 := by
  show (StableHlo.upto hostOps0 (fun b => m (c, b)) 49 (Proc.devRef .tc main_v37)) _ = _
  after_reads_simp
  pointwise []

theorem w38_at (c : Dev nD) (b : Fin 8) (i : Fin 4096) (h : Fin 8) :
    (show FVec Ideal S8x4096x8x1 .f32 from StableHlo.upto hostOps0 (fun b => m (c, b)) 49 (Proc.devRef .tc main_v38)) (ix4 b i h 0) = 0 := by
  show (StableHlo.upto hostOps0 (fun b => m (c, b)) 49 (Proc.devRef .tc main_v38)) _ = _
  after_reads_simp
  pointwise []

theorem w39_at (c : Dev nD) (b : Fin 8) (i : Fin 4096) (h : Fin 8) :
    (show FVec Ideal S8x4096x8x1 .f32 from StableHlo.upto hostOps0 (fun b => m (c, b)) 49 (Proc.devRef .tc main_v39)) (ix4 b i h 0) = 0 := by
  show (StableHlo.upto hostOps0 (fun b => m (c, b)) 49 (Proc.devRef .tc main_v39)) _ = _
  after_reads_simp
  pointwise []

theorem w40_at (c : Dev nD) (b : Fin 8) (i : Fin 4096) (h : Fin 8) :
    (show FVec Ideal S8x4096x8x1 .f32 from StableHlo.upto hostOps0 (fun b => m (c, b)) 49 (Proc.devRef .tc main_v40)) (ix4 b i h 0) = 0 := by
  show (StableHlo.upto hostOps0 (fun b => m (c, b)) 49 (Proc.devRef .tc main_v40)) _ = _
  after_reads_simp
  pointwise []

theorem w41_at (c : Dev nD) (b : Fin 8) (i : Fin 4096) (h : Fin 8) :
    (show FVec Ideal S8x4096x8x1 .f32 from StableHlo.upto hostOps0 (fun b => m (c, b)) 49 (Proc.devRef .tc main_v41)) (ix4 b i h 0) = 0 := by
  show (StableHlo.upto hostOps0 (fun b => m (c, b)) 49 (Proc.devRef .tc main_v41)) _ = _
  after_reads_simp
  pointwise []

theorem w48_at (c : Dev nD) (b : Fin 8) (i : Fin 4096) (h : Fin 8) :
    (show FVec Ideal S8x4096x8x1 .f32 from StableHlo.upto hostOps0 (fun b => m (c, b)) 71 (Proc.devRef .tc main_v48)) (ix4 b i h 0) = 1 := by
  show (StableHlo.upto hostOps0 (fun b => m (c, b)) 71 (Proc.devRef .tc main_v48)) _ = _
  after_reads_simp
  pointwise []

theorem w49_at (c : Dev nD) (b : Fin 8) (i : Fin 4096) (h : Fin 8) :
    (show FVec Ideal S8x4096x8x1 .f32 from StableHlo.upto hostOps0 (fun b => m (c, b)) 71 (Proc.devRef .tc main_v49)) (ix4 b i h 0) = 1 := by
  show (StableHlo.upto hostOps0 (fun b => m (c, b)) 71 (Proc.devRef .tc main_v49)) _ = _
  after_reads_simp
  pointwise []

theorem w50_at (c : Dev nD) (b : Fin 8) (i : Fin 4096) (h : Fin 8) :
    (show FVec Ideal S8x4096x8x1 .f32 from StableHlo.upto hostOps0 (fun b => m (c, b)) 71 (Proc.devRef .tc main_v50)) (ix4 b i h 0) = 1 := by
  show (StableHlo.upto hostOps0 (fun b => m (c, b)) 71 (Proc.devRef .tc main_v50)) _ = _
  after_reads_simp
  pointwise []

theorem w51_at (c : Dev nD) (b : Fin 8) (i : Fin 4096) (h : Fin 8) :
    (show FVec Ideal S8x4096x8x1 .f32 from StableHlo.upto hostOps0 (fun b => m (c, b)) 71 (Proc.devRef .tc main_v51)) (ix4 b i h 0) = -(aC m c (ix3 b i h) * L2) := by
  show (StableHlo.upto hostOps0 (fun b => m (c, b)) 71 (Proc.devRef .tc main_v51)) _ = _
  after_reads_simp
  pointwise []
  rfl

theorem w52_at (c : Dev nD) (b : Fin 8) (i : Fin 4096) (h : Fin 8) :
    (show FVec Ideal S8x4096x8x1 .f32 from StableHlo.upto hostOps0 (fun b => m (c, b)) 71 (Proc.devRef .tc main_v52)) (ix4 b i h 0) = -((aC m c (ix3 b i h) * L2) - (aC m c (ix3 b i h) * L2)) := by
  show (StableHlo.upto hostOps0 (fun b => m (c, b)) 71 (Proc.devRef .tc main_v52)) _ = _
  after_reads_simp
  pointwise []
  rfl

theorem w53_at (c : Dev nD) (b : Fin 8) (i : Fin 4096) (h : Fin 8) :
    (show FVec Ideal S8x4096x8x1 .f32 from StableHlo.upto hostOps0 (fun b => m (c, b)) 71 (Proc.devRef .tc main_v53)) (ix4 b i h 0) = -(((aC m c (ix3 b i h) * L2) - (aC m c (ix3 b i h) * L2)) - ((aC m c (ix3 b i h) * L2) - (aC m c (ix3 b i h) * L2))) := by
  show (StableHlo.upto hostOps0 (fun b => m (c, b)) 71 (Proc.devRef .tc main_v53)) _ = _
  after_reads_simp
  pointwise []
  rfl

theorem w54_at (c : Dev nD) (b : Fin 8) (i : Fin 4096) (h : Fin 8) :
    (show FVec Ideal S8x4096x8x1 .f32 from StableHlo.upto hostOps0 (fun b => m (c, b)) 71 (Proc.devRef .tc main_v54)) (ix4 b i h 0) = 0 := by
  show (StableHlo.upto hostOps0 (fun b => m (c, b)) 71 (Proc.devRef .tc main_v54)) _ = _
  after_reads_simp
  pointwise []

theorem w55_at (c : Dev nD) (b : Fin 8) (i : Fin 4096) (h : Fin 8) :
    (show FVec Ideal S8x4096x8x1 .f32 from StableHlo.upto hostOps0 (fun b => m (c, b)) 71 (Proc.devRef .tc main_v55)) (ix4 b i h 0) = 0 := by
  show (StableHlo.upto hostOps0 (fun b => m (c, b)) 71 (Proc.devRef .tc main_v55)) _ = _
  after_reads_simp
  pointwise []

theorem w56_at (c : Dev nD) (b : Fin 8) (i : Fin 4096) (h : Fin 8) :
    (show FVec Ideal S8x4096x8x1 .f32 from StableHlo.upto hostOps0 (fun b => m (c, b)) 71 (Proc.devRef .tc main_v56)) (ix4 b i h 0) = 0 := by
  show (StableHlo.upto hostOps0 (fun b => m (c, b)) 71 (Proc.devRef .tc main_v56)) _ = _
  after_reads_simp
  pointwise []

theorem w57_at (c : Dev nD) (b : Fin 8) (i : Fin 4096) (h : Fin 8) :
    (show FVec Ideal S8x4096x8x1 .f32 from StableHlo.upto hostOps0 (fun b => m (c, b)) 71 (Proc.devRef .tc main_v57)) (ix4 b i h 0) = 0 := by
  show (StableHlo.upto hostOps0 (fun b => m (c, b)) 71 (Proc.devRef .tc main_v57)) _ = _
  after_reads_simp
  pointwise []

theorem w58_at (c : Dev nD) (b : Fin 8) (i : Fin 4096) (h : Fin 8) :
    (show FVec Ideal S8x4096x8x1 .f32 from StableHlo.upto hostOps0 (fun b => m (c, b)) 71 (Proc.devRef .tc main_v58)) (ix4 b i h 0) = 0 := by
  show (StableHlo.upto hostOps0 (fun b => m (c, b)) 71 (Proc.devRef .tc main_v58)) _ = _
  after_reads_simp
  pointwise []

theorem w59_at (c : Dev nD) (b : Fin 8) (i : Fin 4096) (h : Fin 8) :
    (show FVec Ideal S8x4096x8x1 .f32 from StableHlo.upto hostOps0 (fun b => m (c, b)) 71 (Proc.devRef .tc main_v59)) (ix4 b i h 0) = 0 := by
  show (StableHlo.upto hostOps0 (fun b => m (c, b)) 71 (Proc.devRef .tc main_v59)) _ = _
  after_reads_simp
  pointwise []

theorem w60_at (c : Dev nD) (b : Fin 8) (i : Fin 4096) (h : Fin 8) :
    (show FVec Ideal S8x4096x8x1 .f32 from StableHlo.upto hostOps0 (fun b => m (c, b)) 71 (Proc.devRef .tc main_v60)) (ix4 b i h 0) = 0 := by
  show (StableHlo.upto hostOps0 (fun b => m (c, b)) 71 (Proc.devRef .tc main_v60)) _ = _
  after_reads_simp
  pointwise []

theorem w61_at (c : Dev nD) (b : Fin 8) (i : Fin 4096) (h : Fin 8) :
    (show FVec Ideal S8x4096x8x1 .f32 from StableHlo.upto hostOps0 (fun b => m (c, b)) 71 (Proc.devRef .tc main_v61)) (ix4 b i h 0) = 0 := by
  show (StableHlo.upto hostOps0 (fun b => m (c, b)) 71 (Proc.devRef .tc main_v61)) _ = _
  after_reads_simp
  pointwise []

theorem w62_at (c : Dev nD) (b : Fin 8) (i : Fin 4096) (h : Fin 8) :
    (show FVec Ideal S8x4096x8x1 .f32 from StableHlo.upto hostOps0 (fun b => m (c, b)) 71 (Proc.devRef .tc main_v62)) (ix4 b i h 0) = 0 := by
  show (StableHlo.upto hostOps0 (fun b => m (c, b)) 71 (Proc.devRef .tc main_v62)) _ = _
  after_reads_simp
  pointwise []

theorem w63_at (c : Dev nD) (b : Fin 8) (i : Fin 4096) (h : Fin 8) :
    (show FVec Ideal S8x4096x8x1 .f32 from StableHlo.upto hostOps0 (fun b => m (c, b)) 71 (Proc.devRef .tc main_v63)) (ix4 b i h 0) = 0 := by
  show (StableHlo.upto hostOps0 (fun b => m (c, b)) 71 (Proc.devRef .tc main_v63)) _ = _
  after_reads_simp
  pointwise []

/-- The sixteen lanes of a head: the query's side and the key's, for a running sum `x`. -/
def laneQ (x : EReal) : Fin 16 → EReal :=
  ![x, x - x, x - x - (x - x), 1, 1, 1, 0, 0, 0, 0, 0, 0, 0, 0, 0, 0]

def laneK (x : EReal) : Fin 16 → EReal :=
  ![1, 1, 1, -x, -(x - x), -(x - x - (x - x)), 0, 0, 0, 0, 0, 0, 0, 0, 0, 0]

theorem v44_0 (c : Dev nD) (b : Fin 8) (i : Fin 4096) (h : Fin 8) (p : h.val * 16 + 0 < 128) :
    (show FVec Ideal S8x4096x128 .bf16 from V m c main_v44) (ix3 b i (⟨h.val * 16 + 0, p⟩ : Fin 128)) = (aC m c (ix3 b i h) * L2) := by
  have e := congrFun (v44_eq m c) (ix3 b i (⟨h.val * 16 + 0, p⟩ : Fin 128))
  rw [pack_0] at e
  exact e.trans (w26_at m c b i h)

theorem v44_1 (c : Dev nD) (b : Fin 8) (i : Fin 4096) (h : Fin 8) (p : h.val * 16 + 1 < 128) :
    (show FVec Ideal S8x4096x128 .bf16 from V m c main_v44) (ix3 b i (⟨h.val * 16 + 1, p⟩ : Fin 128)) = ((aC m c (ix3 b i h) * L2) - (aC m c (ix3 b i h) * L2)) := by
  have e := congrFun (v44_eq m c) (ix3 b i (⟨h.val * 16 + 1, p⟩ : Fin 128))
  rw [pack_1] at e
  exact e.trans (w27_at m c b i h)

theorem v44_2 (c : Dev nD) (b : Fin 8) (i : Fin 4096) (h : Fin 8) (p : h.val * 16 + 2 < 128) :
    (show FVec Ideal S8x4096x128 .bf16 from V m c main_v44) (ix3 b i (⟨h.val * 16 + 2, p⟩ : Fin 128)) = (((aC m c (ix3 b i h) * L2) - (aC m c (ix3 b i h) * L2)) - ((aC m c (ix3 b i h) * L2) - (aC m c (ix3 b i h) * L2))) := by
  have e := congrFun (v44_eq m c) (ix3 b i (⟨h.val * 16 + 2, p⟩ : Fin 128))
  rw [pack_2] at e
  exact e.trans (w28_at m c b i h)

theorem v44_3 (c : Dev nD) (b : Fin 8) (i : Fin 4096) (h : Fin 8) (p : h.val * 16 + 3 < 128) :
    (show FVec Ideal S8x4096x128 .bf16 from V m c main_v44) (ix3 b i (⟨h.val * 16 + 3, p⟩ : Fin 128)) = 1 := by
  have e := congrFun (v44_eq m c) (ix3 b i (⟨h.val * 16 + 3, p⟩ : Fin 128))
  rw [pack_3] at e
  exact e.trans (w29_at m c b i h)

theorem v44_4 (c : Dev nD) (b : Fin 8) (i : Fin 4096) (h : Fin 8) (p : h.val * 16 + 4 < 128) :
    (show FVec Ideal S8x4096x128 .bf16 from V m c main_v44) (ix3 b i (⟨h.val * 16 + 4, p⟩ : Fin 128)) = 1 := by
  have e := congrFun (v44_eq m c) (ix3 b i (⟨h.val * 16 + 4, p⟩ : Fin 128))
  rw [pack_4] at e
  exact e.trans (w30_at m c b i h)

theorem v44_5 (c : Dev nD) (b : Fin 8) (i : Fin 4096) (h : Fin 8) (p : h.val * 16 + 5 < 128) :
    (show FVec Ideal S8x4096x128 .bf16 from V m c main_v44) (ix3 b i (⟨h.val * 16 + 5, p⟩ : Fin 128)) = 1 := by
  have e := congrFun (v44_eq m c) (ix3 b i (⟨h.val * 16 + 5, p⟩ : Fin 128))
  rw [pack_5] at e
  exact e.trans (w31_at m c b i h)

theorem v44_6 (c : Dev nD) (b : Fin 8) (i : Fin 4096) (h : Fin 8) (p : h.val * 16 + 6 < 128) :
    (show FVec Ideal S8x4096x128 .bf16 from V m c main_v44) (ix3 b i (⟨h.val * 16 + 6, p⟩ : Fin 128)) = 0 := by
  have e := congrFun (v44_eq m c) (ix3 b i (⟨h.val * 16 + 6, p⟩ : Fin 128))
  rw [pack_6] at e
  exact e.trans (w32_at m c b i h)

theorem v44_7 (c : Dev nD) (b : Fin 8) (i : Fin 4096) (h : Fin 8) (p : h.val * 16 + 7 < 128) :
    (show FVec Ideal S8x4096x128 .bf16 from V m c main_v44) (ix3 b i (⟨h.val * 16 + 7, p⟩ : Fin 128)) = 0 := by
  have e := congrFun (v44_eq m c) (ix3 b i (⟨h.val * 16 + 7, p⟩ : Fin 128))
  rw [pack_7] at e
  exact e.trans (w33_at m c b i h)

theorem v44_8 (c : Dev nD) (b : Fin 8) (i : Fin 4096) (h : Fin 8) (p : h.val * 16 + 8 < 128) :
    (show FVec Ideal S8x4096x128 .bf16 from V m c main_v44) (ix3 b i (⟨h.val * 16 + 8, p⟩ : Fin 128)) = 0 := by
  have e := congrFun (v44_eq m c) (ix3 b i (⟨h.val * 16 + 8, p⟩ : Fin 128))
  rw [pack_8] at e
  exact e.trans (w34_at m c b i h)

theorem v44_9 (c : Dev nD) (b : Fin 8) (i : Fin 4096) (h : Fin 8) (p : h.val * 16 + 9 < 128) :
    (show FVec Ideal S8x4096x128 .bf16 from V m c main_v44) (ix3 b i (⟨h.val * 16 + 9, p⟩ : Fin 128)) = 0 := by
  have e := congrFun (v44_eq m c) (ix3 b i (⟨h.val * 16 + 9, p⟩ : Fin 128))
  rw [pack_9] at e
  exact e.trans (w35_at m c b i h)

theorem v44_10 (c : Dev nD) (b : Fin 8) (i : Fin 4096) (h : Fin 8) (p : h.val * 16 + 10 < 128) :
    (show FVec Ideal S8x4096x128 .bf16 from V m c main_v44) (ix3 b i (⟨h.val * 16 + 10, p⟩ : Fin 128)) = 0 := by
  have e := congrFun (v44_eq m c) (ix3 b i (⟨h.val * 16 + 10, p⟩ : Fin 128))
  rw [pack_10] at e
  exact e.trans (w36_at m c b i h)

theorem v44_11 (c : Dev nD) (b : Fin 8) (i : Fin 4096) (h : Fin 8) (p : h.val * 16 + 11 < 128) :
    (show FVec Ideal S8x4096x128 .bf16 from V m c main_v44) (ix3 b i (⟨h.val * 16 + 11, p⟩ : Fin 128)) = 0 := by
  have e := congrFun (v44_eq m c) (ix3 b i (⟨h.val * 16 + 11, p⟩ : Fin 128))
  rw [pack_11] at e
  exact e.trans (w37_at m c b i h)

theorem v44_12 (c : Dev nD) (b : Fin 8) (i : Fin 4096) (h : Fin 8) (p : h.val * 16 + 12 < 128) :
    (show FVec Ideal S8x4096x128 .bf16 from V m c main_v44) (ix3 b i (⟨h.val * 16 + 12, p⟩ : Fin 128)) = 0 := by
  have e := congrFun (v44_eq m c) (ix3 b i (⟨h.val * 16 + 12, p⟩ : Fin 128))
  rw [pack_12] at e
  exact e.trans (w38_at m c b i h)

theorem v44_13 (c : Dev nD) (b : Fin 8) (i : Fin 4096) (h : Fin 8) (p : h.val * 16 + 13 < 128) :
    (show FVec Ideal S8x4096x128 .bf16 from V m c main_v44) (ix3 b i (⟨h.val * 16 + 13, p⟩ : Fin 128)) = 0 := by
  have e := congrFun (v44_eq m c) (ix3 b i (⟨h.val * 16 + 13, p⟩ : Fin 128))
  rw [pack_13] at e
  exact e.trans (w39_at m c b i h)

theorem v44_14 (c : Dev nD) (b : Fin 8) (i : Fin 4096) (h : Fin 8) (p : h.val * 16 + 14 < 128) :
    (show FVec Ideal S8x4096x128 .bf16 from V m c main_v44) (ix3 b i (⟨h.val * 16 + 14, p⟩ : Fin 128)) = 0 := by
  have e := congrFun (v44_eq m c) (ix3 b i (⟨h.val * 16 + 14, p⟩ : Fin 128))
  rw [pack_14] at e
  exact e.trans (w40_at m c b i h)

theorem v44_15 (c : Dev nD) (b : Fin 8) (i : Fin 4096) (h : Fin 8) (p : h.val * 16 + 15 < 128) :
    (show FVec Ideal S8x4096x128 .bf16 from V m c main_v44) (ix3 b i (⟨h.val * 16 + 15, p⟩ : Fin 128)) = 0 := by
  have e := congrFun (v44_eq m c) (ix3 b i (⟨h.val * 16 + 15, p⟩ : Fin 128))
  rw [pack_15] at e
  exact e.trans (w41_at m c b i h)

theorem v44_at (c : Dev nD) (b : Fin 8) (i : Fin 4096) (h : Fin 8) (s : Fin 16) (p : h.val * 16 + s.val < 128) :
    (show FVec Ideal S8x4096x128 .bf16 from V m c main_v44) (ix3 b i (⟨h.val * 16 + s.val, p⟩ : Fin 128)) = laneQ (aC m c (ix3 b i h) * L2) s := by
  match s with
  | 0 => exact v44_0 m c b i h p
  | 1 => exact v44_1 m c b i h p
  | 2 => exact v44_2 m c b i h p
  | 3 => exact v44_3 m c b i h p
  | 4 => exact v44_4 m c b i h p
  | 5 => exact v44_5 m c b i h p
  | 6 => exact v44_6 m c b i h p
  | 7 => exact v44_7 m c b i h p
  | 8 => exact v44_8 m c b i h p
  | 9 => exact v44_9 m c b i h p
  | 10 => exact v44_10 m c b i h p
  | 11 => exact v44_11 m c b i h p
  | 12 => exact v44_12 m c b i h p
  | 13 => exact v44_13 m c b i h p
  | 14 => exact v44_14 m c b i h p
  | 15 => exact v44_15 m c b i h p
  | ⟨n + 16, hn⟩ => exact absurd hn (by omega)

theorem v66_0 (c : Dev nD) (b : Fin 8) (i : Fin 4096) (h : Fin 8) (p : h.val * 16 + 0 < 128) :
    (show FVec Ideal S8x4096x128 .bf16 from V m c main_v66) (ix3 b i (⟨h.val * 16 + 0, p⟩ : Fin 128)) = 1 := by
  have e := congrFun (v66_eq m c) (ix3 b i (⟨h.val * 16 + 0, p⟩ : Fin 128))
  rw [pack_0] at e
  exact e.trans (w48_at m c b i h)

theorem v66_1 (c : Dev nD) (b : Fin 8) (i : Fin 4096) (h : Fin 8) (p : h.val * 16 + 1 < 128) :
    (show FVec Ideal S8x4096x128 .bf16 from V m c main_v66) (ix3 b i (⟨h.val * 16 + 1, p⟩ : Fin 128)) = 1 := by
  have e := congrFun (v66_eq m c) (ix3 b i (⟨h.val * 16 + 1, p⟩ : Fin 128))
  rw [pack_1] at e
  exact e.trans (w49_at m c b i h)

theorem v66_2 (c : Dev nD) (b : Fin 8) (i : Fin 4096) (h : Fin 8) (p : h.val * 16 + 2 < 128) :
    (show FVec Ideal S8x4096x128 .bf16 from V m c main_v66) (ix3 b i (⟨h.val * 16 + 2, p⟩ : Fin 128)) = 1 := by
  have e := congrFun (v66_eq m c) (ix3 b i (⟨h.val * 16 + 2, p⟩ : Fin 128))
  rw [pack_2] at e
  exact e.trans (w50_at m c b i h)

theorem v66_3 (c : Dev nD) (b : Fin 8) (i : Fin 4096) (h : Fin 8) (p : h.val * 16 + 3 < 128) :
    (show FVec Ideal S8x4096x128 .bf16 from V m c main_v66) (ix3 b i (⟨h.val * 16 + 3, p⟩ : Fin 128)) = -(aC m c (ix3 b i h) * L2) := by
  have e := congrFun (v66_eq m c) (ix3 b i (⟨h.val * 16 + 3, p⟩ : Fin 128))
  rw [pack_3] at e
  exact e.trans (w51_at m c b i h)

theorem v66_4 (c : Dev nD) (b : Fin 8) (i : Fin 4096) (h : Fin 8) (p : h.val * 16 + 4 < 128) :
    (show FVec Ideal S8x4096x128 .bf16 from V m c main_v66) (ix3 b i (⟨h.val * 16 + 4, p⟩ : Fin 128)) = -((aC m c (ix3 b i h) * L2) - (aC m c (ix3 b i h) * L2)) := by
  have e := congrFun (v66_eq m c) (ix3 b i (⟨h.val * 16 + 4, p⟩ : Fin 128))
  rw [pack_4] at e
  exact e.trans (w52_at m c b i h)

theorem v66_5 (c : Dev nD) (b : Fin 8) (i : Fin 4096) (h : Fin 8) (p : h.val * 16 + 5 < 128) :
    (show FVec Ideal S8x4096x128 .bf16 from V m c main_v66) (ix3 b i (⟨h.val * 16 + 5, p⟩ : Fin 128)) = -(((aC m c (ix3 b i h) * L2) - (aC m c (ix3 b i h) * L2)) - ((aC m c (ix3 b i h) * L2) - (aC m c (ix3 b i h) * L2))) := by
  have e := congrFun (v66_eq m c) (ix3 b i (⟨h.val * 16 + 5, p⟩ : Fin 128))
  rw [pack_5] at e
  exact e.trans (w53_at m c b i h)

theorem v66_6 (c : Dev nD) (b : Fin 8) (i : Fin 4096) (h : Fin 8) (p : h.val * 16 + 6 < 128) :
    (show FVec Ideal S8x4096x128 .bf16 from V m c main_v66) (ix3 b i (⟨h.val * 16 + 6, p⟩ : Fin 128)) = 0 := by
  have e := congrFun (v66_eq m c) (ix3 b i (⟨h.val * 16 + 6, p⟩ : Fin 128))
  rw [pack_6] at e
  exact e.trans (w54_at m c b i h)

theorem v66_7 (c : Dev nD) (b : Fin 8) (i : Fin 4096) (h : Fin 8) (p : h.val * 16 + 7 < 128) :
    (show FVec Ideal S8x4096x128 .bf16 from V m c main_v66) (ix3 b i (⟨h.val * 16 + 7, p⟩ : Fin 128)) = 0 := by
  have e := congrFun (v66_eq m c) (ix3 b i (⟨h.val * 16 + 7, p⟩ : Fin 128))
  rw [pack_7] at e
  exact e.trans (w55_at m c b i h)

theorem v66_8 (c : Dev nD) (b : Fin 8) (i : Fin 4096) (h : Fin 8) (p : h.val * 16 + 8 < 128) :
    (show FVec Ideal S8x4096x128 .bf16 from V m c main_v66) (ix3 b i (⟨h.val * 16 + 8, p⟩ : Fin 128)) = 0 := by
  have e := congrFun (v66_eq m c) (ix3 b i (⟨h.val * 16 + 8, p⟩ : Fin 128))
  rw [pack_8] at e
  exact e.trans (w56_at m c b i h)

theorem v66_9 (c : Dev nD) (b : Fin 8) (i : Fin 4096) (h : Fin 8) (p : h.val * 16 + 9 < 128) :
    (show FVec Ideal S8x4096x128 .bf16 from V m c main_v66) (ix3 b i (⟨h.val * 16 + 9, p⟩ : Fin 128)) = 0 := by
  have e := congrFun (v66_eq m c) (ix3 b i (⟨h.val * 16 + 9, p⟩ : Fin 128))
  rw [pack_9] at e
  exact e.trans (w57_at m c b i h)

theorem v66_10 (c : Dev nD) (b : Fin 8) (i : Fin 4096) (h : Fin 8) (p : h.val * 16 + 10 < 128) :
    (show FVec Ideal S8x4096x128 .bf16 from V m c main_v66) (ix3 b i (⟨h.val * 16 + 10, p⟩ : Fin 128)) = 0 := by
  have e := congrFun (v66_eq m c) (ix3 b i (⟨h.val * 16 + 10, p⟩ : Fin 128))
  rw [pack_10] at e
  exact e.trans (w58_at m c b i h)

theorem v66_11 (c : Dev nD) (b : Fin 8) (i : Fin 4096) (h : Fin 8) (p : h.val * 16 + 11 < 128) :
    (show FVec Ideal S8x4096x128 .bf16 from V m c main_v66) (ix3 b i (⟨h.val * 16 + 11, p⟩ : Fin 128)) = 0 := by
  have e := congrFun (v66_eq m c) (ix3 b i (⟨h.val * 16 + 11, p⟩ : Fin 128))
  rw [pack_11] at e
  exact e.trans (w59_at m c b i h)

theorem v66_12 (c : Dev nD) (b : Fin 8) (i : Fin 4096) (h : Fin 8) (p : h.val * 16 + 12 < 128) :
    (show FVec Ideal S8x4096x128 .bf16 from V m c main_v66) (ix3 b i (⟨h.val * 16 + 12, p⟩ : Fin 128)) = 0 := by
  have e := congrFun (v66_eq m c) (ix3 b i (⟨h.val * 16 + 12, p⟩ : Fin 128))
  rw [pack_12] at e
  exact e.trans (w60_at m c b i h)

theorem v66_13 (c : Dev nD) (b : Fin 8) (i : Fin 4096) (h : Fin 8) (p : h.val * 16 + 13 < 128) :
    (show FVec Ideal S8x4096x128 .bf16 from V m c main_v66) (ix3 b i (⟨h.val * 16 + 13, p⟩ : Fin 128)) = 0 := by
  have e := congrFun (v66_eq m c) (ix3 b i (⟨h.val * 16 + 13, p⟩ : Fin 128))
  rw [pack_13] at e
  exact e.trans (w61_at m c b i h)

theorem v66_14 (c : Dev nD) (b : Fin 8) (i : Fin 4096) (h : Fin 8) (p : h.val * 16 + 14 < 128) :
    (show FVec Ideal S8x4096x128 .bf16 from V m c main_v66) (ix3 b i (⟨h.val * 16 + 14, p⟩ : Fin 128)) = 0 := by
  have e := congrFun (v66_eq m c) (ix3 b i (⟨h.val * 16 + 14, p⟩ : Fin 128))
  rw [pack_14] at e
  exact e.trans (w62_at m c b i h)

theorem v66_15 (c : Dev nD) (b : Fin 8) (i : Fin 4096) (h : Fin 8) (p : h.val * 16 + 15 < 128) :
    (show FVec Ideal S8x4096x128 .bf16 from V m c main_v66) (ix3 b i (⟨h.val * 16 + 15, p⟩ : Fin 128)) = 0 := by
  have e := congrFun (v66_eq m c) (ix3 b i (⟨h.val * 16 + 15, p⟩ : Fin 128))
  rw [pack_15] at e
  exact e.trans (w63_at m c b i h)

theorem v66_at (c : Dev nD) (b : Fin 8) (i : Fin 4096) (h : Fin 8) (s : Fin 16) (p : h.val * 16 + s.val < 128) :
    (show FVec Ideal S8x4096x128 .bf16 from V m c main_v66) (ix3 b i (⟨h.val * 16 + s.val, p⟩ : Fin 128)) = laneK (aC m c (ix3 b i h) * L2) s := by
  match s with
  | 0 => exact v66_0 m c b i h p
  | 1 => exact v66_1 m c b i h p
  | 2 => exact v66_2 m c b i h p
  | 3 => exact v66_3 m c b i h p
  | 4 => exact v66_4 m c b i h p
  | 5 => exact v66_5 m c b i h p
  | 6 => exact v66_6 m c b i h p
  | 7 => exact v66_7 m c b i h p
  | 8 => exact v66_8 m c b i h p
  | 9 => exact v66_9 m c b i h p
  | 10 => exact v66_10 m c b i h p
  | 11 => exact v66_11 m c b i h p
  | 12 => exact v66_12 m c b i h p
  | 13 => exact v66_13 m c b i h p
  | 14 => exact v66_14 m c b i h p
  | 15 => exact v66_15 m c b i h p
  | ⟨n + 16, hn⟩ => exact absurd hn (by omega)

end Cert.AttnIdeal.Ops

end
-- ==== Proof.AttnScore.lean ====
/- The scores of the attention kernel, written over the operands: a head's own lanes, and its sixteen packed lanes. -/
module

public import proofs.«01_k».proof.Proof.AttnChain
public import proofs.«01_k».proof.Proof.AttnHost
public import Idealize.ShloMosaic.Lib.Pointwise
public import Idealize.ShloMosaic.Lib.WordCmp

@[expose] public section

set_option maxRecDepth 16384

noncomputable section

namespace Cert.AttnIdeal.Ker

open Cert.AttnIdeal Cert.AttnIdeal.Gen Idealize.ShloMosaic Idealize.ShloMosaic.TcCoe Idealize.SL.Sem
open Cert.AttnMath

/-- A sum of terms that vanish outside a window is the sum over the window. -/
theorem sum_window {n k : ℕ} (o : ℕ) (ho : o + k ≤ n) (f : Fin n → EReal) :
    (∑ l : Fin n, if o ≤ l.val ∧ l.val < o + k then f l else 0) = ∑ s : Fin k, f ⟨o + s.val, by omega⟩ := by
  rw [← Finset.sum_filter]
  symm
  refine Finset.sum_bij (fun s _ => (⟨o + s.val, by omega⟩ : Fin n)) (fun s _ => ?_) (fun s _ s' _ h => ?_) (fun l hl => ?_) (fun s _ => rfl)
  · simp
  · have := congrArg Fin.val h
    simp only at this
    exact Fin.ext (by omega)
  · have hl' := (Finset.mem_filter.mp hl).2
    exact ⟨⟨l.val - o, by omega⟩, Finset.mem_univ _, Fin.ext (by show o + (l.val - o) = l.val; omega)⟩

theorem sel_word {w : BitVec 1} {P : Prop} [Decidable P] (h : w = if P then 1#1 else 0#1) (x y : EReal) :
    Scalar.select w x y = if P then x else y := by
  rw [h]
  by_cases hr : P
  · rw [if_pos hr, if_pos hr]; rfl
  · rw [if_neg hr, if_neg hr]; rfl

theorem own_lo_word : ∀ l : Fin 128, IntOp.andi (IntOp.cmpi CmpIPredicate.sge (BitVec.ofNat 32 l.val) 0#32)
    (IntOp.cmpi CmpIPredicate.slt (BitVec.ofNat 32 l.val) 64#32) = if l.val < 64 then 1#1 else 0#1 := by decide +kernel

theorem own_hi_word : ∀ l : Fin 128, IntOp.andi (IntOp.cmpi CmpIPredicate.sge (BitVec.ofNat 32 l.val) 64#32)
    (IntOp.cmpi CmpIPredicate.slt (BitVec.ofNat 32 l.val) 128#32) = if 64 ≤ l.val then 1#1 else 0#1 := by decide +kernel

theorem aug_lo_word : ∀ (n : Fin 4) (l : Fin 128), IntOp.andi (IntOp.cmpi CmpIPredicate.sge (BitVec.ofNat 32 l.val)
      (Scalar.muli (Scalar.addi (Scalar.muli (2#32) (BitVec.ofNat 32 n.val)) 0#32) 16#32))
    (IntOp.cmpi CmpIPredicate.slt (BitVec.ofNat 32 l.val)
      (Scalar.muli (Scalar.addi (Scalar.addi (Scalar.muli (2#32) (BitVec.ofNat 32 n.val)) 0#32) 1#32) 16#32))
    = if 32 * n.val ≤ l.val ∧ l.val < 32 * n.val + 16 then 1#1 else 0#1 := by decide +kernel

theorem aug_hi_word : ∀ (n : Fin 4) (l : Fin 128), IntOp.andi (IntOp.cmpi CmpIPredicate.sge (BitVec.ofNat 32 l.val)
      (Scalar.muli (Scalar.addi (Scalar.muli (2#32) (BitVec.ofNat 32 n.val)) 1#32) 16#32))
    (IntOp.cmpi CmpIPredicate.slt (BitVec.ofNat 32 l.val)
      (Scalar.muli (Scalar.addi (Scalar.addi (Scalar.muli (2#32) (BitVec.ofNat 32 n.val)) 1#32) 1#32) 16#32))
    = if 32 * n.val + 16 ≤ l.val ∧ l.val < 32 * n.val + 16 + 16 then 1#1 else 0#1 := by decide +kernel

theorem qa_lo_own (i : grid0.Coords) (v0 v2 : Vec Ideal S1x512x128 .bf16) (l : Fin 128) (Q : Fin 512) :
    k0_pay182 (F := Ideal) i v0 v2 (ix2 (⟨l.val, by omega⟩ : Fin 256) Q) = if l.val < 64 then v0 (ix3 0 Q l) else 0 := by
  pointwise [k0_pay182, k0_pay180, k0_pay181]
  exact sel_word (own_lo_word l) _ _

theorem qa_lo_aug (i : grid0.Coords) (v0 v2 : Vec Ideal S1x512x128 .bf16) (l : Fin 128) (Q : Fin 512) :
    k0_pay182 (F := Ideal) i v0 v2 (ix2 (⟨128 + l.val, by omega⟩ : Fin 256) Q)
      = if 32 * (i 1).val ≤ l.val ∧ l.val < 32 * (i 1).val + 16 then v2 (ix3 0 Q l) else 0 := by
  pointwise [k0_pay182, k0_pay180, k0_pay181]
  exact sel_word (aug_lo_word ⟨(i 1).val, (i 1).isLt⟩ l) _ _

theorem qa_hi_own (n : ℕ) (v0 v2 : Vec Ideal S1x512x128 .bf16) (l : Fin 128) (Q : Fin 512) :
    k0_pay186 (F := Ideal) (BitVec.ofNat 32 n) (k0_pay180 v0) (k0_pay181 v2) (iota Kind.tc S512x128 32 [1] iota_S512x128_d1_w32) (ix2 (⟨l.val, by omega⟩ : Fin 256) Q)
      = if 64 ≤ l.val then v0 (ix3 0 Q l) else 0 := by
  pointwise [k0_pay186, k0_pay180, k0_pay181]
  exact sel_word (own_hi_word l) _ _

theorem qa_hi_aug (n : Fin 4) (v0 v2 : Vec Ideal S1x512x128 .bf16) (l : Fin 128) (Q : Fin 512) :
    k0_pay186 (F := Ideal) (BitVec.ofNat 32 n.val) (k0_pay180 v0) (k0_pay181 v2) (iota Kind.tc S512x128 32 [1] iota_S512x128_d1_w32) (ix2 (⟨128 + l.val, by omega⟩ : Fin 256) Q)
      = if 32 * n.val + 16 ≤ l.val ∧ l.val < 32 * n.val + 16 + 16 then v2 (ix3 0 Q l) else 0 := by
  pointwise [k0_pay186, k0_pay180, k0_pay181]
  exact sel_word (aug_hi_word n l) _ _

/-- A score of the pair's first head: its 64 lanes of the projections, and its sixteen packed lanes. -/
theorem raw_lo (i : grid0.Coords) (x0 x1 : Vec Ideal S1x512x128 .bf16) (x2 x3 : Vec Ideal S1x4096x128 .bf16) (Q : Fin 512) (k : Fin 4096) :
    raw x2 x3 (k0_pay182 (F := Ideal) i x0 x1) Q k
      = (∑ l : Fin 64, x2 (ix3 0 k ⟨0 + l.val, by omega⟩) * x0 (ix3 0 Q ⟨0 + l.val, by omega⟩))
        + ∑ s : Fin 16, x3 (ix3 0 k ⟨32 * (i 1).val + s.val, by have : (i 1).val < 4 := (i 1).isLt; omega⟩)
            * x1 (ix3 0 Q ⟨32 * (i 1).val + s.val, by have : (i 1).val < 4 := (i 1).isLt; omega⟩) := by
  have h4 : (i 1).val < 4 := (i 1).isLt
  unfold raw
  simp only [qa_lo_own, qa_lo_aug, mul_ite, mul_zero]
  rw [← sum_window 0 (by omega) (fun l : Fin 128 => x2 (ix3 0 k l) * x0 (ix3 0 Q l)),
    ← sum_window (32 * (i 1).val) (by omega) (fun l : Fin 128 => x3 (ix3 0 k l) * x1 (ix3 0 Q l))]
  simp only [Nat.zero_le, true_and, Nat.zero_add]

/-- And of its second head. -/
theorem raw_hi (n : Fin 4) (x0 x1 : Vec Ideal S1x512x128 .bf16) (x2 x3 : Vec Ideal S1x4096x128 .bf16) (Q : Fin 512) (k : Fin 4096) :
    raw x2 x3 (k0_pay186 (F := Ideal) (BitVec.ofNat 32 n.val) (k0_pay180 x0) (k0_pay181 x1) (iota Kind.tc S512x128 32 [1] iota_S512x128_d1_w32)) Q k
      = (∑ l : Fin 64, x2 (ix3 0 k ⟨64 + l.val, by omega⟩) * x0 (ix3 0 Q ⟨64 + l.val, by omega⟩))
        + ∑ s : Fin 16, x3 (ix3 0 k ⟨32 * n.val + 16 + s.val, by omega⟩) * x1 (ix3 0 Q ⟨32 * n.val + 16 + s.val, by omega⟩) := by
  unfold raw
  rw [← sum_window 64 (by omega) (fun l : Fin 128 => x2 (ix3 0 k l) * x0 (ix3 0 Q l)),
    ← sum_window (32 * n.val + 16) (by omega) (fun l : Fin 128 => x3 (ix3 0 k l) * x1 (ix3 0 Q l))]
  congr 1
  · refine Finset.sum_congr rfl fun l _ => ?_
    have hl := l.isLt
    refine (congrArg (x2 (ix3 0 k l) * ·) (qa_hi_own n.val x0 x1 l Q)).trans ?_
    by_cases h : 64 ≤ l.val
    · rw [if_pos h, if_pos ⟨h, by omega⟩]
    · rw [if_neg h, if_neg (fun h' => h h'.1), mul_zero]
  · refine Finset.sum_congr rfl fun l _ => ?_
    refine (congrArg (x3 (ix3 0 k l) * ·) (qa_hi_aug n x0 x1 l Q)).trans ?_
    by_cases h : 32 * n.val + 16 ≤ l.val ∧ l.val < 32 * n.val + 16 + 16
    · rw [if_pos h, if_pos h]
    · rw [if_neg h, if_neg h, mul_zero]

/-- The packed lanes put the difference of the two running sums back together: the parts of a real number beyond its first are zero. -/
theorem packed_diff (x y : ℝ) : (∑ s : Fin 16, Ops.laneK (y : EReal) s * Ops.laneQ (x : EReal) s) = ((x - y : ℝ) : EReal) := by
  have hx : (x : EReal) - (x : EReal) = ((0 : ℝ) : EReal) := by rw [← EReal.coe_sub, sub_self]
  have hy : (y : EReal) - (y : EReal) = ((0 : ℝ) : EReal) := by rw [← EReal.coe_sub, sub_self]
  simp only [Fin.sum_univ_succ, Ops.laneK, Ops.laneQ, hx, hy]
  simp
  rw [← EReal.coe_neg, ← EReal.coe_add]
  rfl

/-- A score over real operands, in powers of two: the reference's score times the base-two logarithm of e. -/
theorem score_real (q k : Fin 64 → ℝ) (L cq ck : ℝ) :
    (∑ l, (k l : EReal) * ((q l : EReal) * ((L : EReal) * ((1 / 8 : ℝ) : EReal))))
        + (∑ s : Fin 16, Ops.laneK ((ck : EReal) * (L : EReal)) s * Ops.laneQ ((cq : EReal) * (L : EReal)) s)
      = ((((∑ l, q l * k l) * (1 / 8) + cq - ck) * L : ℝ) : EReal) := by
  rw [← EReal.coe_mul cq, ← EReal.coe_mul ck, packed_diff]
  have e : ∀ l, (k l : EReal) * ((q l : EReal) * ((L : EReal) * ((1 / 8 : ℝ) : EReal))) = ((q l * k l * (L * (1 / 8)) : ℝ) : EReal) := fun l => by
    rw [← EReal.coe_mul, ← EReal.coe_mul, ← EReal.coe_mul]
    congr 1
    ring
  simp only [e]
  rw [sum_coe, ← EReal.coe_add, ← Finset.sum_mul]
  congr 1
  ring

theorem score_ref (q k : Fin 64 → ℝ) (cq ck : ℝ) :
    ((∑ l, (q l : EReal) * (k l : EReal)) * ((1 / 8 : ℝ) : EReal) + (cq : EReal)) - (ck : EReal)
      = ((((∑ l, q l * k l) * (1 / 8) + cq - ck) : ℝ) : EReal) := by
  simp only [← EReal.coe_mul]
  rw [sum_coe, ← EReal.coe_mul, ← EReal.coe_add, ← EReal.coe_sub]

/-- The host's base-two logarithm of e. -/
theorem L2_eq : Ops.L2 = ((1 / Real.log 2 : ℝ) : EReal) := by
  unfold Ops.L2
  have h2 : Ideal.ofBits .f32 0x40000000#32 = ((2 : ℝ) : EReal) := by
    simp [Ideal.ofBits, Ideal.ieee]
    rw [← EReal.coe_mul]
    norm_num
  have h0 : Real.log 2 ≠ 0 := (Real.log_pos (by norm_num)).ne'
  rw [h2, Ideal.log_coe, if_neg (by norm_num), Ideal.div_coe h0, one_mul]

end Cert.AttnIdeal.Ker

end
-- ==== Proof.AttnRef.lean ====
/- The attention's reference read at one element: the softmax mean of the values, over the keys up to the query. -/
module

public import proofs.«01_k».proof.Proof.Gen.AttnRefIdeal.Value
public import Idealize.ShloMosaic.Lib.Pointwise
public import Idealize.ShloMosaic.Lib.WordCmp

@[expose] public section

set_option maxRecDepth 16384

noncomputable section

namespace Cert.AttnRefIdeal.Row

open Cert.AttnRefIdeal Cert.AttnRefIdeal.Gen Idealize.ShloMosaic Idealize.ShloMosaic.TcCoe Idealize.SL.Sem

/-- The scores of the reference for one head of one batch row, before the mask. -/
def Z (Q K : FVec Ideal S8x4096x512 .f32) (C : FVec Ideal S8x4096x8 .f32) (b : Fin 8) (h : Fin 8) (i j : Fin 4096) : EReal :=
  if j.val ≤ i.val then
    ((∑ l : Fin 64, Q (ix3 b i ⟨h.val * 64 + l.val, by omega⟩) * K (ix3 b j ⟨h.val * 64 + l.val, by omega⟩)) * (((1 / 8 : ℝ)) : EReal)
      + C (ix3 b i h)) - C (ix3 b j h)
  else ⊥

/-- The largest of a query's scores. -/
def M (Q K : FVec Ideal S8x4096x512 .f32) (C : FVec Ideal S8x4096x8 .f32) (b : Fin 8) (h : Fin 8) (i : Fin 4096) : EReal :=
  Finset.univ.fold max ⊥ fun j => Z Q K C b h i j

theorem mask_bot : Named.named (F := Ideal) (φ := .f32) κ "mask" 0xF149F2CA#32 = (⊥ : EReal) := rfl

theorem neg_inf : Ideal.ofBits .f32 0xFF800000#32 = ⊥ := by simp [Ideal.ofBits, Ideal.ieee]

theorem eighth : Ideal.ofBits .f32 0x3E000000#32 = ((1 / 8 : ℝ) : EReal) := by
  simp [Ideal.ofBits, Ideal.ieee]
  rw [← EReal.coe_mul]
  norm_num

theorem mask (i j : Fin 4096) (x : EReal) :
    Scalar.select (IntOp.cmpi CmpIPredicate.sge (BitVec.ofNat 32 i.val) (BitVec.ofNat 32 j.val)) x
      (Named.named (F := Ideal) (φ := .f32) κ "mask" 0xF149F2CA#32) = if j.val ≤ i.val then x else ⊥ := by
  have h : IntOp.cmpi CmpIPredicate.sge (BitVec.ofNat 32 i.val) (BitVec.ofNat 32 j.val)
      = if j.val ≤ i.val then 1#1 else 0#1 := by
    have hq := i.isLt
    have hy := j.isLt
    word_cmp
    by_cases hr : j.val ≤ i.val <;> simp [hr]
  rw [h, mask_bot]
  by_cases hr : j.val ≤ i.val
  · rw [if_pos hr, if_pos hr]; rfl
  · rw [if_neg hr, if_neg hr]; rfl

theorem G_at (Q K V : FVec Ideal S8x4096x512 .f32) (C : FVec Ideal S8x4096x8 .f32) (b : Fin 8) (i : Fin 4096) (h : Fin 8) (l : Fin 64) :
    Value.G4 (F := Ideal) Q K V C (ix3 b i (⟨h.val * 64 + l.val, by omega⟩ : Fin 512))
      = ∑ j : Fin 4096, Ideal.div (Ideal.exp (Z Q K C b h i j - M Q K C b h i)) (∑ j' : Fin 4096, Ideal.exp (Z Q K C b h i j' - M Q K C b h i))
          * V (ix3 b j ⟨h.val * 64 + l.val, by omega⟩) := by
  unfold Value.G4
  pointwise [k0_pay1, k0_pay2]
  have e1 : ∀ p, (⟨(b.val * 8 + h.val) / 8, p⟩ : Fin 8) = b := fun p => Fin.ext (by show (b.val * 8 + h.val) / 8 = b.val; omega)
  have e2 : (b.val * 8 + h.val) % 8 = h.val := by omega
  simp only [mask, neg_inf, eighth, e1, e2]
  rfl

end Cert.AttnRefIdeal.Row

end
-- ==== Proof.AttnFinal.lean ====
/- The attention call: the result array is the reference's, block by block. -/
module

public import proofs.«01_k».proof.Proof.AttnCaseA
public import proofs.«01_k».proof.Proof.AttnCaseB
public import proofs.«01_k».proof.Proof.AttnScore
public import proofs.«01_k».proof.Proof.AttnRef
public import Idealize.ShloMosaic.Lib.WholeRead

@[expose] public section

set_option maxRecDepth 16384

noncomputable section

namespace Cert.AttnIdeal.Ker

open Cert.AttnIdeal Cert.AttnIdeal.Gen Idealize.ShloMosaic Idealize.ShloMosaic.TcCoe Idealize.SL.Sem
open Idealize.ShloMosaic.Pipeline (Dat)
open Cert.AttnMath Cert.AttnIdeal.Ops

variable (m : (ℓ : Loc nD τ sig) → Buf (Elt Ideal) ℓ)

/-- The point's coordinates: the batch row, the pair of heads, the block of queries. -/
theorem pts : ∀ t : Fin cfg0.N, (grid0.coords t 0).val = t.val / 32 ∧ (grid0.coords t 1).val = t.val / 8 % 4 ∧ (grid0.coords t 2).val = t.val % 8 :=
  (by decide +kernel : ∀ t : Fin grid0.N, _)

/-- The windows' blocks. -/
theorem idx : ∀ t : Fin cfg0.N, win0_0.index t = ![t.val / 32, t.val % 8, t.val / 8 % 4] ∧ win0_1.index t = ![t.val / 32, t.val % 8, 0]
    ∧ win0_2.index t = ![t.val / 32, 0, t.val / 8 % 4] ∧ win0_3.index t = ![t.val / 32, 0, 0] ∧ win0_4.index t = ![t.val / 32, t.val / 8 % 4, 0]
    ∧ win0_5.index t = ![t.val / 32, t.val % 8, t.val / 8 % 4] :=
  (by decide +kernel : ∀ t : Fin grid0.N, _)

/-- A load of a whole block is the block. -/
theorem load_whole (arg : Memref sig .tc .vmem S1x512x128 .bf16) (h : arg.IsWhole) (x : Vec Ideal S1x512x128 .bf16)
    (inb : ∀ a, (![0, 0, 0] : Fin 3 → ℕ) a + S1x512x128.size a ≤ S1x512x128.size a) :
    arg.view.readAt (Elt Ideal) (Rect.unit (s := S1x512x128) ![0, 0, 0] S1x512x128.size inb).toLoadRect (h.unread x) = x := by
  funext y
  rw [Memref.IsWhole.readAt_unread]
  congr 1
  funext a
  apply Fin.ext
  fin_cases a <;> simp [LoadRect.idx, Rect.toLoadRect, Rect.unit]

theorem qaA_lo (c : Dev nD) (i : grid0.Coords) (arg3 : Memref sig .tc .vmem S1x512x128 .bf16) (harg3 : arg3.IsWhole) (arg4 : Memref sig .tc .vmem S1x512x128 .bf16) (harg4 : arg4.IsWhole)
    (x0 x1 : Vec Ideal S1x512x128 .bf16) : kernelRun0_A.sl.r_2 (F := Ideal) c i arg3 harg3 arg4 harg4 x0 x1 = k0_pay182 i x0 x1 := by
  unfold kernelRun0_A.sl.r_2
  rw [load_whole, load_whole]

theorem qaA_hi (c : Dev nD) (i : grid0.Coords) (arg3 : Memref sig .tc .vmem S1x512x128 .bf16) (harg3 : arg3.IsWhole) (arg4 : Memref sig .tc .vmem S1x512x128 .bf16) (harg4 : arg4.IsWhole)
    (x0 x1 : Vec Ideal S1x512x128 .bf16) : kernelRun0_A.sl.r_3 (F := Ideal) c i arg3 harg3 arg4 harg4 x0 x1
      = k0_pay186 (BitVec.ofNat 32 (i 1).val) (k0_pay180 x0) (k0_pay181 x1) (iota Kind.tc S512x128 32 [1] iota_S512x128_d1_w32) := by
  unfold kernelRun0_A.sl.r_3 kernelRun0_A.sl.r kernelRun0_A.sl.r_1
  rw [load_whole, load_whole]
  rfl

theorem qaB_lo (c : Dev nD) (i : grid0.Coords) (arg3 : Memref sig .tc .vmem S1x512x128 .bf16) (harg3 : arg3.IsWhole) (arg4 : Memref sig .tc .vmem S1x512x128 .bf16) (harg4 : arg4.IsWhole)
    (x0 x1 : Vec Ideal S1x512x128 .bf16) : kernelRun0_B.sl.r_2 (F := Ideal) c i arg3 harg3 arg4 harg4 x0 x1 = k0_pay182 i x0 x1 := by
  unfold kernelRun0_B.sl.r_2
  rw [load_whole, load_whole]

theorem qaB_hi (c : Dev nD) (i : grid0.Coords) (arg3 : Memref sig .tc .vmem S1x512x128 .bf16) (harg3 : arg3.IsWhole) (arg4 : Memref sig .tc .vmem S1x512x128 .bf16) (harg4 : arg4.IsWhole)
    (x0 x1 : Vec Ideal S1x512x128 .bf16) : kernelRun0_B.sl.r_3 (F := Ideal) c i arg3 harg3 arg4 harg4 x0 x1
      = k0_pay186 (BitVec.ofNat 32 (i 1).val) (k0_pay180 x0) (k0_pay181 x1) (iota Kind.tc S512x128 32 [1] iota_S512x128_d1_w32) := by
  unfold kernelRun0_B.sl.r_3 kernelRun0_B.sl.r kernelRun0_B.sl.r_1
  rw [load_whole, load_whole]
  rfl

/-! ## The blocks at a point -/

section Blocks

variable (c : Dev nD) (t : Fin cfg0.N) (b : Fin 8) (hb : b.val = t.val / 32)
include hb

theorem x0_at (Q : Fin 512) (l : Fin 128) (I : Fin 4096) (hI : I.val = t.val % 8 * 512 + Q.val) (X : Fin 512) (hX : X.val = t.val / 8 % 4 * 128 + l.val) :
    (show Vec Ideal S1x512x128 .bf16 from iblk m c 0 t) (ix3 0 Q l) = aQ m c (ix3 b I X) * (L2 * ((1 / 8 : ℝ) : EReal)) := by
  have e : (show Vec Ideal S1x512x128 .bf16 from iblk m c 0 t) (ix3 0 Q l) = (show FVec Ideal S8x4096x512 .bf16 from V m c main_v7) (ix3 b I X) := by
    blk_ext [iblk, idx t]
  rw [e, v7_at, Cert.AttnRefIdeal.Row.eighth]

theorem x1_at (Q : Fin 512) (l : Fin 128) (I : Fin 4096) (hI : I.val = t.val % 8 * 512 + Q.val) (h : Fin 8) (s : Fin 16) (hl : l.val = h.val * 16 + s.val) :
    (show Vec Ideal S1x512x128 .bf16 from iblk m c 1 t) (ix3 0 Q l) = laneQ (aC m c (ix3 b I h) * L2) s := by
  have e : (show Vec Ideal S1x512x128 .bf16 from iblk m c 1 t) (ix3 0 Q l)
      = (show FVec Ideal S8x4096x128 .bf16 from V m c main_v44) (ix3 b I (⟨h.val * 16 + s.val, by omega⟩ : Fin 128)) := by
    blk_ext [iblk, idx t]
  rw [e, v44_at]

theorem x2_at (k : Fin 4096) (l : Fin 128) (X : Fin 512) (hX : X.val = t.val / 8 % 4 * 128 + l.val) :
    (show Vec Ideal S1x4096x128 .bf16 from iblk m c 2 t) (ix3 0 k l) = aK m c (ix3 b k X) := by
  have e : (show Vec Ideal S1x4096x128 .bf16 from iblk m c 2 t) (ix3 0 k l) = (show FVec Ideal S8x4096x512 .bf16 from V m c main_v8) (ix3 b k X) := by
    blk_ext [iblk, idx t]
  rw [e, v8_at]

theorem x3_at (k : Fin 4096) (l : Fin 128) (h : Fin 8) (s : Fin 16) (hl : l.val = h.val * 16 + s.val) :
    (show Vec Ideal S1x4096x128 .bf16 from iblk m c 3 t) (ix3 0 k l) = laneK (aC m c (ix3 b k h) * L2) s := by
  have e : (show Vec Ideal S1x4096x128 .bf16 from iblk m c 3 t) (ix3 0 k l)
      = (show FVec Ideal S8x4096x128 .bf16 from V m c main_v66) (ix3 b k (⟨h.val * 16 + s.val, by omega⟩ : Fin 128)) := by
    blk_ext [iblk, idx t]
  rw [e, v66_at]

theorem x4_at (r : Fin 128) (k : Fin 4096) (X : Fin 512) (hX : X.val = t.val / 8 % 4 * 128 + r.val) :
    (show Vec Ideal S1x128x4096 .bf16 from iblk m c 4 t) (ix3 0 r k) = aV m c (ix3 b k X) := by
  have e : (show Vec Ideal S1x128x4096 .bf16 from iblk m c 4 t) (ix3 0 r k) = (show FVec Ideal S8x512x4096 .bf16 from V m c main_v10) (ix3 b X k) := by
    blk_ext [iblk, idx t]
  rw [e, v10_at]

end Blocks

/-! ## The scores, over real arguments -/

/-- The score of the reference over real arguments, before the mask. -/
def zr (qr kr : S8x4096x512.Idx → ℝ) (cr : S8x4096x8.Idx → ℝ) (b h : Fin 8) (I k : Fin 4096) : ℝ :=
  (∑ l : Fin 64, qr (ix3 b I (⟨h.val * 64 + l.val, by omega⟩ : Fin 512)) * kr (ix3 b k (⟨h.val * 64 + l.val, by omega⟩ : Fin 512))) * (1 / 8) + cr (ix3 b I h) - cr (ix3 b k h)

theorem Z_real {Qa Ka : FVec Ideal S8x4096x512 .f32} {Ca : FVec Ideal S8x4096x8 .f32} {qr kr : S8x4096x512.Idx → ℝ} {cr : S8x4096x8.Idx → ℝ}
    (hq : ∀ i, Qa i = (qr i : EReal)) (hk : ∀ i, Ka i = (kr i : EReal)) (hc : ∀ i, Ca i = (cr i : EReal)) (b h : Fin 8) (I k : Fin 4096) :
    Cert.AttnRefIdeal.Row.Z Qa Ka Ca b h I k = if k.val ≤ I.val then ((zr qr kr cr b h I k : ℝ) : EReal) else ⊥ := by
  unfold Cert.AttnRefIdeal.Row.Z zr
  congr 1
  rw [← score_ref]
  simp only [hq, hk, hc]

/-- The largest of finitely many scores, one of them real, is real. -/
theorem max_real {n : ℕ} (z : Fin n → EReal) (hz : ∀ k, Sc (z k)) (k0 : Fin n) (h0 : ∃ x : ℝ, z k0 = x) :
    ∃ M : ℝ, Finset.univ.fold max ⊥ (fun k => z k) = (M : EReal) := by
  obtain ⟨x, hx⟩ := h0
  have hlo : (x : EReal) ≤ Finset.univ.fold max ⊥ (fun k => z k) :=
    (Finset.le_fold_max _).mpr (Or.inr ⟨k0, Finset.mem_univ _, hx.ge⟩)
  have hhi : Finset.univ.fold max ⊥ (fun k => z k) < ⊤ := by
    refine (Finset.fold_max_lt _).mpr ⟨bot_lt_top, fun k _ => ?_⟩
    rcases hz k with h | ⟨r, h⟩
    · rw [h]; exact bot_lt_top
    · rw [h]; exact EReal.coe_lt_top r
  have hne : Finset.univ.fold max ⊥ (fun k => z k) ≠ ⊥ := fun h => by
    rw [h] at hlo
    exact absurd (le_bot_iff.mp hlo) (EReal.coe_ne_bot x)
  exact ⟨_, (EReal.coe_toReal hhi.ne hne).symm⟩

section Point

variable (c : Dev nD) (t : Fin cfg0.N) (b : Fin 8) (hb : b.val = t.val / 32)
  {qr kr : S8x4096x512.Idx → ℝ} {cr : S8x4096x8.Idx → ℝ}
  (hq : ∀ i, aQ m c i = (qr i : EReal)) (hk : ∀ i, aK m c i = (kr i : EReal)) (hc : ∀ i, aC m c i = (cr i : EReal))
include hb hq hk hc

theorem raw0 (h : Fin 8) (hh : h.val = 2 * (t.val / 8 % 4)) (Q : Fin 512) (I : Fin 4096) (hI : I.val = t.val % 8 * 512 + Q.val) (k : Fin 4096) :
    raw (iblk m c 2 t) (iblk m c 3 t) (k0_pay182 (F := Ideal) (grid0.coords t) (iblk m c 0 t) (iblk m c 1 t)) Q k
      = ((zr qr kr cr b h I k * (1 / Real.log 2) : ℝ) : EReal) := by
  have hi1 := (pts t).2.1
  rw [raw_lo, zr, ← score_real, ← L2_eq]
  refine congrArg₂ (· + ·) (Finset.sum_congr rfl fun l _ => ?_) (Finset.sum_congr rfl fun s _ => ?_)
  · rw [← hk, ← hq]
    exact congrArg₂ (· * ·) (x2_at m c t b hb k _ _ (by show h.val * 64 + l.val = _ ; simp only; omega))
      (x0_at m c t b hb Q _ I hI _ (by show h.val * 64 + l.val = _ ; simp only; omega))
  · rw [← hc, ← hc]
    exact congrArg₂ (· * ·) (x3_at m c t b hb k _ h s (by simp only; omega)) (x1_at m c t b hb Q _ I hI h s (by simp only; omega))

theorem raw1 (h : Fin 8) (hh : h.val = 2 * (t.val / 8 % 4) + 1) (Q : Fin 512) (I : Fin 4096) (hI : I.val = t.val % 8 * 512 + Q.val) (k : Fin 4096) :
    raw (iblk m c 2 t) (iblk m c 3 t) (k0_pay186 (F := Ideal) (BitVec.ofNat 32 (grid0.coords t 1).val) (k0_pay180 (iblk m c 0 t)) (k0_pay181 (iblk m c 1 t))
        (iota Kind.tc S512x128 32 [1] iota_S512x128_d1_w32)) Q k
      = ((zr qr kr cr b h I k * (1 / Real.log 2) : ℝ) : EReal) := by
  have hi1 := (pts t).2.1
  refine (raw_hi ⟨(grid0.coords t 1).val, (grid0.coords t 1).isLt⟩ _ _ _ _ Q k).trans ?_
  rw [zr, ← score_real, ← L2_eq]
  refine congrArg₂ (· + ·) (Finset.sum_congr rfl fun l _ => ?_) (Finset.sum_congr rfl fun s _ => ?_)
  · rw [← hk, ← hq]
    exact congrArg₂ (· * ·) (x2_at m c t b hb k _ _ (by show h.val * 64 + l.val = _ ; simp only; omega))
      (x0_at m c t b hb Q _ I hI _ (by show h.val * 64 + l.val = _ ; simp only; omega))
  · rw [← hc, ← hc]
    exact congrArg₂ (· * ·) (x3_at m c t b hb k _ h s (by simp only; omega)) (x1_at m c t b hb Q _ I hI h s (by simp only; omega))

/-- One row of the point's result, for one head: the reference's row. -/
theorem row (qa : FVec Ideal S256x512 .bf16) (h : Fin 8) (Q : Fin 512) (I : Fin 4096) (hI : I.val = t.val % 8 * 512 + Q.val)
    (hraw : ∀ k, raw (iblk m c 2 t) (iblk m c 3 t) qa Q k = ((zr qr kr cr b h I k * (1 / Real.log 2) : ℝ) : EReal))
    (r : Fin 128) (l : Fin 64) (hX : h.val * 64 + l.val = t.val / 8 % 4 * 128 + r.val) (M : ℝ) :
    Ideal.div (∑ k : Fin 4096, Ideal.exp2 (sc (iblk m c 2 t) (iblk m c 3 t) qa (t.val % 8) Q k.val - M) * (show Vec Ideal S1x128x4096 .bf16 from iblk m c 4 t) (ix3 0 r k))
        (∑ k : Fin 4096, Ideal.exp2 (sc (iblk m c 2 t) (iblk m c 3 t) qa (t.val % 8) Q k.val - M) * 1)
      = Cert.AttnRefIdeal.Value.G4 (F := Ideal) (aQ m c) (aK m c) (aV m c) (aC m c) (ix3 b I (⟨h.val * 64 + l.val, by omega⟩ : Fin 512)) := by
  have hs : ∀ k : Fin 4096, sc (iblk m c 2 t) (iblk m c 3 t) qa (t.val % 8) Q k.val
      = Cert.AttnRefIdeal.Row.Z (aQ m c) (aK m c) (aC m c) b h I k * ((1 / Real.log 2 : ℝ) : EReal) := fun k => by
    rw [Z_real hq hk hc, sc, dif_pos k.isLt]
    by_cases hle : k.val ≤ I.val
    · rw [if_pos hle, if_pos (by omega), hraw, EReal.coe_mul]
    · rw [if_neg hle, if_neg (by omega), scaled_bot]
  have hz : ∀ k, Sc (Cert.AttnRefIdeal.Row.Z (aQ m c) (aK m c) (aC m c) b h I k) := fun k => by
    rw [Z_real hq hk hc]
    by_cases hle : k.val ≤ I.val
    · rw [if_pos hle]; exact Or.inr ⟨_, rfl⟩
    · rw [if_neg hle]; exact Or.inl rfl
  have h0 : ∃ x : ℝ, Cert.AttnRefIdeal.Row.Z (aQ m c) (aK m c) (aC m c) b h I I = x := ⟨_, by rw [Z_real hq hk hc, if_pos le_rfl]⟩
  obtain ⟨Mx, hM⟩ := max_real _ hz I h0
  rw [Cert.AttnRefIdeal.Row.G_at]
  unfold Cert.AttnRefIdeal.Row.M
  rw [hM, ← softmax_eq _ hz I h0 M Mx]
  simp only [hs, x4_at m c t b hb r _ (⟨h.val * 64 + l.val, by omega⟩ : Fin 512) hX]

/-- The point's whole result. -/
theorem of_done (out : Vec Ideal S1x512x128 .bf16)
    (D : Done (iblk m c 2 t) (iblk m c 3 t) (iblk m c 4 t) (k0_pay182 (F := Ideal) (grid0.coords t) (iblk m c 0 t) (iblk m c 1 t))
      (k0_pay186 (F := Ideal) (BitVec.ofNat 32 (grid0.coords t 1).val) (k0_pay180 (iblk m c 0 t)) (k0_pay181 (iblk m c 1 t))
        (iota Kind.tc S512x128 32 [1] iota_S512x128_d1_w32)) (grid0.coords t 2).val out)
    (Q : Fin 512) (r : Fin 128) (I : Fin 4096) (hI : I.val = t.val % 8 * 512 + Q.val) (X : Fin 512) (hX : X.val = t.val / 8 % 4 * 128 + r.val) :
    out (ix3 0 Q r) = Cert.AttnRefIdeal.Value.G4 (F := Ideal) (aQ m c) (aK m c) (aV m c) (aC m c) (ix3 b I X) := by
  obtain ⟨M, e⟩ := D Q r
  rw [e, (pts t).2.2]
  by_cases hr : r.val < 64
  · rw [if_pos hr]
    have hh : 2 * (t.val / 8 % 4) < 8 := by omega
    have hx : (⟨(⟨2 * (t.val / 8 % 4), hh⟩ : Fin 8).val * 64 + (⟨r.val, hr⟩ : Fin 64).val, by simp only; omega⟩ : Fin 512) = X :=
      Fin.ext (by simp only; omega)
    rw [← hx]
    exact row m c t b hb hq hk hc _ ⟨2 * (t.val / 8 % 4), hh⟩ Q I hI (fun k => raw0 m c t b hb hq hk hc _ rfl Q I hI k) r ⟨r.val, hr⟩ (by simp only; omega) M
  · rw [if_neg hr]
    have hh : 2 * (t.val / 8 % 4) + 1 < 8 := by omega
    have hr' : r.val - 64 < 64 := by omega
    have hx : (⟨(⟨2 * (t.val / 8 % 4) + 1, hh⟩ : Fin 8).val * 64 + (⟨r.val - 64, hr'⟩ : Fin 64).val, by simp only; omega⟩ : Fin 512) = X :=
      Fin.ext (by simp only; omega)
    rw [← hx]
    exact row m c t b hb hq hk hc _ ⟨2 * (t.val / 8 % 4) + 1, hh⟩ Q I hI (fun k => raw1 m c t b hb hq hk hc _ rfl Q I hI k) r ⟨r.val - 64, hr'⟩ (by simp only; omega) M

theorem point (Q : Fin 512) (r : Fin 128) (I : Fin 4096) (hI : I.val = t.val % 8 * 512 + Q.val) (X : Fin 512) (hX : X.val = t.val / 8 % 4 * 128 + r.val) :
    (show Vec Ideal S1x512x128 .bf16 from outsAt0 m c t.val t.isLt) (ix3 0 Q r)
      = Cert.AttnRefIdeal.Value.G4 (F := Ideal) (aQ m c) (aK m c) (aV m c) (aC m c) (ix3 b I X) := by
  have hN : t.val < 256 := lt_of_lt_of_eq t.isLt (show cfg0.N = 256 from N_0)
  have r0 : ∀ Q k, ∃ x : ℝ, raw (iblk m c 2 t) (iblk m c 3 t) (k0_pay182 (F := Ideal) (grid0.coords t) (iblk m c 0 t) (iblk m c 1 t)) Q k = x := fun Q k =>
    ⟨_, raw0 m c t b hb hq hk hc ⟨2 * (t.val / 8 % 4), by omega⟩ rfl Q ⟨t.val % 8 * 512 + Q.val, by omega⟩ rfl k⟩
  have r1 : ∀ Q k, ∃ x : ℝ, raw (iblk m c 2 t) (iblk m c 3 t) (k0_pay186 (F := Ideal) (BitVec.ofNat 32 (grid0.coords t 1).val) (k0_pay180 (iblk m c 0 t)) (k0_pay181 (iblk m c 1 t))
        (iota Kind.tc S512x128 32 [1] iota_S512x128_d1_w32)) Q k = x := fun Q k =>
    ⟨_, raw1 m c t b hb hq hk hc ⟨2 * (t.val / 8 % 4) + 1, by omega⟩ rfl Q ⟨t.val % 8 * 512 + Q.val, by omega⟩ rfl k⟩
  by_cases hp : t.val % 2 = 0
  · have hp' : ¬t.val % 2 = 1 := by omega
    rw [outsAt0_A m c t hp' hp]
    have D := caseA c (grid0.coords t) (ms0_0 t) (hs0_0 t) (ms0_1 t) (hs0_1 t) (ms0_2 t) (hs0_2 t) (ms0_3 t) (hs0_3 t) (ms0_4 t) (hs0_4 t) (ms0_5 t) (hs0_5 t)
      scM0_0 (Memref.isWhole_whole _) scM0_1 (Memref.isWhole_whole _) (fun h => hp' ((hcond0_0 t).mp h)) ((hcond0_1 t).mpr hp)
      (iblk m c 0 t) (iblk m c 1 t) (iblk m c 2 t) (iblk m c 3 t) (iblk m c 4 t)
      (by rw [qaA_lo]; exact r0) (by rw [qaA_hi]; exact r1)
    rw [qaA_lo, qaA_hi] at D
    exact of_done m c t b hb hq hk hc _ D Q r I hI X hX
  · have hp' : t.val % 2 = 1 := by omega
    rw [outsAt0_B m c t hp' hp]
    have D := caseB c (grid0.coords t) (ms0_0 t) (hs0_0 t) (ms0_1 t) (hs0_1 t) (ms0_2 t) (hs0_2 t) (ms0_3 t) (hs0_3 t) (ms0_4 t) (hs0_4 t) (ms0_5 t) (hs0_5 t)
      scM0_0 (Memref.isWhole_whole _) scM0_1 (Memref.isWhole_whole _) ((hcond0_0 t).mpr hp') (fun h => hp ((hcond0_1 t).mp h))
      (iblk m c 0 t) (iblk m c 1 t) (iblk m c 2 t) (iblk m c 3 t) (iblk m c 4 t)
      (by rw [qaB_lo]; exact r0) (by rw [qaB_hi]; exact r1)
    rw [qaB_lo, qaB_hi] at D
    exact of_done m c t b hb hq hk hc _ D Q r I hI X hX

end Point

/-- The result array after the run is the reference's term over the argument arrays. -/
theorem final (c : Dev nD) {qr kr : S8x4096x512.Idx → ℝ} {cr : S8x4096x8.Idx → ℝ}
    (hq : ∀ i, aQ m c i = (qr i : EReal)) (hk : ∀ i, aK m c i = (kr i : EReal)) (hc : ∀ i, aC m c i = (cr i : EReal)) :
    (dats m 0 c).arrAt 5 (cfgs 0).N
      = Cert.AttnRefIdeal.Value.G4 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 5 _ (by decide +kernel) fun t hf y => ?_
  have hN : t.val < 256 := lt_of_lt_of_eq t.isLt (show cfg0.N = 256 from N_0)
  blk_simp
  rw [after0_5]
  idx_vars y
  have e : ((cfg0.win 5).blk t).view.emb (ix3 y0 y1 y2) = ix3 (⟨t.val / 32, by omega⟩ : Fin 8)
      (⟨t.val % 8 * 512 + (y1 : ℕ), by have := y1.isLt; omega⟩ : Fin 4096) (⟨t.val / 8 % 4 * 128 + (y2 : ℕ), by have := y2.isLt; omega⟩ : Fin 512) := by
    blk_ext [idx t]
  obtain rfl : y0 = 0 := Subsingleton.elim _ _
  refine (point m c t ⟨t.val / 32, by omega⟩ rfl hq hk hc y1 y2 ⟨t.val % 8 * 512 + (y1 : ℕ), by have := y1.isLt; omega⟩ rfl
    ⟨t.val / 8 % 4 * 128 + (y2 : ℕ), by have := y2.isLt; omega⟩ rfl).trans ?_
  exact congrArg (Cert.AttnRefIdeal.Value.G4 (F := Ideal) _ _ _ _) e.symm

end Cert.AttnIdeal.Ker

end
-- ==== Proof.AttnFinite.lean ====
/- The attention's precondition: queries, keys and running sums are real numbers. -/
module

public import proofs.«01_k».proof.Pre_finite
public import Idealize.ShloMosaic.Lib.Pointwise
public import Idealize.ShloMosaic.Lib.ReduceAll

@[expose] public section

set_option maxRecDepth 16384

noncomputable section

namespace Cert.Pre_finite

open Idealize.ShloMosaic

theorem inf_word : Ideal.ofBits .f32 0x7F800000#32 = ⊤ := by simp [Ideal.ofBits, Ideal.ieee]

/-- A number whose absolute value is below infinity is real. -/
theorem real_of_abs (x : EReal) (h : Ideal.cmp .olt (max x (-x)) (Ideal.ofBits .f32 0x7F800000#32) = 1#1) : ∃ r : ℝ, x = r := by
  rw [inf_word] at h
  induction x using EReal.rec with
  | bot => simp [Ideal.cmp] at h
  | top => simp [Ideal.cmp] at h
  | coe r => exact ⟨r, rfl⟩

theorem both (a b : BitVec 1) (h : IntOp.andi a b = 1#1) : a = 1#1 ∧ b = 1#1 := by
  revert a b
  decide

instance : Subsingleton S_.Idx := ⟨fun a b => funext fun k => k.elim0⟩

variable [Facts]

theorem reals (a0 a1 a2 : FVec Ideal S8x4096x512 .f32) (a3 : FVec Ideal S8x4096x8 .f32) (h : fn (F := Ideal) a0 a1 a2 a3 = fun _ => 1#1) :
    (∀ i, ∃ r : ℝ, a0 i = r) ∧ (∀ i, ∃ r : ℝ, a1 i = r) ∧ (∀ i, ∃ r : ℝ, a3 i = r) := by
  have e := congrFun h (fun k => k.elim0)
  unfold fn at e
  obtain ⟨e01, e3⟩ := both _ _ e
  obtain ⟨e0, e1⟩ := both _ _ e01
  refine ⟨fun i => real_of_abs _ ?_, fun i => real_of_abs _ ?_, fun i => real_of_abs _ ?_⟩
  · exact Host.reduce_andi_all _ _ _ _ _ e0 i
  · exact Host.reduce_andi_all _ _ _ _ _ e1 i
  · exact Host.reduce_andi_all _ _ _ _ _ e3 i

end Cert.Pre_finite

end
-- ==== Proof.lean ====
/- The claims about the block's calls, assembled from the generated frames and the value modules beside this file. -/
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import Idealize.ShloMosaic.Adequacy
public import Idealize.ShloMosaic.Init
public import proofs.«01_k».proof.Proof.FfnFinal
public import proofs.«01_k».proof.Proof.OutFinal
public import proofs.«01_k».proof.Proof.AttnFinal
public import proofs.«01_k».proof.Proof.AttnFinite
public import proofs.«01_k».proof.Proof.Gen.AttnIdeal.Value
public import proofs.«01_k».proof.Proof.Gen.FfnIdeal.Value
public import proofs.«01_k».proof.Proof.Gen.OutIdeal.Value
public import proofs.«01_k».proof.Proof.Gen.AttnRefIdeal.Value
public import proofs.«01_k».proof.Proof.Gen.FfnRefIdeal.Run
public import proofs.«01_k».proof.Proof.Gen.OutRefIdeal.Run

@[expose] public section

noncomputable section

namespace Cert.Proof

open Idealize.ShloMosaic Idealize.SL.Sem

theorem frame_attnRef : Cert.quiescent_AttnRefIdeal := fun m ρ _ => Cert.AttnRefIdeal.Gen.frame m ρ

theorem frame_ffnRef : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run m ρ)

theorem frame_outRef : Cert.quiescent_OutRefIdeal := fun m ρ _ =>
  (θ_run Cert.OutRefIdeal.defs _ _).mono (fun r h => ⟨fun c => (h c).2, sem_eq_zero_of_no_sems (by decide) r.2⟩)
    (Cert.OutRefIdeal.Value.run m ρ)

/-- The side conditions of the precondition's own operations. -/
theorem preFacts : Cert.Pre_finite.Facts := ⟨by decide, by decide, by decide, by decide, by decide⟩

/-- The attention call computes the reference's function where queries, keys and running sums are finite. -/
theorem value_attn : Cert.algebraic_AttnIdeal_AttnRefIdeal_pre_finite (hPre_finite := preFacts) := by
  have _ := preFacts
  pair_intro
  · run_from Cert.AttnIdeal.Value.run_blocks m g
  · run_from Cert.AttnRefIdeal.Value.run m' g'
    obtain ⟨hq, hk, hc⟩ := Cert.Pre_finite.reals _ _ _ _ (hpre c)
    choose qr hq using hq
    choose kr hk using hk
    choose cr hc using hc
    exact (Cert.AttnIdeal.Ker.final m c hq hk hc).symm

/-- The feed-forward call computes the reference's function. -/
theorem value_ffn : Cert.algebraic_FfnIdeal_FfnRefIdeal := by
  pair_intro
  · run_from Cert.FfnIdeal.Value.run_blocks m g
  · run_from Cert.FfnRefIdeal.Value.run m' g'
    refine (Cert.FfnRefIdeal.Row.res_eq m' c).trans ?_
    rw [(hagree c).1, (hagree c).2.1,
      (hagree c).2.2.1, (hagree c).2.2.2.1, (hagree c).2.2.2.2.1, (hagree c).2.2.2.2.2]
    exact (Cert.FfnIdeal.Ker.final m c).symm

/-- The output-projection call computes the reference's function. -/
theorem value_out : Cert.algebraic_OutIdeal_OutRefIdeal := by
  pair_intro
  · run_from Cert.OutIdeal.Value.run_blocks m g
  · run_from Cert.OutRefIdeal.Value.run m' g'
    refine (Cert.OutRefIdeal.Row.res_eq m' c).trans ?_
    rw [(hagree c).1, (hagree c).2.1,
      (hagree c).2.2.1, (hagree c).2.2.2.1, (hagree c).2.2.2.2.1, (hagree c).2.2.2.2.2]
    exact (Cert.OutIdeal.Ker.final m c).symm

theorem claim : Cert.Claim := by
  refine ⟨Cert.Attn.Gen.facts, Cert.AttnIdeal.Gen.facts, Cert.AttnRefIdeal.Gen.facts, Cert.Ffn.Gen.facts, Cert.FfnIdeal.Gen.facts,
    Cert.FfnRefIdeal.Gen.facts, Cert.Out.Gen.facts, Cert.OutIdeal.Gen.facts, Cert.OutRefIdeal.Gen.facts, preFacts, ?_⟩
  refine ⟨fun m ρ _ => Cert.Attn.Gen.frame m ρ, fun m ρ _ => Cert.AttnIdeal.Gen.frame m ρ, fun m ρ _ => Cert.AttnIdeal.Gen.frame m ρ,
    frame_attnRef, fun m ρ _ => Cert.AttnRefIdeal.Gen.frame m ρ,
    fun m ρ _ => Cert.Ffn.Gen.frame m ρ, fun m ρ _ => Cert.FfnIdeal.Gen.frame m ρ, frame_ffnRef,
    fun m ρ _ => Cert.Out.Gen.frame m ρ, fun m ρ _ => Cert.OutIdeal.Gen.frame m ρ, frame_outRef,
    IdealRules.named_const.statement Cert.AttnIdeal.κ "mask" .f32 0xF149F2CA#32 ⊥ rfl,
    value_attn, trivial, value_ffn, trivial, value_out⟩

end Cert.Proof

end
